-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_logits [hPre_real_logits : Cert.Pre_real_logits.Facts] (m : (ℓ : Loc Cert.KernelIdeal.nD Cert.KernelIdeal.τ Cert.KernelIdeal.sig) → Buf (Elt Ideal) ℓ) : Prop :=
  ∀ c : Dev Cert.KernelIdeal.nD,
    (Cert.Pre_real_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_real_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_real_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_logits [hPre_real_logits : Cert.Pre_real_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_real_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_real_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_real_logits [hKernelIdeal : Cert.KernelIdeal.Facts] [hPre_real_logits : Cert.Pre_real_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_real_logits [hReferenceIdeal : Cert.ReferenceIdeal.Facts] [hPre_real_logits : Cert.Pre_real_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_real_logits [hKernelIdeal : Cert.KernelIdeal.Facts] [hReferenceIdeal : Cert.ReferenceIdeal.Facts] [hPre_real_logits : Cert.Pre_real_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v59)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v59) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_real_logits : Cert.Pre_real_logits.Facts),
    quiescent_Kernel (hKernel := hKernel)
    ∧ quiescent_KernelIdeal (hKernelIdeal := hKernelIdeal)
    ∧ quiescent_KernelIdeal_pre_real_logits (hKernelIdeal := hKernelIdeal) (hPre_real_logits := hPre_real_logits)
    ∧ quiescent_ReferenceIdeal (hReferenceIdeal := hReferenceIdeal)
    ∧ quiescent_ReferenceIdeal_pre_real_logits (hReferenceIdeal := hReferenceIdeal) (hPre_real_logits := hPre_real_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_real_logits (hKernelIdeal := hKernelIdeal) (hReferenceIdeal := hReferenceIdeal) (hPre_real_logits := hPre_real_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_real_logits.lean ====
abbrev S2x8192x8x192 : Shape := ⟨4, ![2, 8192, 8, 192]⟩
abbrev S2x8192x8x128 : Shape := ⟨4, ![2, 8192, 8, 128]⟩
abbrev S_ : Shape := ⟨0, ![]⟩

class Facts : Prop where
  bcast_S_S2x8192x8x192 : S_.BroadcastsInDim S2x8192x8x192 (![] : Fin 0 → Fin S2x8192x8x192.rank)

variable [Facts]

def fn {F : FTy → Type} [FloatOps F] (main_arg0 : FVec F S2x8192x8x192 .f32) (main_arg1 : FVec F S2x8192x8x192 .f32) (main_arg2 : FVec F S2x8192x8x128 .f32) : IVec S2x8192x8x192 1 × IVec S2x8192x8x192 1 × IVec S2x8192x8x128 1 :=
  let main_v0 : FVec F S2x8192x8x192 .f32 := Host.absf main_arg0
  let main_cst : FVec F S_ .f32 := constant S_ .f32 0x7F800000#32
  let main_v1 : FVec F S2x8192x8x192 .f32 := broadcastInDim S2x8192x8x192 ![] bcast_S_S2x8192x8x192 main_cst
  let main_v2 : IVec S2x8192x8x192 1 := cmpf .olt main_v0 main_v1
  let main_v3 : FVec F S2x8192x8x192 .f32 := Host.absf main_arg1
  let main_cst_0 : FVec F S_ .f32 := constant S_ .f32 0x7F800000#32
  let main_v4 : FVec F S2x8192x8x192 .f32 := broadcastInDim S2x8192x8x192 ![] bcast_S_S2x8192x8x192 main_cst_0
  let main_v5 : IVec S2x8192x8x192 1 := cmpf .olt main_v3 main_v4
  let main_v6 : IVec S2x8192x8x128 1 := cmpf .oeq main_arg2 main_arg2
  (main_v2, main_v5, main_v6)
-- ==== Kernel.lean ====
abbrev S2x8192x8x192 : Shape := ⟨4, ![2, 8192, 8, 192]⟩
abbrev S2x8192x8x128 : Shape := ⟨4, ![2, 8192, 8, 128]⟩
abbrev S_ : Shape := ⟨0, ![]⟩
abbrev S16384x1024 : Shape := ⟨2, ![16384, 1024]⟩
abbrev S2x8192x8x64 : Shape := ⟨4, ![2, 8192, 8, 64]⟩
abbrev S16384x512 : Shape := ⟨2, ![16384, 512]⟩
abbrev S512x256 : Shape := ⟨2, ![512, 256]⟩
abbrev S512x128 : Shape := ⟨2, ![512, 128]⟩
abbrev S8192x256 : Shape := ⟨2, ![8192, 256]⟩
abbrev S8192x128 : Shape := ⟨2, ![8192, 128]⟩
abbrev S2x512x128 : Shape := ⟨3, ![2, 512, 128]⟩
abbrev S512x512 : Shape := ⟨2, ![512, 512]⟩
abbrev S1x512x128 : Shape := ⟨3, ![1, 512, 128]⟩
abbrev S512 : Shape := ⟨1, ![512]⟩
abbrev S512x1 : Shape := ⟨2, ![512, 1]⟩

abbrev nBuf : Space → Nat
  | .hbm => 25
  | .vmem => 15
  | .smem => 0
  | _ => 0

abbrev bufTy : (tb : Table) → Fin (tcTables nBuf tb) → BufTy
  | .hbm, ⟨0, _⟩ => ⟨S2x8192x8x192, .f32⟩
  | .hbm, ⟨1, _⟩ => ⟨S2x8192x8x192, .f32⟩
  | .hbm, ⟨2, _⟩ => ⟨S2x8192x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x8192x8x192, .f32⟩
  | .hbm, ⟨9, _⟩ => ⟨S2x8192x8x192, .f32⟩
  | .hbm, ⟨10, _⟩ => ⟨S2x8192x8x128, .f32⟩
  | .hbm, ⟨11, _⟩ => ⟨S16384x1024, .f32⟩
  | .hbm, ⟨12, _⟩ => ⟨S16384x1024, .bf16⟩
  | .hbm, ⟨13, _⟩ => ⟨S2x8192x8x64, .f32⟩
  | .hbm, ⟨14, _⟩ => ⟨S16384x512, .f32⟩
  | .hbm, ⟨15, _⟩ => ⟨S16384x512, .bf16⟩
  | .hbm, ⟨16, _⟩ => ⟨S2x8192x8x128, .f32⟩
  | .hbm, ⟨17, _⟩ => ⟨S16384x1024, .f32⟩
  | .hbm, ⟨18, _⟩ => ⟨S16384x1024, .bf16⟩
  | .hbm, ⟨19, _⟩ => ⟨S2x8192x8x64, .f32⟩
  | .hbm, ⟨20, _⟩ => ⟨S16384x512, .f32⟩
  | .hbm, ⟨21, _⟩ => ⟨S16384x512, .bf16⟩
  | .hbm, ⟨22, _⟩ => ⟨S16384x1024, .f32⟩
  | .hbm, ⟨23, _⟩ => ⟨S16384x1024, .bf16⟩
  | .hbm, ⟨24, _⟩ => ⟨S16384x1024, .f32⟩
  | .local _ .vmem, ⟨0, _⟩ => ⟨S512x256, .bf16⟩
  | .local _ .vmem, ⟨1, _⟩ => ⟨S512x256, .bf16⟩
  | .local _ .vmem, ⟨2, _⟩ => ⟨S512x128, .bf16⟩
  | .local _ .vmem, ⟨3, _⟩ => ⟨S512x128, .bf16⟩
  | .local _ .vmem, ⟨4, _⟩ => ⟨S8192x256, .bf16⟩
  | .local _ .vmem, ⟨5, _⟩ => ⟨S8192x256, .bf16⟩
  | .local _ .vmem, ⟨6, _⟩ => ⟨S8192x128, .bf16⟩
  | .local _ .vmem, ⟨7, _⟩ => ⟨S8192x128, .bf16⟩
  | .local _ .vmem, ⟨8, _⟩ => ⟨S8192x256, .bf16⟩
  | .local _ .vmem, ⟨9, _⟩ => ⟨S8192x256, .bf16⟩
  | .local _ .vmem, ⟨10, _⟩ => ⟨S512x256, .f32⟩
  | .local _ .vmem, ⟨11, _⟩ => ⟨S512x256, .f32⟩
  | .local _ .vmem, ⟨12, _⟩ => ⟨S2x512x128, .f32⟩
  | .local _ .vmem, ⟨13, _⟩ => ⟨S2x512x128, .f32⟩
  | .local _ .vmem, ⟨14, _⟩ => ⟨S2x512x128, .f32⟩
  | _, _ => ⟨S2x8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32_31 : BitVec 32 := 0#32
  let arg2 : BitVec 32 := BitVec.ofNat 32 (i 2).val
  let v77 : BitVec 32 := Scalar.subi arg2 c0_i32_31
  let c1_i32_32 : BitVec 32 := 1#32
  let v79 : BitVec 32 := Scalar.divsi v77 c1_i32_32
  let v80 : BitVec 32 := Scalar.muli v79 c1_i32_32
  let v81 : BitVec 32 := Scalar.addi c0_i32_31 v80
  let c1_i32_33 : BitVec 32 := 1#32
  ⟨c0_i32_31, v81, c1_i32_33⟩
def k0_mult1 (i : grid0.Coords) (k0_t1 : Fin (k0_t1_loop i).trips) : BitVec 32 :=
  let c0_i32_31 : BitVec 32 := 0#32
  let c1_i32_33 : BitVec 32 := 1#32
  let arg12 : BitVec 32 := Scf.iv c0_i32_31 c1_i32_33 k0_t1
  let c512_i32_113 : BitVec 32 := 512#32
  let v233 : BitVec 32 := Scalar.muli arg12 c512_i32_113
  v233
def k0_off1 (i : grid0.Coords) (k0_t1 : Fin (k0_t1_loop i).trips) : Fin 2 → Nat :=
  let c0_i32_31 : BitVec 32 := 0#32
  let c1_i32_33 : BitVec 32 := 1#32
  let arg12 : BitVec 32 := Scf.iv c0_i32_31 c1_i32_33 k0_t1
  let c512_i32_113 : BitVec 32 := 512#32
  let v233 : BitVec 32 := Scalar.muli arg12 c512_i32_113
  let v234 : BitVec 32 := v233
  let v235 : Index := Scalar.indexCast v234
  let c0_114 : Index := 0#32
  ![v235.toNat, 0]
def k0_off2 (i : grid0.Coords) (k0_t1 : Fin (k0_t1_loop i).trips) : Fin 2 → Nat :=
  let c0_i32_31 : BitVec 32 := 0#32
  let c1_i32_33 : BitVec 32 := 1#32
  let arg12 : BitVec 32 := Scf.iv c0_i32_31 c1_i32_33 k0_t1
  let c512_i32_113 : BitVec 32 := 512#32
  let v233 : BitVec 32 := Scalar.muli arg12 c512_i32_113
  let v234 : BitVec 32 := v233
  let v238 : Index := Scalar.indexCast v234
  let c0_115 : Index := 0#32
  ![v238.toNat, 0]
def k0_off3 (i : grid0.Coords) (k0_t1 : Fin (k0_t1_loop i).trips) : Fin 2 → Nat :=
  let c0_i32_31 : BitVec 32 := 0#32
  let c1_i32_33 : BitVec 32 := 1#32
  let arg12 : BitVec 32 := Scf.iv c0_i32_31 c1_i32_33 k0_t1
  let c512_i32_113 : BitVec 32 := 512#32
  let v233 : BitVec 32 := Scalar.muli arg12 c512_i32_113
  let v234 : BitVec 32 := v233
  let v243 : Index := Scalar.indexCast v234
  let c128_117 : Index := 128#32
  ![v243.toNat, 128]
@[reducible] def k0_t2_loop (i : grid0.Coords) : Scf.Loop 32 :=
  let c0_i32_31 : BitVec 32 := 0#32
  let arg2 : BitVec 32 := BitVec.ofNat 32 (i 2).val
  let v77 : BitVec 32 := Scalar.subi arg2 c0_i32_31
  let c1_i32_32 : BitVec 32 := 1#32
  let v79 : BitVec 32 := Scalar.divsi v77 c1_i32_32
  let v80 : BitVec 32 := Scalar.muli v79 c1_i32_32
  let v81 : BitVec 32 := Scalar.addi c0_i32_31 v80
  let v78 : BitVec 32 := Scalar.addi c0_i32_31 v77
  let c1_i32_34 : BitVec 32 := 1#32
  ⟨v81, v78, c1_i32_34⟩
def k0_mult2 (i : grid0.Coords) (k0_t2 : Fin (k0_t2_loop i).trips) : BitVec 32 :=
  let c0_i32_31 : BitVec 32 := 0#32
  let arg2 : BitVec 32 := BitVec.ofNat 32 (i 2).val
  let v77 : BitVec 32 := Scalar.subi arg2 c0_i32_31
  let c1_i32_32 : BitVec 32 := 1#32
  let v79 : BitVec 32 := Scalar.divsi v77 c1_i32_32
  let v80 : BitVec 32 := Scalar.muli v79 c1_i32_32
  let v81 : BitVec 32 := Scalar.addi c0_i32_31 v80
  let c1_i32_34 : BitVec 32 := 1#32
  let arg12 : BitVec 32 := Scf.iv v81 c1_i32_34 k0_t2
  let c512_i32_113 : BitVec 32 := 512#32
  let v233 : BitVec 32 := Scalar.muli arg12 c512_i32_113
  v233
def k0_off4 (i : grid0.Coords) (k0_t2 : Fin (k0_t2_loop i).trips) : Fin 2 → Nat :=
  let c0_i32_31 : BitVec 32 := 0#32
  let arg2 : BitVec 32 := BitVec.ofNat 32 (i 2).val
  let v77 : BitVec 32 := Scalar.subi arg2 c0_i32_31
  let c1_i32_32 : BitVec 32 := 1#32
  let v79 : BitVec 32 := Scalar.divsi v77 c1_i32_32
  let v80 : BitVec 32 := Scalar.muli v79 c1_i32_32
  let v81 : BitVec 32 := Scalar.addi c0_i32_31 v80
  let c1_i32_34 : BitVec 32 := 1#32
  let arg12 : BitVec 32 := Scf.iv v81 c1_i32_34 k0_t2
  let c512_i32_113 : BitVec 32 := 512#32
  let v233 : BitVec 32 := Scalar.muli arg12 c512_i32_113
  let v234 : BitVec 32 := v233
  let v235 : Index := Scalar.indexCast v234
  let c0_114 : Index := 0#32
  ![v235.toNat, 0]
def k0_off5 (i : grid0.Coords) (k0_t2 : Fin (k0_t2_loop i).trips) : Fin 2 → Nat :=
  let c0_i32_31 : BitVec 32 := 0#32
  let arg2 : BitVec 32 := BitVec.ofNat 32 (i 2).val
  let v77 : BitVec 32 := Scalar.subi arg2 c0_i32_31
  let c1_i32_32 : BitVec 32 := 1#32
  let v79 : BitVec 32 := Scalar.divsi v77 c1_i32_32
  let v80 : BitVec 32 := Scalar.muli v79 c1_i32_32
  let v81 : BitVec 32 := Scalar.addi c0_i32_31 v80
  let c1_i32_34 : BitVec 32 := 1#32
  let arg12 : BitVec 32 := Scf.iv v81 c1_i32_34 k0_t2
  let c512_i32_113 : BitVec 32 := 512#32
  let v233 : BitVec 32 := Scalar.muli arg12 c512_i32_113
  let v234 : BitVec 32 := v233
  let v238 : Index := Scalar.indexCast v234
  let c0_115 : Index := 0#32
  ![v238.toNat, 0]
def k0_off6 (i : grid0.Coords) (k0_t2 : Fin (k0_t2_loop i).trips) : Fin 2 → Nat :=
  let c0_i32_31 : BitVec 32 := 0#32
  let arg2 : BitVec 32 := BitVec.ofNat 32 (i 2).val
  let v77 : BitVec 32 := Scalar.subi arg2 c0_i32_31
  let c1_i32_32 : BitVec 32 := 1#32
  let v79 : BitVec 32 := Scalar.divsi v77 c1_i32_32
  let v80 : BitVec 32 := Scalar.muli v79 c1_i32_32
  let v81 : BitVec 32 := Scalar.addi c0_i32_31 v80
  let c1_i32_34 : BitVec 32 := 1#32
  let arg12 : BitVec 32 := Scf.iv v81 c1_i32_34 k0_t2
  let c512_i32_113 : BitVec 32 := 512#32
  let v233 : BitVec 32 := Scalar.muli arg12 c512_i32_113
  let v234 : BitVec 32 := v233
  let v243 : Index := Scalar.indexCast v234
  let c128_117 : Index := 128#32
  ![v243.toNat, 128]
def k0_mult3 (i : grid0.Coords) : BitVec 32 :=
  let arg2 : BitVec 32 := BitVec.ofNat 32 (i 2).val
  let c512_i32 : BitVec 32 := 512#32
  let v82 : BitVec 32 := Scalar.muli arg2 c512_i32
  v82
def k0_off7 (i : grid0.Coords) : Fin 2 → Nat :=
  let arg2 : BitVec 32 := BitVec.ofNat 32 (i 2).val
  let c512_i32 : BitVec 32 := 512#32
  let v82 : BitVec 32 := Scalar.muli arg2 c512_i32
  let v83 : BitVec 32 := v82
  let v84 : Index := Scalar.indexCast v83
  let c0_35 : Index := 0#32
  ![v84.toNat, 0]
def k0_off8 (i : grid0.Coords) : Fin 2 → Nat :=
  let arg2 : BitVec 32 := BitVec.ofNat 32 (i 2).val
  let c512_i32 : BitVec 32 := 512#32
  let v82 : BitVec 32 := Scalar.muli arg2 c512_i32
  let v83 : BitVec 32 := v82
  let v87 : Index := Scalar.indexCast v83
  let c0_36 : Index := 0#32
  ![v87.toNat, 0]
def k0_off9 (i : grid0.Coords) : Fin 2 → Nat :=
  let arg2 : BitVec 32 := BitVec.ofNat 32 (i 2).val
  let c512_i32 : BitVec 32 := 512#32
  let v82 : BitVec 32 := Scalar.muli arg2 c512_i32
  let v83 : BitVec 32 := v82
  let v92 : Index := Scalar.indexCast v83
  let c128_38 : Index := 128#32
  ![v92.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x8x192 : Shape := ⟨4, ![2, 8192, 8, 192]⟩
abbrev S2x8192x8x128 : Shape := ⟨4, ![2, 8192, 8, 128]⟩
abbrev S8192 : Shape := ⟨1, ![8192]⟩
abbrev S2x8x8192x8192 : Shape := ⟨4, ![2, 8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩
abbrev S16384x1024 : Shape := ⟨2, ![16384, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2x8192x8x192, .f32⟩
  | .hbm, ⟨1, _⟩ => ⟨S2x8192x8x192, .f32⟩
  | .hbm, ⟨2, _⟩ => ⟨S2x8192x8x128, .f32⟩
  | .hbm, ⟨3, _⟩ => ⟨S8192, .i32⟩
  | .hbm, ⟨4, _⟩ => ⟨S2x8x8192x8192, .f32⟩
  | .hbm, ⟨5, _⟩ => ⟨S_, .f32⟩
  | .hbm, ⟨6, _⟩ => ⟨S_, .f32⟩
  | .hbm, ⟨7, _⟩ => ⟨S2x8x8192x8192, .f32⟩
  | .hbm, ⟨8, _⟩ => ⟨S2x8x8192x8192, .f32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S2x8x8192x8192, .i1⟩
  | .hbm, ⟨17, _⟩ => ⟨S2x8x8192x8192, .f32⟩
  | .hbm, ⟨18, _⟩ => ⟨S2x8x8192x8192, .f32⟩
  | .hbm, ⟨19, _⟩ => ⟨S_, .f32⟩
  | .hbm, ⟨20, _⟩ => ⟨S2x8x8192, .f32⟩
  | .hbm, ⟨21, _⟩ => ⟨S_, .f32⟩
  | .hbm, ⟨22, _⟩ => ⟨S2x8x8192, .f32⟩
  | .hbm, ⟨23, _⟩ => ⟨S2x8x8192, .f32⟩
  | .hbm, ⟨24, _⟩ => ⟨S2x8x8192x1, .f32⟩
  | .hbm, ⟨25, _⟩ => ⟨S2x8x8192x8192, .f32⟩
  | .hbm, ⟨26, _⟩ => ⟨S2x8x8192x8192, .f32⟩
  | .hbm, ⟨27, _⟩ => ⟨S2x8x8192x8192, .f32⟩
  | .hbm, ⟨28, _⟩ => ⟨S_, .f32⟩
  | .hbm, ⟨29, _⟩ => ⟨S2x8x8192, .f32⟩
  | .hbm, ⟨30, _⟩ => ⟨S2x8x8192x1, .f32⟩
  | .hbm, ⟨31, _⟩ => ⟨S2x8x8192x8192, .f32⟩
  | .hbm, ⟨32, _⟩ => ⟨S2x8x8192x8192, .f32⟩
  | .hbm, ⟨33, _⟩ => ⟨S2x8x128x8192, .f32⟩
  | .hbm, ⟨34, _⟩ => ⟨S2x8192x8x128, .f32⟩
  | .hbm, ⟨35, _⟩ => ⟨S16384x1024, .f32⟩
  | _, _ => ⟨S2x8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel2.lean ====
abbrev S36864x2048 : Shape := ⟨2, ![36864, 2048]⟩
abbrev S16384x2 : Shape := ⟨2, ![16384, 2]⟩
abbrev S2048 : Shape := ⟨1, ![2048]⟩
abbrev S8x2048x2816 : Shape := ⟨3, ![8, 2048, 2816]⟩
abbrev S8x2816x2048 : Shape := ⟨3, ![8, 2816, 2048]⟩
abbrev S32768 : Shape := ⟨1, ![32768]⟩
abbrev S32768x1 : Shape := ⟨2, ![32768, 1]⟩
abbrev S8 : Shape := ⟨1, ![8]⟩
abbrev S1x8 : Shape := ⟨2, ![1, 8]⟩
abbrev S32768x8 : Shape := ⟨2, ![32768, 8]⟩
abbrev S_ : Shape := ⟨0, ![]⟩
abbrev S1 : Shape := ⟨1, ![1]⟩
abbrev S72 : Shape := ⟨1, ![72]⟩
abbrev S72x1 : Shape := ⟨2, ![72, 1]⟩
abbrev S72x8 : Shape := ⟨2, ![72, 8]⟩
abbrev S1x2048 : Shape := ⟨2, ![1, 2048]⟩
abbrev S512x2048 : Shape := ⟨2, ![512, 2048]⟩
abbrev S1x2048x256 : Shape := ⟨3, ![1, 2048, 256]⟩
abbrev S1x256x2048 : Shape := ⟨3, ![1, 256, 2048]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 111
  | .vmem => 13
  | .smem => 2
  | _ => 0

abbrev bufTy : (tb : Table) → Fin (tcTables nBuf tb) → BufTy
  | .hbm, ⟨0, _⟩ => ⟨S36864x2048, .f32⟩
  | .hbm, ⟨1, _⟩ => ⟨S16384x2, .i32⟩
  | .hbm, ⟨2, _⟩ => ⟨S2048, .f32⟩
  | .hbm, ⟨3, _⟩ => ⟨S8x2048x2816, .f32⟩
  | .hbm, ⟨4, _⟩ => ⟨S8x2048x2816, .f32⟩
  | .hbm, ⟨5, _⟩ => ⟨S8x2816x2048, .f32⟩
  | .hbm, ⟨6, _⟩ => ⟨S32768, .i32⟩
  | .hbm, ⟨7, _⟩ => ⟨S32768x1, .i32⟩
  | .hbm, ⟨8, _⟩ => ⟨S8, .i32⟩
  | .hbm, ⟨9, _⟩ => ⟨S1x8, .i32⟩
  | .hbm, ⟨10, _⟩ => ⟨S32768x8, .i32⟩
  | .hbm, ⟨11, _⟩ => ⟨S32768x8, .i32⟩
  | .hbm, ⟨12, _⟩ => ⟨S32768x8, .i1⟩
  | .hbm, ⟨13, _⟩ => ⟨S32768x8, .i32⟩
  | .hbm, ⟨14, _⟩ => ⟨S_, .i32⟩
  | .hbm, ⟨15, _⟩ => ⟨S_, .i32⟩
  | .hbm, ⟨16, _⟩ => ⟨S32768x8, .i32⟩
  | .hbm, ⟨17, _⟩ => ⟨S32768x8, .i32⟩
  | .hbm, ⟨18, _⟩ => ⟨S_, .i32⟩
  | .hbm, ⟨19, _⟩ => ⟨S32768, .i32⟩
  | .hbm, ⟨20, _⟩ => ⟨S_, .i32⟩
  | .hbm, ⟨21, _⟩ => ⟨S32768, .i32⟩
  | .hbm, ⟨22, _⟩ => ⟨S32768, .i32⟩
  | .hbm, ⟨23, _⟩ => ⟨S1x8, .i32⟩
  | .hbm, ⟨24, _⟩ => ⟨S8, .i32⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S_, .i32⟩
  | .hbm, ⟨32, _⟩ => ⟨S_, .i32⟩
  | .hbm, ⟨33, _⟩ => ⟨S8, .i32⟩
  | .hbm, ⟨34, _⟩ => ⟨S8, .i32⟩
  | .hbm, ⟨35, _⟩ => ⟨S8, .i32⟩
  | .hbm, ⟨36, _⟩ => ⟨S_, .i32⟩
  | .hbm, ⟨37, _⟩ => ⟨S8, .i32⟩
  | .hbm, ⟨38, _⟩ => ⟨S8, .i1⟩
  | .hbm, ⟨39, _⟩ => ⟨S8, .i32⟩
  | .hbm, ⟨40, _⟩ => ⟨S8, .i32⟩
  | .hbm, ⟨41, _⟩ => ⟨S_, .i32⟩
  | .hbm, ⟨42, _⟩ => ⟨S8, .i32⟩
  | .hbm, ⟨43, _⟩ => ⟨S8, .i1⟩
  | .hbm, ⟨44, _⟩ => ⟨S8, .i1⟩
  | .hbm, ⟨45, _⟩ => ⟨S_, .i32⟩
  | .hbm, ⟨46, _⟩ => ⟨S8, .i32⟩
  | .hbm, ⟨47, _⟩ => ⟨S8, .i32⟩
  | .hbm, ⟨48, _⟩ => ⟨S8, .i32⟩
  | .hbm, ⟨49, _⟩ => ⟨S_, .i32⟩
  | .hbm, ⟨50, _⟩ => ⟨S8, .i32⟩
  | .hbm, ⟨51, _⟩ => ⟨S8, .i32⟩
  | .hbm, ⟨52, _⟩ => ⟨S_, .i32⟩
  | .hbm, ⟨53, _⟩ => ⟨S_, .i32⟩
  | .hbm, ⟨54, _⟩ => ⟨S8, .i32⟩
  | .hbm, ⟨55, _⟩ => ⟨S8, .i32⟩
  | .hbm, ⟨56, _⟩ => ⟨S1x8, .i32⟩
  | .hbm, ⟨57, _⟩ => ⟨S32768x8, .i32⟩
  | .hbm, ⟨58, _⟩ => ⟨S32768x8, .i32⟩
  | .hbm, ⟨59, _⟩ => ⟨S_, .i32⟩
  | .hbm, ⟨60, _⟩ => ⟨S32768, .i32⟩
  | .hbm, ⟨61, _⟩ => ⟨S32768, .i32⟩
  | .hbm, ⟨62, _⟩ => ⟨S1, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i1⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S72, .i32⟩
  | .hbm, ⟨78, _⟩ => ⟨S72x1, .i32⟩
  | .hbm, ⟨79, _⟩ => ⟨S_, .i32⟩
  | .hbm, ⟨80, _⟩ => ⟨S72x1, .i32⟩
  | .hbm, ⟨81, _⟩ => ⟨S72x1, .i32⟩
  | .hbm, ⟨82, _⟩ => ⟨S1x8, .i32⟩
  | .hbm, ⟨83, _⟩ => ⟨S72x8, .i32⟩
  | .hbm, ⟨84, _⟩ => ⟨S72x8, .i32⟩
  | .hbm, ⟨85, _⟩ => ⟨S72x8, .i1⟩
  | .hbm, ⟨86, _⟩ => ⟨S72x8, .i32⟩
  | .hbm, ⟨87, _⟩ => ⟨S_, .i32⟩
  | .hbm, ⟨88, _⟩ => ⟨S72, .i32⟩
  | .hbm, ⟨89, _⟩ => ⟨S_, .i32⟩
  | .hbm, ⟨90, _⟩ => ⟨S72, .i32⟩
  | .hbm, ⟨91, _⟩ => ⟨S72, .i32⟩
  | .hbm, ⟨92, _⟩ => ⟨S72, .i32⟩
  | .hbm, ⟨93, _⟩ => ⟨S72, .i1⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i1⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S1, .i32⟩
  | .hbm, ⟨104, _⟩ => ⟨S_, .i32⟩
  | .hbm, ⟨105, _⟩ => ⟨S72, .i32⟩
  | .hbm, ⟨106, _⟩ => ⟨S8x2048x2816, .bf16⟩
  | .hbm, ⟨107, _⟩ => ⟨S8x2048x2816, .bf16⟩
  | .hbm, ⟨108, _⟩ => ⟨S8x2816x2048, .bf16⟩
  | .hbm, ⟨109, _⟩ => ⟨S1x2048, .f32⟩
  | .hbm, ⟨110, _⟩ => ⟨S36864x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x256x2048, .bf16⟩
  | .local _ .vmem, ⟨8, _⟩ => ⟨S1x256x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | .local _ .smem, ⟨0, _⟩ => ⟨S72, .i32⟩
  | .local _ .smem, ⟨1, _⟩ => ⟨S1, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_call0_c : Ref sig .tc := ⟨.hbm, 14, rfl⟩
abbrev main_call0_call0_v0 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_v21 : Ref sig .tc := ⟨.hbm, 51, rfl⟩
abbrev main_call2_call0_c : Ref sig .tc := ⟨.hbm, 52, rfl⟩
abbrev main_call2_call0_v0 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_c_5 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_6 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_c : Ref sig .tc := ⟨.hbm, 71, rfl⟩
abbrev main_call3_v6 : Ref sig .tc := ⟨.hbm, 72, rfl⟩
abbrev main_call3_v7 : Ref sig .tc := ⟨.hbm, 73, rfl⟩
abbrev main_call3_c_0 : Ref sig .tc := ⟨.hbm, 74, rfl⟩
abbrev main_call3_v8 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_c_7 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_c_8 : Ref sig .tc := ⟨.hbm, 87, rfl⟩
abbrev main_v41 : Ref sig .tc := ⟨.hbm, 88, rfl⟩
abbrev main_c_9 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_c_10 : Ref sig .tc := ⟨.hbm, 94, rfl⟩
abbrev main_v46 : Ref sig .tc := ⟨.hbm, 95, rfl⟩
abbrev main_c_11 : Ref sig .tc := ⟨.hbm, 96, rfl⟩
abbrev main_v47 : Ref sig .tc := ⟨.hbm, 97, rfl⟩
abbrev main_c_12 : Ref sig .tc := ⟨.hbm, 98, rfl⟩
abbrev main_v48 : Ref sig .tc := ⟨.hbm, 99, rfl⟩
abbrev main_c_13 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_call4_v0 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v53 : Ref sig .tc := ⟨.smem, 0, rfl⟩
abbrev main_v54 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![72, 11], ![false, false]⟩

abbrev pre0 : Pipeline.Prefetch sig := ⟨2, ![main_v53.idx, main_v54.idx], fun | 0 => main_v53.names | 1 => main_v54.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c10_i32 : BitVec 32 := 10#32
  let v2 : BitVec 1 := Scalar.cmpi .eq arg1 c10_i32
  let v9 : BitVec 1 := Scalar.andi v1 v2
  let v10 : BitVec 32 := Scalar.extui v9
  let c0_i32_2 : BitVec 32 := 0#32
  let v11 : BitVec 1 := Scalar.cmpi .ne v10 c0_i32_2
  v11

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let arg1 : BitVec 32 := BitVec.ofNat 32 (i 1).val
  let c10_i32 : BitVec 32 := 10#32
  let v2 : BitVec 1 := Scalar.cmpi .eq arg1 c10_i32
  let v13 : BitVec 1 := Scalar.andi v12 v2
  let v14 : BitVec 32 := Scalar.extui v13
  let c0_i32_3 : BitVec 32 := 0#32
  let v15 : BitVec 1 := Scalar.cmpi .ne v14 c0_i32_3
  v15

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_4 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, v4.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S36864x2048 : Shape := ⟨2, ![36864, 2048]⟩
abbrev S16384x2 : Shape := ⟨2, ![16384, 2]⟩
abbrev S2048 : Shape := ⟨1, ![2048]⟩
abbrev S8x2048x2816 : Shape := ⟨3, ![8, 2048, 2816]⟩
abbrev S8x2816x2048 : Shape := ⟨3, ![8, 2816, 2048]⟩
abbrev S32768x1 : Shape := ⟨2, ![32768, 1]⟩
abbrev S8 : Shape := ⟨1, ![8]⟩
abbrev S1x8 : Shape := ⟨2, ![1, 8]⟩
abbrev S32768x8 : Shape := ⟨2, ![32768, 8]⟩
abbrev S_ : Shape := ⟨0, ![]⟩
abbrev S36864 : Shape := ⟨1, ![36864]⟩
abbrev S36864x1 : Shape := ⟨2, ![36864, 1]⟩
abbrev S36864x8 : Shape := ⟨2, ![36864, 8]⟩
abbrev S1x2048 : Shape := ⟨2, ![1, 2048]⟩
abbrev S8x2816x36864 : Shape := ⟨3, ![8, 2816, 36864]⟩
abbrev S8x36864x2816 : Shape := ⟨3, ![8, 36864, 2816]⟩
abbrev S8x36864x2048 : Shape := ⟨3, ![8, 36864, 2048]⟩
abbrev S8x36864 : Shape := ⟨2, ![8, 36864]⟩
abbrev S8x36864x1 : Shape := ⟨3, ![8, 36864, 1]⟩

abbrev nBuf : Space → Nat
  | .hbm => 94
  | .vmem => 0
  | .smem => 0
  | _ => 0

abbrev bufTy : (tb : Table) → Fin (tcTables nBuf tb) → BufTy
  | .hbm, ⟨0, _⟩ => ⟨S36864x2048, .f32⟩
  | .hbm, ⟨1, _⟩ => ⟨S16384x2, .i32⟩
  | .hbm, ⟨2, _⟩ => ⟨S2048, .f32⟩
  | .hbm, ⟨3, _⟩ => ⟨S8x2048x2816, .f32⟩
  | .hbm, ⟨4, _⟩ => ⟨S8x2048x2816, .f32⟩
  | .hbm, ⟨5, _⟩ => ⟨S8x2816x2048, .f32⟩
  | .hbm, ⟨6, _⟩ => ⟨S32768x1, .i32⟩
  | .hbm, ⟨7, _⟩ => ⟨S8, .i32⟩
  | .hbm, ⟨8, _⟩ => ⟨S1x8, .i32⟩
  | .hbm, ⟨9, _⟩ => ⟨S32768x8, .i32⟩
  | .hbm, ⟨10, _⟩ => ⟨S32768x8, .i32⟩
  | .hbm, ⟨11, _⟩ => ⟨S32768x8, .i1⟩
  | .hbm, ⟨12, _⟩ => ⟨S32768x8, .i32⟩
  | .hbm, ⟨13, _⟩ => ⟨S_, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S_, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S8, .i32⟩
  | .hbm, ⟨23, _⟩ => ⟨S_, .i32⟩
  | .hbm, ⟨24, _⟩ => ⟨S8, .i32⟩
  | .hbm, ⟨25, _⟩ => ⟨S8, .i1⟩
  | .hbm, ⟨26, _⟩ => ⟨S8, .i32⟩
  | .hbm, ⟨27, _⟩ => ⟨S8, .i32⟩
  | .hbm, ⟨28, _⟩ => ⟨S_, .i32⟩
  | .hbm, ⟨29, _⟩ => ⟨S8, .i32⟩
  | .hbm, ⟨30, _⟩ => ⟨S8, .i1⟩
  | .hbm, ⟨31, _⟩ => ⟨S8, .i1⟩
  | .hbm, ⟨32, _⟩ => ⟨S_, .i32⟩
  | .hbm, ⟨33, _⟩ => ⟨S8, .i32⟩
  | .hbm, ⟨34, _⟩ => ⟨S8, .i32⟩
  | .hbm, ⟨35, _⟩ => ⟨S8, .i32⟩
  | .hbm, ⟨36, _⟩ => ⟨S_, .i32⟩
  | .hbm, ⟨37, _⟩ => ⟨S8, .i32⟩
  | .hbm, ⟨38, _⟩ => ⟨S8, .i32⟩
  | .hbm, ⟨39, _⟩ => ⟨S_, .i32⟩
  | .hbm, ⟨40, _⟩ => ⟨S_, .i32⟩
  | .hbm, ⟨41, _⟩ => ⟨S8, .i32⟩
  | .hbm, ⟨42, _⟩ => ⟨S36864, .i32⟩
  | .hbm, ⟨43, _⟩ => ⟨S36864x1, .i32⟩
  | .hbm, ⟨44, _⟩ => ⟨S8, .i32⟩
  | .hbm, ⟨45, _⟩ => ⟨S1x8, .i32⟩
  | .hbm, ⟨46, _⟩ => ⟨S36864x8, .i32⟩
  | .hbm, ⟨47, _⟩ => ⟨S36864x8, .i32⟩
  | .hbm, ⟨48, _⟩ => ⟨S36864x8, .i1⟩
  | .hbm, ⟨49, _⟩ => ⟨S1x8, .i32⟩
  | .hbm, ⟨50, _⟩ => ⟨S36864x8, .i32⟩
  | .hbm, ⟨51, _⟩ => ⟨S36864x8, .i32⟩
  | .hbm, ⟨52, _⟩ => ⟨S36864x8, .i1⟩
  | .hbm, ⟨53, _⟩ => ⟨S36864x8, .i1⟩
  | .hbm, ⟨54, _⟩ => ⟨S36864x2048, .f32⟩
  | .hbm, ⟨55, _⟩ => ⟨S_, .f32⟩
  | .hbm, ⟨56, _⟩ => ⟨S36864, .f32⟩
  | .hbm, ⟨57, _⟩ => ⟨S36864x1, .f32⟩
  | .hbm, ⟨58, _⟩ => ⟨S_, .f32⟩
  | .hbm, ⟨59, _⟩ => ⟨S36864x1, .f32⟩
  | .hbm, ⟨60, _⟩ => ⟨S36864x1, .f32⟩
  | .hbm, ⟨61, _⟩ => ⟨S_, .f32⟩
  | .hbm, ⟨62, _⟩ => ⟨S36864x1, .f32⟩
  | .hbm, ⟨63, _⟩ => ⟨S36864x1, .f32⟩
  | .hbm, ⟨64, _⟩ => ⟨S36864x1, .f32⟩
  | .hbm, ⟨65, _⟩ => ⟨S36864x2048, .f32⟩
  | .hbm, ⟨66, _⟩ => ⟨S36864x2048, .f32⟩
  | .hbm, ⟨67, _⟩ => ⟨S1x2048, .f32⟩
  | .hbm, ⟨68, _⟩ => ⟨S36864x2048, .f32⟩
  | .hbm, ⟨69, _⟩ => ⟨S36864x2048, .f32⟩
  | .hbm, ⟨70, _⟩ => ⟨S8x2816x36864, .f32⟩
  | .hbm, ⟨71, _⟩ => ⟨S8x36864x2816, .f32⟩
  | .hbm, ⟨72, _⟩ => ⟨S8x2816x36864, .f32⟩
  | .hbm, ⟨73, _⟩ => ⟨S8x36864x2816, .f32⟩
  | .hbm, ⟨74, _⟩ => ⟨S8x36864x2816, .f32⟩
  | .hbm, ⟨75, _⟩ => ⟨S8x36864x2816, .f32⟩
  | .hbm, ⟨76, _⟩ => ⟨S_, .f32⟩
  | .hbm, ⟨77, _⟩ => ⟨S8x36864x2816, .f32⟩
  | .hbm, ⟨78, _⟩ => ⟨S8x36864x2816, .f32⟩
  | .hbm, ⟨79, _⟩ => ⟨S_, .f32⟩
  | .hbm, ⟨80, _⟩ => ⟨S8x36864x2816, .f32⟩
  | .hbm, ⟨81, _⟩ => ⟨S8x36864x2816, .f32⟩
  | .hbm, ⟨82, _⟩ => ⟨S8x36864x2816, .f32⟩
  | .hbm, ⟨83, _⟩ => ⟨S8x36864x2816, .f32⟩
  | .hbm, ⟨84, _⟩ => ⟨S8x36864x2048, .f32⟩
  | .hbm, ⟨85, _⟩ => ⟨S8x36864, .i1⟩
  | .hbm, ⟨86, _⟩ => ⟨S8x36864x1, .i1⟩
  | .hbm, ⟨87, _⟩ => ⟨S_, .f32⟩
  | .hbm, ⟨88, _⟩ => ⟨S_, .f32⟩
  | .hbm, ⟨89, _⟩ => ⟨S8x36864x2048, .i1⟩
  | .hbm, ⟨90, _⟩ => ⟨S8x36864x2048, .f32⟩
  | .hbm, ⟨91, _⟩ => ⟨S8x36864x2048, .f32⟩
  | .hbm, ⟨92, _⟩ => ⟨S_, .f32⟩
  | .hbm, ⟨93, _⟩ => ⟨S36864x2048, .f32⟩
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v10 : Ref sig .tc := ⟨.hbm, 35, rfl⟩
abbrev main_c_2 : Ref sig .tc := ⟨.hbm, 36, rfl⟩
abbrev main_v11 : Ref sig .tc := ⟨.hbm, 37, rfl⟩
abbrev main_v12 : Ref sig .tc := ⟨.hbm, 38, rfl⟩
abbrev main_call1_call0_c : Ref sig .tc := ⟨.hbm, 39, rfl⟩
abbrev main_call1_call0_v0 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst : Ref sig .tc := ⟨.hbm, 55, rfl⟩
abbrev main_v27 : Ref sig .tc := ⟨.hbm, 56, rfl⟩
abbrev main_v28 : Ref sig .tc := ⟨.hbm, 57, rfl⟩
abbrev main_cst_3 : Ref sig .tc := ⟨.hbm, 58, rfl⟩
abbrev main_v29 : Ref sig .tc := ⟨.hbm, 59, rfl⟩
abbrev main_v30 : Ref sig .tc := ⟨.hbm, 60, rfl⟩
abbrev main_cst_4 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_call2_v5 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_5 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v48 : Ref sig .tc := ⟨.hbm, 91, rfl⟩
abbrev main_cst_6 : Ref sig .tc := ⟨.hbm, 92, rfl⟩
abbrev main_v49 : Ref sig .tc := ⟨.hbm, 93, rfl⟩

abbrev nD : Nat := 1
abbrev τ : Topo := Topo.v7x

variable {F : FTy → Type} [FloatOps F]
-- ==== Kernel3.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 10
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S1x2048, .f32⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x5632, .f32⟩
  | .hbm, ⟨22, _⟩ => ⟨S16384x5632, .f32⟩
  | .hbm, ⟨23, _⟩ => ⟨S16384x5632, .f32⟩
  | .hbm, ⟨24, _⟩ => ⟨S_, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x2048, .f32⟩
  | .hbm, ⟨34, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Proof.Online.lean ====
/- The arithmetic of the running softmax, with no program in sight: a row's scores are a sequence `S`, each score a
   real number or −∞; after the first `n` keys the row holds the maximum of the scores so far, the sum of the weights
   `2 ^ (score − maximum)` and the weighted sum of the values. Taking `m` more keys in rescales the two sums by
   `2 ^ (old maximum − new maximum)`; at the end their quotient is the softmax-weighted mean of the values. -/
module

public import Idealize.ShloMosaic.PureOps.Ideal

@[expose] public section

noncomputable section

namespace Cert.Online

open Idealize.ShloMosaic

/-- The greatest of the first `n` scores (−∞ of none). -/
def runMax (S : ℕ → EReal) (n : ℕ) : EReal := (Finset.range n).sup S

/-- The weight of key `k` once `n` keys were seen. -/
def wt (S : ℕ → EReal) (n k : ℕ) : EReal := Ideal.exp2 (S k - runMax S n)

/-- The sum of the weights of the first `n` keys. -/
def runSum (S : ℕ → EReal) (n : ℕ) : EReal := ∑ k ∈ Finset.range n, wt S n k

/-- The weighted sum of the first `n` values. -/
def runAcc (S v : ℕ → EReal) (n : ℕ) : EReal := ∑ k ∈ Finset.range n, wt S n k * v k

/-- A row's scores: none is +∞ and the first is a number. -/
structure Row (S : ℕ → EReal) : Prop where
  first : S 0 ≠ ⊥
  notTop : ∀ k, S k ≠ ⊤

theorem runMax_zero (S : ℕ → EReal) : runMax S 0 = ⊥ := by simp [runMax]
theorem runSum_zero (S : ℕ → EReal) : runSum S 0 = 0 := by simp [runSum]
theorem runAcc_zero (S v : ℕ → EReal) : runAcc S v 0 = 0 := by simp [runAcc]

/-- Once a key was seen, the maximum is a real number. -/
theorem runMax_real {S : ℕ → EReal} (h : Row S) {n : ℕ} (hn : 0 < n) : ∃ r : ℝ, runMax S n = (r : EReal) := by
  have h0 : runMax S n ≠ ⊥ := by
    intro e
    have : S 0 ≤ runMax S n := Finset.le_sup (f := S) (Finset.mem_range.mpr hn)
    rw [e] at this
    exact h.first (le_bot_iff.mp this)
  have h1 : runMax S n ≠ ⊤ := by
    have : runMax S n < ⊤ := (Finset.sup_lt_iff bot_lt_top).mpr fun k _ => lt_top_iff_ne_top.mpr (h.notTop k)
    exact this.ne
  exact ⟨(runMax S n).toReal, (EReal.coe_toReal h1 h0).symm⟩

/-- The maximum over `m` keys more. -/
theorem runMax_add (S : ℕ → EReal) (n m : ℕ) :
    runMax S (n + m) = max (runMax S n) ((Finset.univ : Finset (Fin m)).sup fun c => S (n + c.val)) := by
  unfold runMax
  apply le_antisymm
  · refine Finset.sup_le fun k hk => ?_
    have hk' := Finset.mem_range.mp hk
    by_cases hkn : k < n
    · exact le_max_of_le_left (Finset.le_sup (f := S) (Finset.mem_range.mpr hkn))
    · refine le_max_of_le_right ?_
      have := Finset.le_sup (f := fun c : Fin m => S (n + c.val)) (Finset.mem_univ ⟨k - n, by omega⟩)
      simpa [Nat.add_sub_cancel' (Nat.le_of_not_lt hkn)] using this
  · refine max_le (Finset.sup_le fun k hk => ?_) (Finset.sup_le fun c _ => ?_)
    · exact Finset.le_sup (f := S) (Finset.mem_range.mpr (by have := Finset.mem_range.mp hk; omega))
    · exact Finset.le_sup (f := S) (Finset.mem_range.mpr (by have := c.isLt; omega))

/-- Every score is a number or −∞. -/
theorem Row.cases {S : ℕ → EReal} (h : Row S) (k : ℕ) : S k = ⊥ ∨ ∃ r : ℝ, S k = (r : EReal) := by
  by_cases hb : S k = ⊥
  · exact .inl hb
  · exact .inr ⟨(S k).toReal, (EReal.coe_toReal (h.notTop k) hb).symm⟩

/-- A power of two of a difference of numbers. -/
theorem exp2_sub_coe (a b : ℝ) : Ideal.exp2 ((a : EReal) - (b : EReal)) = ((2 : ℝ) ^ (a - b) : ℝ) := by
  rw [← EReal.coe_sub]; rfl

/-- −∞ less a number has the power 0. -/
theorem exp2_bot_sub (b : EReal) : Ideal.exp2 (⊥ - b) = 0 := by
  rw [sub_eq_add_neg, EReal.bot_add]; rfl

/-- A weight is a nonnegative number. -/
theorem wt_real {S : ℕ → EReal} (h : Row S) {n : ℕ} (hn : 0 < n) (k : ℕ) : ∃ r : ℝ, 0 ≤ r ∧ wt S n k = (r : EReal) := by
  obtain ⟨M, hM⟩ := runMax_real h hn
  unfold wt
  rw [hM]
  rcases h.cases k with hk | ⟨s, hk⟩
  · exact ⟨0, le_refl _, by rw [hk, exp2_bot_sub]; rfl⟩
  · exact ⟨(2 : ℝ) ^ (s - M), by positivity, by rw [hk, exp2_sub_coe]⟩

/-- A weight rescaled to the new maximum. -/
theorem rescale {S : ℕ → EReal} (h : Row S) {n : ℕ} (hn : 0 < n) (m k : ℕ) :
    Ideal.exp2 (runMax S n - runMax S (n + m)) * wt S n k = wt S (n + m) k := by
  obtain ⟨M, hM⟩ := runMax_real h hn
  obtain ⟨M', hM'⟩ := runMax_real h (n := n + m) (by omega)
  unfold wt
  rw [hM, hM']
  rcases h.cases k with hk | ⟨s, hk⟩
  · rw [hk, exp2_bot_sub, exp2_bot_sub, mul_zero]
  · rw [hk, exp2_sub_coe, exp2_sub_coe, exp2_sub_coe, ← EReal.coe_mul, ← Real.rpow_add two_pos]
    congr 2; ring

/-- A nonnegative number times a sum. -/
theorem mul_sum_of_nonneg {ι : Type*} (s : Finset ι) (a : ℝ) (ha : 0 ≤ a) (f : ι → EReal) :
    (a : EReal) * ∑ k ∈ s, f k = ∑ k ∈ s, (a : EReal) * f k := by
  classical
  induction s using Finset.induction_on with
  | empty => simp
  | insert x s hx ih =>
    rw [Finset.sum_insert hx, Finset.sum_insert hx,
      EReal.left_distrib_of_nonneg_of_ne_top (EReal.coe_nonneg.mpr ha) (EReal.coe_ne_top a), ih]

/-- The rescaling factor is a nonnegative number once a key was seen. -/
theorem factor_real {S : ℕ → EReal} (h : Row S) {n : ℕ} (hn : 0 < n) (m : ℕ) :
    ∃ r : ℝ, 0 ≤ r ∧ Ideal.exp2 (runMax S n - runMax S (n + m)) = (r : EReal) := by
  obtain ⟨M, hM⟩ := runMax_real h hn
  obtain ⟨M', hM'⟩ := runMax_real h (n := n + m) (by omega)
  exact ⟨(2 : ℝ) ^ (M - M'), by positivity, by rw [hM, hM', exp2_sub_coe]⟩

theorem sum_range_add_fin (f : ℕ → EReal) (n m : ℕ) :
    ∑ k ∈ Finset.range (n + m), f k = ∑ k ∈ Finset.range n, f k + ∑ c : Fin m, f (n + c.val) := by
  rw [Finset.sum_range_add, Finset.sum_range fun x => f (n + x)]

/-- The sum of the weights over `m` keys more. -/
theorem runSum_add {S : ℕ → EReal} (h : Row S) (n m : ℕ) :
    runSum S (n + m) = Ideal.exp2 (runMax S n - runMax S (n + m)) * runSum S n
      + ∑ c : Fin m, Ideal.exp2 (S (n + c.val) - runMax S (n + m)) := by
  unfold runSum
  rw [sum_range_add_fin]
  congr 1
  rcases Nat.eq_zero_or_pos n with rfl | hn
  · simp
  · obtain ⟨a, ha, e⟩ := factor_real h hn m
    rw [e, mul_sum_of_nonneg _ a ha]
    refine Finset.sum_congr rfl fun k _ => ?_
    rw [← e, rescale h hn]

/-- The weighted sum of the values over `m` keys more. -/
theorem runAcc_add {S : ℕ → EReal} (h : Row S) (v : ℕ → EReal) (n m : ℕ) :
    runAcc S v (n + m) = Ideal.exp2 (runMax S n - runMax S (n + m)) * runAcc S v n
      + ∑ c : Fin m, Ideal.exp2 (S (n + c.val) - runMax S (n + m)) * v (n + c.val) := by
  unfold runAcc
  rw [sum_range_add_fin]
  congr 1
  rcases Nat.eq_zero_or_pos n with rfl | hn
  · simp
  · obtain ⟨a, ha, e⟩ := factor_real h hn m
    rw [e, mul_sum_of_nonneg _ a ha]
    refine Finset.sum_congr rfl fun k _ => ?_
    rw [← e, ← mul_assoc, rescale h hn]

/-- A sum of numbers is a number. -/
theorem coe_sum {ι : Type*} (s : Finset ι) (g : ι → ℝ) : ((∑ k ∈ s, g k : ℝ) : EReal) = ∑ k ∈ s, (g k : EReal) := by
  classical
  induction s using Finset.induction_on with
  | empty => simp
  | insert x s hx ih => rw [Finset.sum_insert hx, Finset.sum_insert hx, EReal.coe_add, ih]

/-- A sum of nonnegative numbers is one. -/
theorem sum_real {ι : Type*} (s : Finset ι) (f : ι → EReal) (h : ∀ k, ∃ r : ℝ, 0 ≤ r ∧ f k = (r : EReal)) :
    ∃ r : ℝ, 0 ≤ r ∧ ∑ k ∈ s, f k = (r : EReal) := by
  choose g hg e using h
  refine ⟨∑ k ∈ s, g k, Finset.sum_nonneg fun k _ => hg k, ?_⟩
  rw [coe_sum]
  exact Finset.sum_congr rfl fun k _ => e k

/-- The sum of the weights is a positive number once a key was seen. -/
theorem runSum_pos {S : ℕ → EReal} (h : Row S) {n : ℕ} (hn : 0 < n) : ∃ r : ℝ, 0 < r ∧ runSum S n = (r : EReal) := by
  obtain ⟨r, hr, e⟩ := sum_real ((Finset.range n).erase 0) (wt S n) fun k => wt_real h hn k
  obtain ⟨M, hM⟩ := runMax_real h hn
  rcases h.cases 0 with h0 | ⟨s, h0⟩
  · exact absurd h0 h.first
  · refine ⟨(2 : ℝ) ^ (s - M) + r, by positivity, ?_⟩
    unfold runSum
    rw [← Finset.add_sum_erase _ _ (Finset.mem_range.mpr hn), e, EReal.coe_add]
    congr 1
    unfold wt
    rw [hM, h0, exp2_sub_coe]

/-- A factor out of a natural exponential: the scores `T` in nats against the scores `S` in bits. -/
def bits (x : EReal) : EReal := x * ((1 / Real.log 2 : ℝ) : EReal)

theorem inv_log_two_pos : (0 : ℝ) < 1 / Real.log 2 := by have := Real.log_pos one_lt_two; positivity

theorem bits_bot : bits ⊥ = ⊥ := EReal.bot_mul_coe_of_pos inv_log_two_pos
theorem bits_coe (r : ℝ) : bits (r : EReal) = ((r * (1 / Real.log 2) : ℝ) : EReal) := (EReal.coe_mul _ _).symm

theorem bits_mono : Monotone bits := fun _ _ h =>
  mul_le_mul_of_nonneg_right h (EReal.coe_nonneg.mpr inv_log_two_pos.le)

/-- The scores beyond the last key kept are −∞: they leave the maximum as it was. -/
theorem runMax_tail {S : ℕ → EReal} {n N : ℕ} (hN : n ≤ N) (ht : ∀ k, n ≤ k → k < N → S k = ⊥) : runMax S N = runMax S n := by
  unfold runMax
  apply le_antisymm
  · refine Finset.sup_le fun k hk => ?_
    by_cases hkn : k < n
    · exact Finset.le_sup (f := S) (Finset.mem_range.mpr hkn)
    · rw [ht k (by omega) (Finset.mem_range.mp hk)]; exact bot_le
  · exact Finset.sup_mono fun k hk => Finset.mem_range.mpr (by have := Finset.mem_range.mp hk; omega)

/-- A weight as the natural exponential of the scores in nats. -/
theorem exp_eq_wt {T S : ℕ → EReal} (hS : ∀ k, S k = bits (T k)) (h : Row T) {n N : ℕ} (hn : 0 < n) (hN : n ≤ N)
    (ht : ∀ k, n ≤ k → k < N → T k = ⊥) (k : ℕ) : Ideal.exp (T k - runMax T N) = wt S n k := by
  have hSM : runMax S n = bits (runMax T N) := by
    rw [runMax_tail hN ht]
    have : S = bits ∘ T := funext hS
    unfold runMax
    rw [this, Finset.apply_sup_eq_sup_comp_of_linearOrder bits bits_mono bits_bot]
  obtain ⟨M, hM⟩ := runMax_real h (n := N) (by omega)
  unfold wt
  rw [hSM, hM, hS k, bits_coe]
  rcases h.cases k with hk | ⟨t, hk⟩
  · rw [hk, bits_bot, exp2_bot_sub, sub_eq_add_neg, EReal.bot_add]; rfl
  · rw [hk, bits_coe, exp2_sub_coe, ← EReal.coe_sub, Ideal.exp_coe]
    congr 1
    rw [Real.rpow_def_of_pos two_pos]
    congr 1
    have : Real.log 2 ≠ 0 := (Real.log_pos one_lt_two).ne'
    field_simp

theorem bits_row {T S : ℕ → EReal} (hS : ∀ k, S k = bits (T k)) (h : Row T) : Row S := by
  constructor
  · rw [hS]
    rcases h.cases 0 with h0 | ⟨t, h0⟩
    · exact absurd h0 h.first
    · rw [h0, bits_coe]; exact EReal.coe_ne_bot _
  · intro k
    rw [hS]
    rcases h.cases k with h0 | ⟨t, h0⟩
    · rw [h0, bits_bot]; exact bot_ne_top
    · rw [h0, bits_coe]; exact EReal.coe_ne_top _

/-- The quotient of the two running sums is the softmax-weighted mean of the values over all `N` keys, the scores of the
keys from `n` on being −∞. -/
theorem softmax_eq {T S v : ℕ → EReal} (hS : ∀ k, S k = bits (T k)) (h : Row T) {n N : ℕ} (hn : 0 < n) (hN : n ≤ N)
    (ht : ∀ k, n ≤ k → k < N → T k = ⊥) :
    ∑ k ∈ Finset.range N, Ideal.div (Ideal.exp (T k - runMax T N)) (∑ j ∈ Finset.range N, Ideal.exp (T j - runMax T N)) * v k
      = Ideal.div (runAcc S v n) (runSum S n) := by
  have hR := bits_row hS h
  have hw : ∀ k, Ideal.exp (T k - runMax T N) = wt S n k := fun k => exp_eq_wt hS h hn hN ht k
  have hz : ∀ k, n ≤ k → k < N → wt S n k = 0 := fun k h1 h2 => by
    unfold wt; rw [hS, ht k h1 h2, bits_bot, exp2_bot_sub]
  have hcut : ∀ f : ℕ → EReal, (∀ k, n ≤ k → k < N → f k = 0) → ∑ k ∈ Finset.range N, f k = ∑ k ∈ Finset.range n, f k :=
    fun f hf => (Finset.sum_subset (Finset.range_mono hN) fun k hk hk' =>
      hf k (Nat.le_of_not_lt fun hlt => hk' (Finset.mem_range.mpr hlt)) (Finset.mem_range.mp hk)).symm
  simp only [hw]
  rw [hcut (wt S n) hz]
  change ∑ k ∈ Finset.range N, Ideal.div (wt S n k) (runSum S n) * v k = _
  obtain ⟨L, hL, eL⟩ := runSum_pos hR hn
  rw [eL, Ideal.div_coe hL.ne', hcut _ fun k h1 h2 => by rw [hz k h1 h2, Ideal.div_coe hL.ne', zero_mul, zero_mul]]
  unfold runAcc
  rw [mul_comm, mul_sum_of_nonneg _ _ (by positivity)]
  refine Finset.sum_congr rfl fun k _ => ?_
  rw [Ideal.div_coe hL.ne', mul_comm (wt S n k), mul_assoc]

end Cert.Online

end
-- ==== Proof.Step.lean ====
/- One key tile's update of the running softmax of one head, as functions of the tile's scores, of the head's running
maximum, sum and weighted sum, and of the tile's values; and what they hold at an index over the extended reals. -/
module

public import proofs.«01_k».proof.Proof.Gen.KernelIdeal.Skeleton
public import proofs.«01_k».proof.Proof.Online
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.ShloMosaic.Tactic Idealize.SL.Sem

section Defs

variable {F : FTy → Type} [FloatOps F]

/-- Columns 0–127 of a tile's scores. -/
def c0 (s : FVec F S512x512 .f32) : FVec F S512x128 .f32 := extractStridedSlice S512x128 ![0, 0] s slices_S512x512_o0_0_S512x128
/-- Columns 128–255. -/
def c1 (s : FVec F S512x512 .f32) : FVec F S512x128 .f32 := extractStridedSlice S512x128 ![0, 128] s slices_S512x512_o0_128_S512x128
/-- Columns 256–383. -/
def c2 (s : FVec F S512x512 .f32) : FVec F S512x128 .f32 := extractStridedSlice S512x128 ![0, 256] s slices_S512x512_o0_256_S512x128
/-- Columns 384–511. -/
def c3 (s : FVec F S512x512 .f32) : FVec F S512x128 .f32 := extractStridedSlice S512x128 ![0, 384] s slices_S512x512_o0_384_S512x128

/-- The new maximum, on every lane. -/
def mNew (s : FVec F S512x512 .f32) (m : FVec F S512x128 .f32) : FVec F S512x128 .f32 :=
  maximumf m (broadcastTo S512x128 (shapeCast S512x1
    (multiReduction .maximumf [1] S512 (maximumf (maximumf (maximumf (c0 s) (c1 s)) (c2 s)) (c3 s)) 0xFF800000#32
      reduces_S512x128_S512 (.inl rfl) rfl) shapeCasts_S512_S512x1) broadcasts_S512x1_S512x128)

/-- The rescaling factor. -/
def alpha (m m' : FVec F S512x128 .f32) : FVec F S512x128 .f32 := exp2 (subf m m')

/-- One column block's weights. -/
def pw (c m' : FVec F S512x128 .f32) : FVec F S512x128 .f32 := exp2 (subf c m')

/-- The new sum of the weights, on every lane. -/
def lNew (s : FVec F S512x512 .f32) (m m' l : FVec F S512x128 .f32) : FVec F S512x128 .f32 :=
  addf (mulf (alpha m m') l) (broadcastTo S512x128 (shapeCast S512x1
    (multiReduction .add [1] S512 (addf (addf (addf (pw (c0 s) m') (pw (c1 s) m')) (pw (c2 s) m')) (pw (c3 s) m')) 0x00000000#32
      reduces_S512x128_S512 (.inl rfl) rfl) shapeCasts_S512_S512x1) broadcasts_S512x1_S512x128)

/-- The new weighted sum of the values. -/
def aNew (s : FVec F S512x512 .f32) (m m' a : FVec F S512x128 .f32) (v : FVec F S512x128 .bf16) : FVec F S512x128 .f32 :=
  addf (mulf (alpha m m') a) (matmul dot_S512x512_S512x128_S512x128_1_0_0_1_n_n none
    (truncf .bf16 (concatenate S512x512 1 [⟨S512x128, pw (c0 s) m'⟩, ⟨S512x128, pw (c1 s) m'⟩, ⟨S512x128, pw (c2 s) m'⟩, ⟨S512x128, pw (c3 s) m'⟩]
      concatenates_S512x128_S512x128_S512x128_S512x128_S512x512_d1) bitsLt_bf16_f32) v (constant S512x128 .f32 0x00000000#32))

/-- A tile's scores: the head's queries against the tile's keys, both parts of a head's vector side by side. -/
def sTile (q : FVec F S512x256 .bf16) (kn kr : FVec F S512x128 .bf16) : FVec F S512x512 .f32 :=
  matmul dot_S512x256_S512x256_S512x512_1_1_0_0_n_n none q
    (concatenate S512x256 1 [⟨S512x128, kn⟩, ⟨S512x128, kr⟩] concatenates_S512x128_S512x128_S512x256_d1)
    (constant S512x512 .f32 0x00000000#32)

end Defs

/-! ### At an index, over the extended reals -/

theorem c0_apply (s : FVec Ideal S512x512 .f32) (r : Fin 512) (l : Fin 128) : c0 s (ix2 r l) = s (ix2 r ⟨l.val, by omega⟩) := by
  pointwise [c0]
theorem c1_apply (s : FVec Ideal S512x512 .f32) (r : Fin 512) (l : Fin 128) : c1 s (ix2 r l) = s (ix2 r ⟨128 + l.val, by omega⟩) := by
  pointwise [c1]
theorem c2_apply (s : FVec Ideal S512x512 .f32) (r : Fin 512) (l : Fin 128) : c2 s (ix2 r l) = s (ix2 r ⟨256 + l.val, by omega⟩) := by
  pointwise [c2]
theorem c3_apply (s : FVec Ideal S512x512 .f32) (r : Fin 512) (l : Fin 128) : c3 s (ix2 r l) = s (ix2 r ⟨384 + l.val, by omega⟩) := by
  pointwise [c3]

/-- The four column blocks of a row are the row. -/
theorem sup_blocks (f : Fin 512 → EReal) :
    (Finset.univ : Finset (Fin 128)).sup (fun x => max (max (max (f ⟨x.val, by omega⟩) (f ⟨128 + x.val, by omega⟩)) (f ⟨256 + x.val, by omega⟩)) (f ⟨384 + x.val, by omega⟩))
      = (Finset.univ : Finset (Fin 512)).sup f := by
  apply le_antisymm
  · refine Finset.sup_le fun x _ => max_le (max_le (max_le ?_ ?_) ?_) ?_ <;> exact Finset.le_sup (f := f) (Finset.mem_univ _)
  · refine Finset.sup_le fun c _ => ?_
    have key : ∀ (x : Fin 128), c.val = x.val ∨ c.val = 128 + x.val ∨ c.val = 256 + x.val ∨ c.val = 384 + x.val →
        f c ≤ (Finset.univ : Finset (Fin 128)).sup (fun x => max (max (max (f ⟨x.val, by omega⟩) (f ⟨128 + x.val, by omega⟩)) (f ⟨256 + x.val, by omega⟩)) (f ⟨384 + x.val, by omega⟩)) := by
      intro x hx
      refine le_trans ?_ (Finset.le_sup (f := fun x : Fin 128 => max (max (max (f ⟨x.val, by omega⟩) (f ⟨128 + x.val, by omega⟩)) (f ⟨256 + x.val, by omega⟩)) (f ⟨384 + x.val, by omega⟩)) (Finset.mem_univ x))
      rcases hx with hx | hx | hx | hx
      · exact le_max_of_le_left (le_max_of_le_left (le_max_of_le_left (le_of_eq (congrArg f (Fin.ext hx)))))
      · exact le_max_of_le_left (le_max_of_le_left (le_max_of_le_right (le_of_eq (congrArg f (Fin.ext hx)))))
      · exact le_max_of_le_left (le_max_of_le_right (le_of_eq (congrArg f (Fin.ext hx))))
      · exact le_max_of_le_right (le_of_eq (congrArg f (Fin.ext hx)))
    refine key ⟨c.val % 128, Nat.mod_lt _ (by omega)⟩ ?_
    have := c.isLt
    show c.val = c.val % 128 ∨ c.val = 128 + c.val % 128 ∨ c.val = 256 + c.val % 128 ∨ c.val = 384 + c.val % 128
    omega

/-- A row's sum by its four column blocks. -/
theorem sum_blocks (f : Fin 512 → EReal) :
    ∑ c, f c = ∑ x : Fin 128, (f ⟨x.val, by omega⟩ + f ⟨128 + x.val, by omega⟩ + f ⟨256 + x.val, by omega⟩ + f ⟨384 + x.val, by omega⟩) := by
  rw [Finset.sum_add_distrib, Finset.sum_add_distrib, Finset.sum_add_distrib]
  rw [← Fin.sum_congr' f (show 128 + 128 + 128 + 128 = 512 from rfl), Fin.sum_univ_add, Fin.sum_univ_add, Fin.sum_univ_add]
  rfl

theorem negInf_f32 : Ideal.ofBits FTy.f32 0xFF800000#32 = ⊥ := by
  simp [Ideal.ofBits, Ideal.ieee]

open Cert.Online

/-- The tile's new maximum, the tile holding the scores of keys `n … n + 511` of each row. -/
theorem mNew_apply (s : FVec Ideal S512x512 .f32) (m : FVec Ideal S512x128 .f32) (S : Fin 512 → ℕ → EReal) (n : ℕ)
    (hs : ∀ r c, s (ix2 r c) = S r (n + c.val)) (hm : ∀ r l, m (ix2 r l) = runMax (S r) n) (r : Fin 512) (l : Fin 128) :
    mNew s m (ix2 r l) = runMax (S r) (n + 512) := by
  rw [runMax_add, ← sup_blocks]
  pointwise [mNew]
  rw [negInf_f32, hm]
  simp only [c0_apply, c1_apply, c2_apply, c3_apply, hs]
  rfl

/-- The tile's new sum of weights. -/
theorem lNew_apply (s : FVec Ideal S512x512 .f32) (m m' a : FVec Ideal S512x128 .f32) (S : Fin 512 → ℕ → EReal) (n : ℕ)
    (hS : ∀ r, Row (S r)) (hs : ∀ r c, s (ix2 r c) = S r (n + c.val)) (hm : ∀ r l, m (ix2 r l) = runMax (S r) n)
    (hm' : ∀ r l, m' (ix2 r l) = runMax (S r) (n + 512)) (ha : ∀ r l, a (ix2 r l) = runSum (S r) n) (r : Fin 512) (l : Fin 128) :
    lNew s m m' a (ix2 r l) = runSum (S r) (n + 512) := by
  rw [runSum_add (hS r), sum_blocks]
  pointwise [lNew, alpha, pw]
  simp only [c0_apply, c1_apply, c2_apply, c3_apply, hs, hm, hm', ha]
  rfl

/-- The tile's new weighted sum of values. -/
theorem aNew_apply (s : FVec Ideal S512x512 .f32) (m m' a : FVec Ideal S512x128 .f32) (v : FVec Ideal S512x128 .bf16)
    (S : Fin 512 → ℕ → EReal) (V : Fin 128 → ℕ → EReal) (n : ℕ)
    (hS : ∀ r, Row (S r)) (hs : ∀ r c, s (ix2 r c) = S r (n + c.val)) (hm : ∀ r l, m (ix2 r l) = runMax (S r) n)
    (hm' : ∀ r l, m' (ix2 r l) = runMax (S r) (n + 512)) (ha : ∀ r l, a (ix2 r l) = runAcc (S r) (V l) n)
    (hv : ∀ c l, v (ix2 c l) = V l (n + c.val)) (r : Fin 512) (l : Fin 128) :
    aNew s m m' a v (ix2 r l) = runAcc (S r) (V l) (n + 512) := by
  rw [runAcc_add (hS r)]
  pointwise [aNew, alpha, pw]
  rw [hm, hm', ha]
  refine congrArg _ (Finset.sum_congr rfl fun x _ => ?_)
  rw [hv]
  refine congrArg (· * _) ?_
  simp only [c0_apply, c1_apply, c2_apply, c3_apply, hs, hm']
  have := x.isLt
  split_ifs
  · rfl
  · rw [show n + (128 + (x.val - 128)) = n + x.val by omega]; rfl
  · rw [show n + (256 + (x.val - 128 - 128)) = n + x.val by omega]; rfl
  · rw [show n + (384 + (x.val - 128 - 128 - 128)) = n + x.val by omega]; rfl

/-- A tile's scores at an index. -/
theorem sTile_apply (q : FVec Ideal S512x256 .bf16) (kn kr : FVec Ideal S512x128 .bf16) (r : Fin 512) (c : Fin 512) :
    sTile q kn kr (ix2 r c) = ∑ d : Fin 128, q (ix2 r ⟨d.val, by omega⟩) * kn (ix2 c d)
      + ∑ d : Fin 128, q (ix2 r ⟨128 + d.val, by omega⟩) * kr (ix2 c d) := by
  pointwise [sTile]

end Cert.KernelIdeal.Attn

end
-- ==== Proof.Trip.lean ====
/- One trip of the loop over the key tiles below the diagonal: what it leaves in the three scratch buffers — the two
heads' running maximum, sum and weighted sum — is one tile's update (Step.lean) of what it found. -/
module

public import proofs.«01_k».proof.Proof.Gen.KernelIdeal.Loops
public import proofs.«01_k».proof.Proof.Step
public import Idealize.ShloMosaic.Lib.WritesUnit
public import Idealize.ShloMosaic.Lib.Pipeline.FrameBody

@[expose] public section

set_option maxRecDepth 16384

noncomputable section

namespace Cert.KernelIdeal.Attn

open Cert.KernelIdeal Cert.KernelIdeal.Gen Idealize.ShloMosaic Idealize.ShloMosaic.TcCoe Idealize.ShloMosaic.Tactic Idealize.SL.Sem

section Generic

variable {F : FTy → Type}

/-- Head 0's plane of a scratch buffer, as the kernel loads it. -/
def plane0 (m : Memref sig .tc .vmem S2x512x128 .f32) (f : BufTy.Contents (Elt F) m.view.ty) : FVec F S512x128 .f32 :=
  shapeCast (s := S1x512x128) S512x128 (View.readAt (Elt F) m.view (Rect.unit (s := S2x512x128) ![0, 0, 0] S1x512x128.size inb_S2x512x128_S1x512x128_0_0_0).toLoadRect f)
    shapeCasts_S1x512x128_S512x128

/-- Head 1's plane. -/
def plane1 (m : Memref sig .tc .vmem S2x512x128 .f32) (f : BufTy.Contents (Elt F) m.view.ty) : FVec F S512x128 .f32 :=
  shapeCast (s := S1x512x128) S512x128 (View.readAt (Elt F) m.view (Rect.unit (s := S2x512x128) ![1, 0, 0] S1x512x128.size inb_S2x512x128_S1x512x128_1_0_0).toLoadRect f)
    shapeCasts_S1x512x128_S512x128

/-- A store of head 0's plane. -/
def put0 (w : FVec F S512x128 .f32) : View.Piece (Elt F) S2x512x128 .f32 :=
  ⟨Rect.unit ![0, 0, 0] S1x512x128.size inb_S2x512x128_S1x512x128_0_0_0, shapeCast S1x512x128 w shapeCasts_S512x128_S1x512x128⟩

/-- A store of head 1's plane. -/
def put1 (w : FVec F S512x128 .f32) : View.Piece (Elt F) S2x512x128 .f32 :=
  ⟨Rect.unit ![1, 0, 0] S1x512x128.size inb_S2x512x128_S1x512x128_1_0_0, shapeCast S1x512x128 w shapeCasts_S512x128_S1x512x128⟩

theorem plane0_apply (m : Memref sig .tc .vmem S2x512x128 .f32) (f : BufTy.Contents (Elt F) m.view.ty) (r : Fin 512) (l : Fin 128) :
    plane0 m f (ix2 r l) = View.read (Elt F) m.view f (ix3 0 r l) := by
  unfold plane0
  rw [View.readAt_eq_ld]
  pointwise

theorem plane1_apply (m : Memref sig .tc .vmem S2x512x128 .f32) (f : BufTy.Contents (Elt F) m.view.ty) (r : Fin 512) (l : Fin 128) :
    plane1 m f (ix2 r l) = View.read (Elt F) m.view f (ix3 1 r l) := by
  unfold plane1
  rw [View.readAt_eq_ld]
  pointwise

/-- A plane read where it was stored last. -/
theorem read_put0 (m : Memref sig .tc .vmem S2x512x128 .f32) (f : BufTy.Contents (Elt F) m.view.ty) (w : FVec F S512x128 .f32)
    (L : List (View.Piece (Elt F) S2x512x128 .f32)) (r : Fin 512) (l : Fin 128) :
    View.read (Elt F) m.view (m.view.writes (Elt F) f (put0 w :: L)) (ix3 0 r l) = w (ix2 r l) := by
  refine (View.read_writes_cons_unit_of_mem m.view f (off := ![0, 0, 0]) (off' := ![0, 0, 0]) (size := S1x512x128.size)
    inb_S2x512x128_S1x512x128_0_0_0 (shapeCast S1x512x128 w shapeCasts_S512x128_S1x512x128) L (ix3 0 r l) (ix3 0 r l) rfl ?_).trans ?_
  · intro a; fin_cases a <;> simp
  · pointwise

theorem read_put1 (m : Memref sig .tc .vmem S2x512x128 .f32) (f : BufTy.Contents (Elt F) m.view.ty) (w : FVec F S512x128 .f32)
    (L : List (View.Piece (Elt F) S2x512x128 .f32)) (r : Fin 512) (l : Fin 128) :
    View.read (Elt F) m.view (m.view.writes (Elt F) f (put1 w :: L)) (ix3 1 r l) = w (ix2 r l) := by
  refine (View.read_writes_cons_unit_of_mem m.view f (off := ![1, 0, 0]) (off' := ![1, 0, 0]) (size := S1x512x128.size)
    inb_S2x512x128_S1x512x128_1_0_0 (shapeCast S1x512x128 w shapeCasts_S512x128_S1x512x128) L (ix3 1 r l) (ix3 0 r l) rfl ?_).trans ?_
  · intro a; fin_cases a <;> simp
  · pointwise

/-- A plane untouched by a store of the other one. -/
theorem read_put1_0 (m : Memref sig .tc .vmem S2x512x128 .f32) (f : BufTy.Contents (Elt F) m.view.ty) (w : FVec F S512x128 .f32)
    (L : List (View.Piece (Elt F) S2x512x128 .f32)) (r : Fin 512) (l : Fin 128) :
    View.read (Elt F) m.view (m.view.writes (Elt F) f (put1 w :: L)) (ix3 0 r l) = View.read (Elt F) m.view (m.view.writes (Elt F) f L) (ix3 0 r l) :=
  View.read_writes_cons_unit_of_not_mem m.view f (off := ![1, 0, 0]) (off' := ![1, 0, 0]) (size := S1x512x128.size)
    inb_S2x512x128_S1x512x128_1_0_0 (shapeCast S1x512x128 w shapeCasts_S512x128_S1x512x128) L (ix3 0 r l) rfl 0 (.inl (by simp))

theorem read_put0_1 (m : Memref sig .tc .vmem S2x512x128 .f32) (f : BufTy.Contents (Elt F) m.view.ty) (w : FVec F S512x128 .f32)
    (L : List (View.Piece (Elt F) S2x512x128 .f32)) (r : Fin 512) (l : Fin 128) :
    View.read (Elt F) m.view (m.view.writes (Elt F) f (put0 w :: L)) (ix3 1 r l) = View.read (Elt F) m.view (m.view.writes (Elt F) f L) (ix3 1 r l) :=
  View.read_writes_cons_unit_of_not_mem m.view f (off := ![0, 0, 0]) (off' := ![0, 0, 0]) (size := S1x512x128.size)
    inb_S2x512x128_S1x512x128_0_0_0 (shapeCast S1x512x128 w shapeCasts_S512x128_S1x512x128) L (ix3 1 r l) rfl 0 (.inr (by simp))

end Generic

section Trip

variable {F : FTy → Type} [FloatOps F] [Named F]

/-- A plane loaded where it was stored last. -/
theorem load_put0 (m : Memref sig .tc .vmem S2x512x128 .f32) (w : FVec F S512x128 .f32) (L : List (View.Piece (Elt F) S2x512x128 .f32)) :
    shapeCast (s := S1x512x128) S512x128 (m.view.readCov (put0 w :: L) (Rect.unit (s := S2x512x128) ![0, 0, 0] S1x512x128.size inb_S2x512x128_S1x512x128_0_0_0).toLoadRect)
      shapeCasts_S1x512x128_S512x128 = w := by
  funext j
  idx_vars j
  rw [show (m.view.readCov (put0 w :: L) (Rect.unit (s := S2x512x128) ![0, 0, 0] S1x512x128.size inb_S2x512x128_S1x512x128_0_0_0).toLoadRect)
    = shapeCast S1x512x128 w shapeCasts_S512x128_S1x512x128 from View.readCov_cons_toLoadRect _ _ _ _]
  pointwise

theorem load_put1 (m : Memref sig .tc .vmem S2x512x128 .f32) (w : FVec F S512x128 .f32) (L : List (View.Piece (Elt F) S2x512x128 .f32)) :
    shapeCast (s := S1x512x128) S512x128 (m.view.readCov (put1 w :: L) (Rect.unit (s := S2x512x128) ![1, 0, 0] S1x512x128.size inb_S2x512x128_S1x512x128_1_0_0).toLoadRect)
      shapeCasts_S1x512x128_S512x128 = w := by
  funext j
  idx_vars j
  rw [show (m.view.readCov (put1 w :: L) (Rect.unit (s := S2x512x128) ![1, 0, 0] S1x512x128.size inb_S2x512x128_S1x512x128_1_0_0).toLoadRect)
    = shapeCast S1x512x128 w shapeCasts_S512x128_S1x512x128 from View.readCov_cons_toLoadRect _ _ _ _]
  pointwise

variable (𝒱 : Variants) (c : Dev nD) (bd : Option 𝒱.V) (i : grid0.Coords) (arg3 : Memref sig .tc .vmem S512x256 .bf16) (harg3 : arg3.IsWhole) (arg4 : Memref sig .tc .vmem S512x128 .bf16) (harg4 : arg4.IsWhole) (arg5 : Memref sig .tc .vmem S8192x256 .bf16) (harg5 : arg5.IsWhole) (arg6 : Memref sig .tc .vmem S8192x128 .bf16) (harg6 : arg6.IsWhole) (arg7 : Memref sig .tc .vmem S8192x256 .bf16) (harg7 : arg7.IsWhole) (arg8 : Memref sig .tc .vmem S512x256 .f32) (harg8 : arg8.IsWhole) (arg9 : Memref sig .tc .vmem S2x512x128 .f32) (harg9 : arg9.IsWhole) (arg10 : Memref sig .tc .vmem S2x512x128 .f32) (harg10 : arg10.IsWhole) (arg11 : Memref sig .tc .vmem S2x512x128 .f32) (harg11 : arg11.IsWhole) (arg2 : BitVec 32) (v33 : FVec F S512x256 .bf16) (v64 : FVec F S512x256 .bf16) (X_arg5 : BufTy.Contents (Elt F) arg5.view.ty) (X_arg6 : BufTy.Contents (Elt F) arg6.view.ty) (X_arg7 : BufTy.Contents (Elt F) arg7.view.ty) (k : Fin (k0_t1_loop i).trips) (f_arg9 : BufTy.Contents (Elt F) arg9.view.ty) (f_arg10 : BufTy.Contents (Elt F) arg10.view.ty) (f_arg11 : BufTy.Contents (Elt F) arg11.view.ty)

/-- Head 0's scores against the trip's key tile. -/
def s0 : FVec F S512x512 .f32 := sTile v33 (trip_k0_t1.sl.v240 i arg5 X_arg5 k) (trip_k0_t1.sl.v237 i arg6 X_arg6 k)
/-- Head 1's. -/
def s1 : FVec F S512x512 .f32 := sTile v64 (trip_k0_t1.sl.v245 i arg5 X_arg5 k) (trip_k0_t1.sl.v237 i arg6 X_arg6 k)
/-- Head 0's new maximum. -/
def m0 : FVec F S512x128 .f32 := mNew (s0 i arg5 arg6 v33 X_arg5 X_arg6 k) (plane0 arg9 f_arg9)
/-- Head 1's. -/
def m1 : FVec F S512x128 .f32 := mNew (s1 i arg5 arg6 v64 X_arg5 X_arg6 k) (plane1 arg9 f_arg9)

/-- The trip's stores of the maxima. -/
theorem trip9 : (trip_k0_t1 (F := F) 𝒱 c bd i arg3 harg3 arg4 harg4 arg5 harg5 arg6 harg6 arg7 harg7 arg8 harg8 arg9 harg9 arg10 harg10 arg11 harg11 arg2 v33 v64 X_arg5 X_arg6 X_arg7 k).1 f_arg9 f_arg10 f_arg11
    = [put1 (m1 i arg5 arg6 arg9 v64 X_arg5 X_arg6 k f_arg9), put0 (m0 i arg5 arg6 arg9 v33 X_arg5 X_arg6 k f_arg9)] := by
  unfold trip_k0_t1
  rfl

/-- The trip's stores of the sums of weights. -/
theorem trip10 : (trip_k0_t1 (F := F) 𝒱 c bd i arg3 harg3 arg4 harg4 arg5 harg5 arg6 harg6 arg7 harg7 arg8 harg8 arg9 harg9 arg10 harg10 arg11 harg11 arg2 v33 v64 X_arg5 X_arg6 X_arg7 k).2.1 f_arg9 f_arg10 f_arg11
    = [put1 (lNew (s1 i arg5 arg6 v64 X_arg5 X_arg6 k) (plane1 arg9 f_arg9) (m1 i arg5 arg6 arg9 v64 X_arg5 X_arg6 k f_arg9) (plane1 arg10 f_arg10)),
       put0 (lNew (s0 i arg5 arg6 v33 X_arg5 X_arg6 k) (plane0 arg9 f_arg9) (m0 i arg5 arg6 arg9 v33 X_arg5 X_arg6 k f_arg9) (plane0 arg10 f_arg10))] := by
  unfold trip_k0_t1
  rfl

/-- Head 0's new weighted sum. -/
def a0 : FVec F S512x128 .f32 := aNew (s0 i arg5 arg6 v33 X_arg5 X_arg6 k) (plane0 arg9 f_arg9) (m0 i arg5 arg6 arg9 v33 X_arg5 X_arg6 k f_arg9) (plane0 arg11 f_arg11) (trip_k0_t1.sl.v299 i arg7 X_arg7 k)
/-- Head 1's. -/
def a1 : FVec F S512x128 .f32 := aNew (s1 i arg5 arg6 v64 X_arg5 X_arg6 k) (plane1 arg9 f_arg9) (m1 i arg5 arg6 arg9 v64 X_arg5 X_arg6 k f_arg9) (plane1 arg11 f_arg11)
    (shapeCast S512x128 (View.readAt (Elt F) arg7.view (Rect.unit (s := S8192x256) (k0_off3 i k) S512x128.size (k0_off3_inb i k)).toLoadRect X_arg7) shapeCasts_S512x128_S512x128)

/-- The trip's stores of the weighted sums, first rescaled and then added to. -/
theorem trip11 : ∃ w1 w0 : FVec F S512x128 .f32, (trip_k0_t1 (F := F) 𝒱 c bd i arg3 harg3 arg4 harg4 arg5 harg5 arg6 harg6 arg7 harg7 arg8 harg8 arg9 harg9 arg10 harg10 arg11 harg11 arg2 v33 v64 X_arg5 X_arg6 X_arg7 k).2.2.1 f_arg9 f_arg10 f_arg11
    = [put1 (a1 i arg5 arg6 arg7 arg9 arg11 v64 X_arg5 X_arg6 X_arg7 k f_arg9 f_arg11), put1 w1,
       put0 (a0 i arg5 arg6 arg7 arg9 arg11 v33 X_arg5 X_arg6 X_arg7 k f_arg9 f_arg11), put0 w0] := by
  refine ⟨trip_k0_t1.sl.v343 i arg5 arg6 arg9 arg11 v64 X_arg5 X_arg6 k f_arg9 f_arg11,
    trip_k0_t1.sl.v286 i arg5 arg6 arg9 arg11 v33 X_arg5 X_arg6 k f_arg9 f_arg11, ?_⟩
  have e0 : trip_k0_t1.sl.v301 i arg5 arg6 arg7 arg9 arg11 v33 X_arg5 X_arg6 X_arg7 k f_arg9 f_arg11
      = a0 i arg5 arg6 arg7 arg9 arg11 v33 X_arg5 X_arg6 X_arg7 k f_arg9 f_arg11 := by
    unfold trip_k0_t1.sl.v301 trip_k0_t1.sl.v296 trip_k0_t1.sl.v295
    have := load_put0 arg11 (trip_k0_t1.sl.v286 i arg5 arg6 arg9 arg11 v33 X_arg5 X_arg6 k f_arg9 f_arg11) []
    refine (congrArg (fun x => addf x _) this).trans ?_
    rfl
  have e1 := load_put1 arg11 (trip_k0_t1.sl.v343 i arg5 arg6 arg9 arg11 v64 X_arg5 X_arg6 k f_arg9 f_arg11)
    [put0 (trip_k0_t1.sl.v301 i arg5 arg6 arg7 arg9 arg11 v33 X_arg5 X_arg6 X_arg7 k f_arg9 f_arg11), put0 (trip_k0_t1.sl.v286 i arg5 arg6 arg9 arg11 v33 X_arg5 X_arg6 k f_arg9 f_arg11)]
  have e2 : k0_pay83 (trip_k0_t1.sl.v350 i arg5 arg6 arg9 v64 X_arg5 X_arg6 k f_arg9) (trip_k0_t1.sl.v352 i arg5 arg6 arg7 arg9 arg11 v33 v64 X_arg5 X_arg6 X_arg7 k f_arg9 f_arg11)
        (View.readAt (Elt F) arg7.view (Rect.unit (s := S8192x256) (k0_off3 i k) S512x128.size (k0_off3_inb i k)).toLoadRect X_arg7)
      = shapeCast S1x512x128 (a1 i arg5 arg6 arg7 arg9 arg11 v64 X_arg5 X_arg6 X_arg7 k f_arg9 f_arg11) shapeCasts_S512x128_S1x512x128 := by
    refine (congrArg (fun x => shapeCast S1x512x128 (addf x _) shapeCasts_S512x128_S1x512x128) e1).trans ?_
    rfl
  have e3 : trip_k0_t1.sl.v304 i arg5 arg6 arg7 arg9 arg11 v33 X_arg5 X_arg6 X_arg7 k f_arg9 f_arg11 = shapeCast S1x512x128 (a0 i arg5 arg6 arg7 arg9 arg11 v33 X_arg5 X_arg6 X_arg7 k f_arg9 f_arg11) shapeCasts_S512x128_S1x512x128 := by
    unfold trip_k0_t1.sl.v304
    rw [e0]
  unfold trip_k0_t1
  dsimp only
  rw [e2]
  unfold trip_k0_t1.sl.HW_arg11_3
  rw [e3]
  rfl

end Trip

end Cert.KernelIdeal.Attn

end
-- ==== Proof.State.lean ====
/- The loop over the key tiles below the diagonal: after `k` trips the scratch buffers hold, for each of the block's two
heads and each query row, the maximum, the sum of weights and the weighted sum over the first `512 k` keys. -/
module

public import proofs.«01_k».proof.Proof.Trip

@[expose] public section

set_option maxRecDepth 16384

noncomputable section

namespace Cert.KernelIdeal.Attn

open Cert.KernelIdeal Cert.KernelIdeal.Gen Cert.Online Idealize.ShloMosaic Idealize.ShloMosaic.TcCoe Idealize.ShloMosaic.Tactic Idealize.SL.Sem

/-- A query row's score against key `k`, the head's 128 own lanes of the keys starting at column `o`. -/
def qk (q : FVec Ideal S512x256 .bf16) (x2 : FVec Ideal S8192x256 .bf16) (x3 : FVec Ideal S8192x128 .bf16) (o : ℕ) (ho : o ≤ 128)
    (r : Fin 512) (k : ℕ) : EReal :=
  if h : k < 8192 then ∑ d : Fin 128, q (ix2 r ⟨d.val, by omega⟩) * x2 (ix2 ⟨k, h⟩ ⟨o + d.val, by omega⟩)
      + ∑ d : Fin 128, q (ix2 r ⟨128 + d.val, by omega⟩) * x3 (ix2 ⟨k, h⟩ d) else ⊥

/-- The same, −∞ for the keys behind the query. -/
def cqk (n : ℕ) (q : FVec Ideal S512x256 .bf16) (x2 : FVec Ideal S8192x256 .bf16) (x3 : FVec Ideal S8192x128 .bf16) (o : ℕ) (ho : o ≤ 128)
    (r : Fin 512) (k : ℕ) : EReal := if k ≤ n + r.val then qk q x2 x3 o ho r k else ⊥

/-- A head's value of key `k` in a lane. -/
def val (x4 : FVec Ideal S8192x256 .bf16) (o : ℕ) (ho : o ≤ 128) (l : Fin 128) (k : ℕ) : EReal :=
  if h : k < 8192 then x4 (ix2 ⟨k, h⟩ ⟨o + l.val, by omega⟩) else ⊥

variable (i : grid0.Coords) (arg5 : Memref sig .tc .vmem S8192x256 .bf16) (arg6 : Memref sig .tc .vmem S8192x128 .bf16) (arg7 : Memref sig .tc .vmem S8192x256 .bf16)
  (v33 v64 : FVec Ideal S512x256 .bf16)
  (X_arg5 : BufTy.Contents (Elt Ideal) arg5.view.ty) (X_arg6 : BufTy.Contents (Elt Ideal) arg6.view.ty) (X_arg7 : BufTy.Contents (Elt Ideal) arg7.view.ty)
  (k : Fin (k0_t1_loop i).trips)

/-- The loop takes the tiles before the block's own. -/
theorem trips_eq : ∀ i : grid0.Coords, (k0_t1_loop i).trips = (i 2).val := by decide +kernel

/-- Head 0's first 128 lanes of the trip's key tile. -/
theorem kn0_apply (hk : k.val < 16) (c : Fin 512) (d : Fin 128) : trip_k0_t1.sl.v240 i arg5 X_arg5 k (ix2 c d)
    = View.read (Elt Ideal) arg5.view X_arg5 (ix2 ⟨512 * k.val + c.val, by omega⟩ ⟨0 + d.val, by omega⟩) := by
  unfold trip_k0_t1.sl.v240
  rw [View.readAt_eq_ld]
  pointwise
  congr 2 <;> exact Fin.ext (by simp [k0_off2_eq])

/-- Head 1's. -/
theorem kn1_apply (hk : k.val < 16) (c : Fin 512) (d : Fin 128) : trip_k0_t1.sl.v245 i arg5 X_arg5 k (ix2 c d)
    = View.read (Elt Ideal) arg5.view X_arg5 (ix2 ⟨512 * k.val + c.val, by omega⟩ ⟨128 + d.val, by omega⟩) := by
  unfold trip_k0_t1.sl.v245
  rw [View.readAt_eq_ld]
  pointwise
  congr 2 <;> exact Fin.ext (by simp [k0_off3_eq])

/-- The shared lanes of the trip's key tile. -/
theorem kr_apply (hk : k.val < 16) (c : Fin 512) (d : Fin 128) : trip_k0_t1.sl.v237 i arg6 X_arg6 k (ix2 c d)
    = View.read (Elt Ideal) arg6.view X_arg6 (ix2 ⟨512 * k.val + c.val, by omega⟩ d) := by
  unfold trip_k0_t1.sl.v237
  rw [View.readAt_eq_ld]
  pointwise
  congr 2
  · exact Fin.ext (by simp [k0_off1_eq])
  · exact Fin.ext (by simp [k0_off1_eq])

/-- Head 0's values of the trip's key tile. -/
theorem v0_apply (hk : k.val < 16) (c : Fin 512) (d : Fin 128) : trip_k0_t1.sl.v299 i arg7 X_arg7 k (ix2 c d)
    = View.read (Elt Ideal) arg7.view X_arg7 (ix2 ⟨512 * k.val + c.val, by omega⟩ ⟨0 + d.val, by omega⟩) := by
  unfold trip_k0_t1.sl.v299
  rw [View.readAt_eq_ld]
  pointwise
  congr 2 <;> exact Fin.ext (by simp [k0_off2_eq])

/-- Head 1's. -/
theorem v1_apply (hk : k.val < 16) (c : Fin 512) (d : Fin 128) :
    shapeCast S512x128 (View.readAt (Elt Ideal) arg7.view (Rect.unit (s := S8192x256) (k0_off3 i k) S512x128.size (k0_off3_inb i k)).toLoadRect X_arg7) shapeCasts_S512x128_S512x128 (ix2 c d)
    = View.read (Elt Ideal) arg7.view X_arg7 (ix2 ⟨512 * k.val + c.val, by omega⟩ ⟨128 + d.val, by omega⟩) := by
  rw [View.readAt_eq_ld]
  pointwise
  congr 2 <;> exact Fin.ext (by simp [k0_off3_eq])

theorem s0_apply (hi : (i 2).val < 16) (r c : Fin 512) : s0 i arg5 arg6 v33 X_arg5 X_arg6 k (ix2 r c)
    = cqk (512 * (i 2).val) v33 (View.read (Elt Ideal) arg5.view X_arg5) (View.read (Elt Ideal) arg6.view X_arg6) 0 (by omega) r (512 * k.val + c.val) := by
  have hk : k.val < (i 2).val := lt_of_lt_of_eq k.isLt (trips_eq i)
  unfold s0 cqk qk
  rw [sTile_apply, if_pos (by omega), dif_pos (by omega)]
  simp only [kn0_apply i arg5 X_arg5 k (by omega), kr_apply i arg6 X_arg6 k (by omega)]

theorem s1_apply (hi : (i 2).val < 16) (r c : Fin 512) : s1 i arg5 arg6 v64 X_arg5 X_arg6 k (ix2 r c)
    = cqk (512 * (i 2).val) v64 (View.read (Elt Ideal) arg5.view X_arg5) (View.read (Elt Ideal) arg6.view X_arg6) 128 (by omega) r (512 * k.val + c.val) := by
  have hk : k.val < (i 2).val := lt_of_lt_of_eq k.isLt (trips_eq i)
  unfold s1 cqk qk
  rw [sTile_apply, if_pos (by omega), dif_pos (by omega)]
  simp only [kn1_apply i arg5 X_arg5 k (by omega), kr_apply i arg6 X_arg6 k (by omega)]

/-- What the scratch buffers hold once the first `n` keys were seen: per head `e`, row `r` and lane `l`, the maximum and
the sum of weights of the row's scores `S e r`, and the weighted sum of the lane's values `V e l`. -/
structure Holds (S : Fin 2 → Fin 512 → ℕ → EReal) (V : Fin 2 → Fin 128 → ℕ → EReal) (n : ℕ) (x9 x10 x11 : FVec Ideal S2x512x128 .f32) : Prop where
  m : ∀ e r l, x9 (ix3 e r l) = runMax (S e r) n
  s : ∀ e r l, x10 (ix3 e r l) = runSum (S e r) n
  a : ∀ e r l, x11 (ix3 e r l) = runAcc (S e r) (V e l) n

/-- Before any key. -/
theorem Holds.zero (S : Fin 2 → Fin 512 → ℕ → EReal) (V : Fin 2 → Fin 128 → ℕ → EReal) (x9 x10 x11 : FVec Ideal S2x512x128 .f32)
    (h9 : ∀ e r l, x9 (ix3 e r l) = ⊥) (h10 : ∀ e r l, x10 (ix3 e r l) = 0) (h11 : ∀ e r l, x11 (ix3 e r l) = 0) : Holds S V 0 x9 x10 x11 :=
  ⟨fun e r l => by rw [h9, runMax_zero], fun e r l => by rw [h10, runSum_zero], fun e r l => by rw [h11, runAcc_zero]⟩

/-- The two heads' scores. -/
def SS (n : ℕ) (q0 q1 : FVec Ideal S512x256 .bf16) (x2 : FVec Ideal S8192x256 .bf16) (x3 : FVec Ideal S8192x128 .bf16) : Fin 2 → Fin 512 → ℕ → EReal :=
  ![cqk n q0 x2 x3 0 (by omega), cqk n q1 x2 x3 128 (by omega)]

/-- The two heads' values. -/
def VV (x4 : FVec Ideal S8192x256 .bf16) : Fin 2 → Fin 128 → ℕ → EReal := ![val x4 0 (by omega), val x4 128 (by omega)]

variable (𝒱 : Variants) (c : Dev nD) (bd : Option 𝒱.V) (arg3 : Memref sig .tc .vmem S512x256 .bf16) (harg3 : arg3.IsWhole) (arg4 : Memref sig .tc .vmem S512x128 .bf16) (harg4 : arg4.IsWhole) (harg5 : arg5.IsWhole) (harg6 : arg6.IsWhole) (harg7 : arg7.IsWhole) (arg8 : Memref sig .tc .vmem S512x256 .f32) (harg8 : arg8.IsWhole) (arg9 : Memref sig .tc .vmem S2x512x128 .f32) (harg9 : arg9.IsWhole) (arg10 : Memref sig .tc .vmem S2x512x128 .f32) (harg10 : arg10.IsWhole) (arg11 : Memref sig .tc .vmem S2x512x128 .f32) (harg11 : arg11.IsWhole) (arg2 : BitVec 32)
  (f9 : BufTy.Contents (Elt Ideal) arg9.view.ty) (f10 : BufTy.Contents (Elt Ideal) arg10.view.ty) (f11 : BufTy.Contents (Elt Ideal) arg11.view.ty)

/-- One trip. -/
theorem trip_holds (hi : (i 2).val < 16)
    (hS : ∀ e r, Row (SS (512 * (i 2).val) v33 v64 (View.read (Elt Ideal) arg5.view X_arg5) (View.read (Elt Ideal) arg6.view X_arg6) e r))
    (h : Holds (SS (512 * (i 2).val) v33 v64 (View.read (Elt Ideal) arg5.view X_arg5) (View.read (Elt Ideal) arg6.view X_arg6)) (VV (View.read (Elt Ideal) arg7.view X_arg7)) (512 * k.val)
      (View.read (Elt Ideal) arg9.view f9) (View.read (Elt Ideal) arg10.view f10) (View.read (Elt Ideal) arg11.view f11)) :
    Holds (SS (512 * (i 2).val) v33 v64 (View.read (Elt Ideal) arg5.view X_arg5) (View.read (Elt Ideal) arg6.view X_arg6)) (VV (View.read (Elt Ideal) arg7.view X_arg7)) (512 * (k.val + 1))
      (View.read (Elt Ideal) arg9.view (arg9.view.writes (Elt Ideal) f9 ((trip_k0_t1 𝒱 c bd i arg3 harg3 arg4 harg4 arg5 harg5 arg6 harg6 arg7 harg7 arg8 harg8 arg9 harg9 arg10 harg10 arg11 harg11 arg2 v33 v64 X_arg5 X_arg6 X_arg7 k).1 f9 f10 f11)))
      (View.read (Elt Ideal) arg10.view (arg10.view.writes (Elt Ideal) f10 ((trip_k0_t1 𝒱 c bd i arg3 harg3 arg4 harg4 arg5 harg5 arg6 harg6 arg7 harg7 arg8 harg8 arg9 harg9 arg10 harg10 arg11 harg11 arg2 v33 v64 X_arg5 X_arg6 X_arg7 k).2.1 f9 f10 f11)))
      (View.read (Elt Ideal) arg11.view (arg11.view.writes (Elt Ideal) f11 ((trip_k0_t1 𝒱 c bd i arg3 harg3 arg4 harg4 arg5 harg5 arg6 harg6 arg7 harg7 arg8 harg8 arg9 harg9 arg10 harg10 arg11 harg11 arg2 v33 v64 X_arg5 X_arg6 X_arg7 k).2.2.1 f9 f10 f11))) := by
  obtain ⟨w1, w0, e11⟩ := trip11 𝒱 c bd i arg3 harg3 arg4 harg4 arg5 harg5 arg6 harg6 arg7 harg7 arg8 harg8 arg9 harg9 arg10 harg10 arg11 harg11 arg2 v33 v64 X_arg5 X_arg6 X_arg7 k f9 f10 f11
  have hk : k.val < (i 2).val := lt_of_lt_of_eq k.isLt (trips_eq i)
  have hm0 := mNew_apply _ _ _ _ (s0_apply i arg5 arg6 v33 X_arg5 X_arg6 k hi) (fun r l => (plane0_apply arg9 f9 r l).trans (h.m 0 r l))
  have hm1 := mNew_apply _ _ _ _ (s1_apply i arg5 arg6 v64 X_arg5 X_arg6 k hi) (fun r l => (plane1_apply arg9 f9 r l).trans (h.m 1 r l))
  have hl0 := lNew_apply _ _ _ _ _ _ (hS 0) (s0_apply i arg5 arg6 v33 X_arg5 X_arg6 k hi) (fun r l => (plane0_apply arg9 f9 r l).trans (h.m 0 r l)) hm0
    (fun r l => (plane0_apply arg10 f10 r l).trans (h.s 0 r l))
  have hl1 := lNew_apply _ _ _ _ _ _ (hS 1) (s1_apply i arg5 arg6 v64 X_arg5 X_arg6 k hi) (fun r l => (plane1_apply arg9 f9 r l).trans (h.m 1 r l)) hm1
    (fun r l => (plane1_apply arg10 f10 r l).trans (h.s 1 r l))
  have hv0 : ∀ (c : Fin 512) (l : Fin 128), trip_k0_t1.sl.v299 i arg7 X_arg7 k (ix2 c l) = VV (View.read (Elt Ideal) arg7.view X_arg7) 0 l (512 * k.val + c.val) := by
    intro c l
    rw [v0_apply i arg7 X_arg7 k (by omega)]
    show _ = val _ 0 (by omega) l _
    unfold val
    rw [dif_pos (show 512 * k.val + c.val < 8192 by omega)]
  have hv1 : ∀ (c : Fin 512) (l : Fin 128), shapeCast S512x128 (View.readAt (Elt Ideal) arg7.view (Rect.unit (s := S8192x256) (k0_off3 i k) S512x128.size (k0_off3_inb i k)).toLoadRect X_arg7) shapeCasts_S512x128_S512x128 (ix2 c l)
      = VV (View.read (Elt Ideal) arg7.view X_arg7) 1 l (512 * k.val + c.val) := by
    intro c l
    rw [v1_apply i arg7 X_arg7 k (by omega)]
    show _ = val _ 128 (by omega) l _
    unfold val
    rw [dif_pos (show 512 * k.val + c.val < 8192 by omega)]
  have ha0 := aNew_apply _ _ _ _ _ _ _ _ (hS 0) (s0_apply i arg5 arg6 v33 X_arg5 X_arg6 k hi) (fun r l => (plane0_apply arg9 f9 r l).trans (h.m 0 r l)) hm0
    (fun r l => (plane0_apply arg11 f11 r l).trans (h.a 0 r l)) hv0
  have ha1 := aNew_apply _ _ _ _ _ _ _ _ (hS 1) (s1_apply i arg5 arg6 v64 X_arg5 X_arg6 k hi) (fun r l => (plane1_apply arg9 f9 r l).trans (h.m 1 r l)) hm1
    (fun r l => (plane1_apply arg11 f11 r l).trans (h.a 1 r l)) hv1
  rw [trip9, trip10, e11, show 512 * (k.val + 1) = 512 * k.val + 512 by omega]
  refine ⟨fun e r l => ?_, fun e r l => ?_, fun e r l => ?_⟩
  · match e with
    | 0 => rw [read_put1_0, read_put0]; exact hm0 r l
    | 1 => rw [read_put1]; exact hm1 r l
  · match e with
    | 0 => rw [read_put1_0, read_put0]; exact hl0 r l
    | 1 => rw [read_put1]; exact hl1 r l
  · match e with
    | 0 => rw [read_put1_0, read_put1_0, read_put0]; exact ha0 r l
    | 1 => rw [read_put1]; exact ha1 r l

/-- The trips before the block's own tile. -/
theorem loop_holds (hi : (i 2).val < 16) (hS : ∀ e r, Row ((SS (512 * (i 2).val) v33 v64 (View.read (Elt Ideal) arg5.view X_arg5) (View.read (Elt Ideal) arg6.view X_arg6)) e r))
    (h : Holds (SS (512 * (i 2).val) v33 v64 (View.read (Elt Ideal) arg5.view X_arg5) (View.read (Elt Ideal) arg6.view X_arg6)) (VV (View.read (Elt Ideal) arg7.view X_arg7)) 0 (View.read (Elt Ideal) arg9.view f9) (View.read (Elt Ideal) arg10.view f10) (View.read (Elt Ideal) arg11.view f11)) :
    ∀ n : ℕ, n ≤ (k0_t1_loop i).trips → Holds (SS (512 * (i 2).val) v33 v64 (View.read (Elt Ideal) arg5.view X_arg5) (View.read (Elt Ideal) arg6.view X_arg6)) (VV (View.read (Elt Ideal) arg7.view X_arg7)) (512 * n)
      (View.read (Elt Ideal) arg9.view (arg9.view.writes (Elt Ideal) f9 (pb_k0_t1 𝒱 c bd i arg3 harg3 arg4 harg4 arg5 harg5 arg6 harg6 arg7 harg7 arg8 harg8 arg9 harg9 arg10 harg10 arg11 harg11 arg2 v33 v64 X_arg5 X_arg6 X_arg7 f9 f10 f11 n).1))
      (View.read (Elt Ideal) arg10.view (arg10.view.writes (Elt Ideal) f10 (pb_k0_t1 𝒱 c bd i arg3 harg3 arg4 harg4 arg5 harg5 arg6 harg6 arg7 harg7 arg8 harg8 arg9 harg9 arg10 harg10 arg11 harg11 arg2 v33 v64 X_arg5 X_arg6 X_arg7 f9 f10 f11 n).2.1))
      (View.read (Elt Ideal) arg11.view (arg11.view.writes (Elt Ideal) f11 (pb_k0_t1 𝒱 c bd i arg3 harg3 arg4 harg4 arg5 harg5 arg6 harg6 arg7 harg7 arg8 harg8 arg9 harg9 arg10 harg10 arg11 harg11 arg2 v33 v64 X_arg5 X_arg6 X_arg7 f9 f10 f11 n).2.2)) := by
  intro n
  induction n with
  | zero => intro _; exact h
  | succ n ih =>
    intro hn
    have := trip_holds i arg5 arg6 arg7 v33 v64 X_arg5 X_arg6 X_arg7 ⟨n, hn⟩ 𝒱 c bd arg3 harg3 arg4 harg4 harg5 harg6 harg7 arg8 harg8 arg9 harg9 arg10 harg10 arg11 harg11 arg2 _ _ _ hi hS (ih (by omega))
    rw [← View.writes_append, ← View.writes_append, ← View.writes_append] at this
    rw [pb_k0_t1_succ 𝒱 c bd i arg3 harg3 arg4 harg4 arg5 harg5 arg6 harg6 arg7 harg7 arg8 harg8 arg9 harg9 arg10 harg10 arg11 harg11 arg2 v33 v64 X_arg5 X_arg6 X_arg7 f9 f10 f11 ⟨n, hn⟩]
    exact this

end Cert.KernelIdeal.Attn

end
-- ==== Proof.Block.lean ====
/- One block of the attention: what the block's body leaves, head by head, from the block's queries, keys and values. -/
module

public import proofs.«01_k».proof.Proof.State
public import proofs.«01_k».proof.Proof.Gen.KernelIdeal.Frame

@[expose] public section

set_option maxRecDepth 16384

noncomputable section

namespace Cert.KernelIdeal.Attn

open Cert.KernelIdeal Cert.KernelIdeal.Gen Cert.Online Idealize.ShloMosaic Idealize.ShloMosaic.TcCoe Idealize.ShloMosaic.Tactic Idealize.SL.Sem

section Generic

variable {F : FTy → Type} [FloatOps F] [Named F]

variable (c : Dev nD) (i : grid0.Coords) (arg3 : Memref sig .tc .vmem S512x256 .bf16) (harg3 : arg3.IsWhole) (arg4 : Memref sig .tc .vmem S512x128 .bf16) (harg4 : arg4.IsWhole) (arg5 : Memref sig .tc .vmem S8192x256 .bf16) (harg5 : arg5.IsWhole) (arg6 : Memref sig .tc .vmem S8192x128 .bf16) (harg6 : arg6.IsWhole) (arg7 : Memref sig .tc .vmem S8192x256 .bf16) (harg7 : arg7.IsWhole) (arg8 : Memref sig .tc .vmem S512x256 .f32) (harg8 : arg8.IsWhole) (arg9 : Memref sig .tc .vmem S2x512x128 .f32) (harg9 : arg9.IsWhole) (arg10 : Memref sig .tc .vmem S2x512x128 .f32) (harg10 : arg10.IsWhole) (arg11 : Memref sig .tc .vmem S2x512x128 .f32) (harg11 : arg11.IsWhole) (x0 : Vec F S512x256 .bf16) (x1 : Vec F S512x128 .bf16) (x2 : Vec F S8192x256 .bf16) (x3 : Vec F S8192x128 .bf16) (x4 : Vec F S8192x256 .bf16)

/-- The stores of the trips of the first loop. -/
def P1 := pb_k0_t1 (F := F) Variants.none c none i arg3 harg3 arg4 harg4 arg5 harg5 arg6 harg6 arg7 harg7 arg8 harg8 arg9 harg9 arg10 harg10 arg11 harg11 (BitVec.ofNat 32 (i 2).val) (kernelRun0_A.sl.r_1 c arg3 harg3 arg4 harg4 x0 x1) (kernelRun0_A.sl.r_2 c arg3 harg3 arg4 harg4 x0 x1) (harg5.unread x2) (harg6.unread x3) (harg7.unread x4)
  (arg9.view.writes (Elt F) arg9.view.junk kernelRun0_A.sl.HS0_1) (arg10.view.writes (Elt F) arg10.view.junk kernelRun0_A.sl.HS1_1) (arg11.view.writes (Elt F) arg11.view.junk kernelRun0_A.sl.HS2_1)
  (Scf.trips (k0_t1_loop i).lb (k0_t1_loop i).ub (k0_t1_loop i).st)

/-- The stores of the trips of the second loop, which takes none. -/
def P2 := pb_k0_t2 (F := F) Variants.none c none i arg3 harg3 arg4 harg4 arg5 harg5 arg6 harg6 arg7 harg7 arg8 harg8 arg9 harg9 arg10 harg10 arg11 harg11 (BitVec.ofNat 32 (i 2).val) (kernelRun0_A.sl.r_1 c arg3 harg3 arg4 harg4 x0 x1) (kernelRun0_A.sl.r_2 c arg3 harg3 arg4 harg4 x0 x1) (kernelRun0_A.sl.v81 i) (harg5.unread x2) (harg6.unread x3) (harg7.unread x4)
  (arg9.view.writes (Elt F) arg9.view.junk ((P1 c i arg3 harg3 arg4 harg4 arg5 harg5 arg6 harg6 arg7 harg7 arg8 harg8 arg9 harg9 arg10 harg10 arg11 harg11 x0 x1 x2 x3 x4).1 ++ kernelRun0_A.sl.HS0_1)) (arg10.view.writes (Elt F) arg10.view.junk ((P1 c i arg3 harg3 arg4 harg4 arg5 harg5 arg6 harg6 arg7 harg7 arg8 harg8 arg9 harg9 arg10 harg10 arg11 harg11 x0 x1 x2 x3 x4).2.1 ++ kernelRun0_A.sl.HS1_1)) (arg11.view.writes (Elt F) arg11.view.junk ((P1 c i arg3 harg3 arg4 harg4 arg5 harg5 arg6 harg6 arg7 harg7 arg8 harg8 arg9 harg9 arg10 harg10 arg11 harg11 x0 x1 x2 x3 x4).2.2 ++ kernelRun0_A.sl.HS2_1))
  (Scf.trips (k0_t2_loop i).lb (k0_t2_loop i).ub (k0_t2_loop i).st)

/-- All stores to the maxima before the block's own tile. -/
def L0 : List (View.Piece (Elt F) S2x512x128 .f32) := (P2 c i arg3 harg3 arg4 harg4 arg5 harg5 arg6 harg6 arg7 harg7 arg8 harg8 arg9 harg9 arg10 harg10 arg11 harg11 x0 x1 x2 x3 x4).1 ++ ((P1 c i arg3 harg3 arg4 harg4 arg5 harg5 arg6 harg6 arg7 harg7 arg8 harg8 arg9 harg9 arg10 harg10 arg11 harg11 x0 x1 x2 x3 x4).1 ++ kernelRun0_A.sl.HS0_1)
/-- To the sums of weights. -/
def L1 : List (View.Piece (Elt F) S2x512x128 .f32) := (P2 c i arg3 harg3 arg4 harg4 arg5 harg5 arg6 harg6 arg7 harg7 arg8 harg8 arg9 harg9 arg10 harg10 arg11 harg11 x0 x1 x2 x3 x4).2.1 ++ ((P1 c i arg3 harg3 arg4 harg4 arg5 harg5 arg6 harg6 arg7 harg7 arg8 harg8 arg9 harg9 arg10 harg10 arg11 harg11 x0 x1 x2 x3 x4).2.1 ++ kernelRun0_A.sl.HS1_1)
/-- To the weighted sums. -/
def L2 : List (View.Piece (Elt F) S2x512x128 .f32) := (P2 c i arg3 harg3 arg4 harg4 arg5 harg5 arg6 harg6 arg7 harg7 arg8 harg8 arg9 harg9 arg10 harg10 arg11 harg11 x0 x1 x2 x3 x4).2.2 ++ ((P1 c i arg3 harg3 arg4 harg4 arg5 harg5 arg6 harg6 arg7 harg7 arg8 harg8 arg9 harg9 arg10 harg10 arg11 harg11 x0 x1 x2 x3 x4).2.2 ++ kernelRun0_A.sl.HS2_1)

/-- The buffers at that point. -/
def G0 : BufTy.Contents (Elt F) arg9.view.ty := (arg9.view.writes (Elt F) arg9.view.junk (L0 c i arg3 harg3 arg4 harg4 arg5 harg5 arg6 harg6 arg7 harg7 arg8 harg8 arg9 harg9 arg10 harg10 arg11 harg11 x0 x1 x2 x3 x4))
def G1 : BufTy.Contents (Elt F) arg10.view.ty := (arg10.view.writes (Elt F) arg10.view.junk (L1 c i arg3 harg3 arg4 harg4 arg5 harg5 arg6 harg6 arg7 harg7 arg8 harg8 arg9 harg9 arg10 harg10 arg11 harg11 x0 x1 x2 x3 x4))
def G2 : BufTy.Contents (Elt F) arg11.view.ty := (arg11.view.writes (Elt F) arg11.view.junk (L2 c i arg3 harg3 arg4 harg4 arg5 harg5 arg6 harg6 arg7 harg7 arg8 harg8 arg9 harg9 arg10 harg10 arg11 harg11 x0 x1 x2 x3 x4))

/-- The keys behind the query cut off the block's own tile. -/
def cut (s : FVec F S512x512 .f32) : FVec F S512x512 .f32 :=
  select (cmpi .sle (iota .tc S512x512 32 [1] iota_S512x512_d1_w32) (iota .tc S512x512 32 [0] iota_S512x512_d0_w32)) s
    (broadcast S512x512 (Named.named κ "mask" 0xF149F2CA#32))

/-- The block's own tile of head 0's and of head 1's first key lanes, of the shared lanes, and of the two heads' values. -/
def dk0 : FVec F S512x128 .bf16 := shapeCast S512x128 (View.readAt (Elt F) arg5.view (Rect.unit (s := S8192x256) (k0_off8 i) S512x128.size (k0_off8_inb i)).toLoadRect (harg5.unread x2)) shapeCasts_S512x128_S512x128
def dk1 : FVec F S512x128 .bf16 := shapeCast S512x128 (View.readAt (Elt F) arg5.view (Rect.unit (s := S8192x256) (k0_off9 i) S512x128.size (k0_off9_inb i)).toLoadRect (harg5.unread x2)) shapeCasts_S512x128_S512x128
def dkr : FVec F S512x128 .bf16 := shapeCast S512x128 (View.readAt (Elt F) arg6.view (Rect.unit (s := S8192x128) (k0_off7 i) S512x128.size (k0_off7_inb i)).toLoadRect (harg6.unread x3)) shapeCasts_S512x128_S512x128
def dv0 : FVec F S512x128 .bf16 := shapeCast S512x128 (View.readAt (Elt F) arg7.view (Rect.unit (s := S8192x256) (k0_off8 i) S512x128.size (k0_off8_inb i)).toLoadRect (harg7.unread x4)) shapeCasts_S512x128_S512x128
def dv1 : FVec F S512x128 .bf16 := shapeCast S512x128 (View.readAt (Elt F) arg7.view (Rect.unit (s := S8192x256) (k0_off9 i) S512x128.size (k0_off9_inb i)).toLoadRect (harg7.unread x4)) shapeCasts_S512x128_S512x128

/-- The scores of the block's own tile. -/
def d0 : FVec F S512x512 .f32 := cut (sTile (kernelRun0_A.sl.r_1 c arg3 harg3 arg4 harg4 x0 x1) (dk0 i arg5 harg5 x2) (dkr i arg6 harg6 x3))
def d1 : FVec F S512x512 .f32 := cut (sTile (kernelRun0_A.sl.r_2 c arg3 harg3 arg4 harg4 x0 x1) (dk1 i arg5 harg5 x2) (dkr i arg6 harg6 x3))

/-- Head 0's last maximum. -/
def e0 : FVec F S512x128 .f32 := mNew (d0 c i arg3 harg3 arg4 harg4 arg5 harg5 arg6 harg6 x0 x1 x2 x3) (plane0 arg9 (G0 c i arg3 harg3 arg4 harg4 arg5 harg5 arg6 harg6 arg7 harg7 arg8 harg8 arg9 harg9 arg10 harg10 arg11 harg11 x0 x1 x2 x3 x4))

theorem r6_eq : kernelRun0_A.sl.r_6 c i arg3 harg3 arg4 harg4 arg5 harg5 arg6 harg6 arg7 harg7 arg8 harg8 arg9 harg9 arg10 harg10 arg11 harg11 x0 x1 x2 x3 x4 = e0 c i arg3 harg3 arg4 harg4 arg5 harg5 arg6 harg6 arg7 harg7 arg8 harg8 arg9 harg9 arg10 harg10 arg11 harg11 x0 x1 x2 x3 x4 := rfl

theorem hs0_eq : kernelRun0_A.sl.HS0_1_1 c i arg3 harg3 arg4 harg4 arg5 harg5 arg6 harg6 arg7 harg7 arg8 harg8 arg9 harg9 arg10 harg10 arg11 harg11 x0 x1 x2 x3 x4 = put0 (e0 c i arg3 harg3 arg4 harg4 arg5 harg5 arg6 harg6 arg7 harg7 arg8 harg8 arg9 harg9 arg10 harg10 arg11 harg11 x0 x1 x2 x3 x4) :: L0 c i arg3 harg3 arg4 harg4 arg5 harg5 arg6 harg6 arg7 harg7 arg8 harg8 arg9 harg9 arg10 harg10 arg11 harg11 x0 x1 x2 x3 x4 := rfl

theorem hs1_eq : kernelRun0_A.sl.HS1_1_1 c i arg3 harg3 arg4 harg4 arg5 harg5 arg6 harg6 arg7 harg7 arg8 harg8 arg9 harg9 arg10 harg10 arg11 harg11 x0 x1 x2 x3 x4 = put0 (lNew (d0 c i arg3 harg3 arg4 harg4 arg5 harg5 arg6 harg6 x0 x1 x2 x3) (plane0 arg9 (G0 c i arg3 harg3 arg4 harg4 arg5 harg5 arg6 harg6 arg7 harg7 arg8 harg8 arg9 harg9 arg10 harg10 arg11 harg11 x0 x1 x2 x3 x4)) (e0 c i arg3 harg3 arg4 harg4 arg5 harg5 arg6 harg6 arg7 harg7 arg8 harg8 arg9 harg9 arg10 harg10 arg11 harg11 x0 x1 x2 x3 x4) (plane0 arg10 (G1 c i arg3 harg3 arg4 harg4 arg5 harg5 arg6 harg6 arg7 harg7 arg8 harg8 arg9 harg9 arg10 harg10 arg11 harg11 x0 x1 x2 x3 x4))) :: L1 c i arg3 harg3 arg4 harg4 arg5 harg5 arg6 harg6 arg7 harg7 arg8 harg8 arg9 harg9 arg10 harg10 arg11 harg11 x0 x1 x2 x3 x4 := rfl

/-- Head 0's last weighted sum. -/
def f0 : FVec F S512x128 .f32 := aNew (d0 c i arg3 harg3 arg4 harg4 arg5 harg5 arg6 harg6 x0 x1 x2 x3) (plane0 arg9 (G0 c i arg3 harg3 arg4 harg4 arg5 harg5 arg6 harg6 arg7 harg7 arg8 harg8 arg9 harg9 arg10 harg10 arg11 harg11 x0 x1 x2 x3 x4)) (e0 c i arg3 harg3 arg4 harg4 arg5 harg5 arg6 harg6 arg7 harg7 arg8 harg8 arg9 harg9 arg10 harg10 arg11 harg11 x0 x1 x2 x3 x4) (plane0 arg11 (G2 c i arg3 harg3 arg4 harg4 arg5 harg5 arg6 harg6 arg7 harg7 arg8 harg8 arg9 harg9 arg10 harg10 arg11 harg11 x0 x1 x2 x3 x4)) (dv0 i arg7 harg7 x4)

theorem hs2_eq : ∃ w, kernelRun0_A.sl.HS2_2 c i arg3 harg3 arg4 harg4 arg5 harg5 arg6 harg6 arg7 harg7 arg8 harg8 arg9 harg9 arg10 harg10 arg11 harg11 x0 x1 x2 x3 x4 = put0 (f0 c i arg3 harg3 arg4 harg4 arg5 harg5 arg6 harg6 arg7 harg7 arg8 harg8 arg9 harg9 arg10 harg10 arg11 harg11 x0 x1 x2 x3 x4) :: put0 w :: L2 c i arg3 harg3 arg4 harg4 arg5 harg5 arg6 harg6 arg7 harg7 arg8 harg8 arg9 harg9 arg10 harg10 arg11 harg11 x0 x1 x2 x3 x4 := by
  refine ⟨mulf (alpha (plane0 arg9 (G0 c i arg3 harg3 arg4 harg4 arg5 harg5 arg6 harg6 arg7 harg7 arg8 harg8 arg9 harg9 arg10 harg10 arg11 harg11 x0 x1 x2 x3 x4)) (e0 c i arg3 harg3 arg4 harg4 arg5 harg5 arg6 harg6 arg7 harg7 arg8 harg8 arg9 harg9 arg10 harg10 arg11 harg11 x0 x1 x2 x3 x4)) (plane0 arg11 (G2 c i arg3 harg3 arg4 harg4 arg5 harg5 arg6 harg6 arg7 harg7 arg8 harg8 arg9 harg9 arg10 harg10 arg11 harg11 x0 x1 x2 x3 x4)), ?_⟩
  have h := load_put0 arg11 (mulf (alpha (plane0 arg9 (G0 c i arg3 harg3 arg4 harg4 arg5 harg5 arg6 harg6 arg7 harg7 arg8 harg8 arg9 harg9 arg10 harg10 arg11 harg11 x0 x1 x2 x3 x4)) (e0 c i arg3 harg3 arg4 harg4 arg5 harg5 arg6 harg6 arg7 harg7 arg8 harg8 arg9 harg9 arg10 harg10 arg11 harg11 x0 x1 x2 x3 x4)) (plane0 arg11 (G2 c i arg3 harg3 arg4 harg4 arg5 harg5 arg6 harg6 arg7 harg7 arg8 harg8 arg9 harg9 arg10 harg10 arg11 harg11 x0 x1 x2 x3 x4))) (L2 c i arg3 harg3 arg4 harg4 arg5 harg5 arg6 harg6 arg7 harg7 arg8 harg8 arg9 harg9 arg10 harg10 arg11 harg11 x0 x1 x2 x3 x4)
  have h' : kernelRun0_A.sl.r_10 c i arg3 harg3 arg4 harg4 arg5 harg5 arg6 harg6 arg7 harg7 arg8 harg8 arg9 harg9 arg10 harg10 arg11 harg11 x0 x1 x2 x3 x4 = f0 c i arg3 harg3 arg4 harg4 arg5 harg5 arg6 harg6 arg7 harg7 arg8 harg8 arg9 harg9 arg10 harg10 arg11 harg11 x0 x1 x2 x3 x4 := by
    refine (congrArg (fun x => addf x _) h).trans ?_
    rfl
  unfold kernelRun0_A.sl.HS2_2
  rw [h']
  rfl

/-- The maxima once head 0's is stored. -/
def G0' : BufTy.Contents (Elt F) arg9.view.ty := (arg9.view.writes (Elt F) arg9.view.junk (put0 (e0 c i arg3 harg3 arg4 harg4 arg5 harg5 arg6 harg6 arg7 harg7 arg8 harg8 arg9 harg9 arg10 harg10 arg11 harg11 x0 x1 x2 x3 x4) :: L0 c i arg3 harg3 arg4 harg4 arg5 harg5 arg6 harg6 arg7 harg7 arg8 harg8 arg9 harg9 arg10 harg10 arg11 harg11 x0 x1 x2 x3 x4))
/-- The sums of weights. -/
def G1' : BufTy.Contents (Elt F) arg10.view.ty := (arg10.view.writes (Elt F) arg10.view.junk (kernelRun0_A.sl.HS1_1_1 c i arg3 harg3 arg4 harg4 arg5 harg5 arg6 harg6 arg7 harg7 arg8 harg8 arg9 harg9 arg10 harg10 arg11 harg11 x0 x1 x2 x3 x4))
/-- The weighted sums. -/
def G2' : BufTy.Contents (Elt F) arg11.view.ty := (arg11.view.writes (Elt F) arg11.view.junk (kernelRun0_A.sl.HS2_2 c i arg3 harg3 arg4 harg4 arg5 harg5 arg6 harg6 arg7 harg7 arg8 harg8 arg9 harg9 arg10 harg10 arg11 harg11 x0 x1 x2 x3 x4))

/-- Head 1's last maximum. -/
def e1 : FVec F S512x128 .f32 := mNew (d1 c i arg3 harg3 arg4 harg4 arg5 harg5 arg6 harg6 x0 x1 x2 x3) (plane1 arg9 (G0' c i arg3 harg3 arg4 harg4 arg5 harg5 arg6 harg6 arg7 harg7 arg8 harg8 arg9 harg9 arg10 harg10 arg11 harg11 x0 x1 x2 x3 x4))

theorem hs12_eq : kernelRun0_A.sl.HS1_2 c i arg3 harg3 arg4 harg4 arg5 harg5 arg6 harg6 arg7 harg7 arg8 harg8 arg9 harg9 arg10 harg10 arg11 harg11 x0 x1 x2 x3 x4 = put1 (lNew (d1 c i arg3 harg3 arg4 harg4 arg5 harg5 arg6 harg6 x0 x1 x2 x3) (plane1 arg9 (G0' c i arg3 harg3 arg4 harg4 arg5 harg5 arg6 harg6 arg7 harg7 arg8 harg8 arg9 harg9 arg10 harg10 arg11 harg11 x0 x1 x2 x3 x4)) (e1 c i arg3 harg3 arg4 harg4 arg5 harg5 arg6 harg6 arg7 harg7 arg8 harg8 arg9 harg9 arg10 harg10 arg11 harg11 x0 x1 x2 x3 x4) (plane1 arg10 (G1' c i arg3 harg3 arg4 harg4 arg5 harg5 arg6 harg6 arg7 harg7 arg8 harg8 arg9 harg9 arg10 harg10 arg11 harg11 x0 x1 x2 x3 x4))) :: kernelRun0_A.sl.HS1_1_1 c i arg3 harg3 arg4 harg4 arg5 harg5 arg6 harg6 arg7 harg7 arg8 harg8 arg9 harg9 arg10 harg10 arg11 harg11 x0 x1 x2 x3 x4 := rfl

/-- Head 1's last weighted sum. -/
def f1 : FVec F S512x128 .f32 := aNew (d1 c i arg3 harg3 arg4 harg4 arg5 harg5 arg6 harg6 x0 x1 x2 x3) (plane1 arg9 (G0' c i arg3 harg3 arg4 harg4 arg5 harg5 arg6 harg6 arg7 harg7 arg8 harg8 arg9 harg9 arg10 harg10 arg11 harg11 x0 x1 x2 x3 x4)) (e1 c i arg3 harg3 arg4 harg4 arg5 harg5 arg6 harg6 arg7 harg7 arg8 harg8 arg9 harg9 arg10 harg10 arg11 harg11 x0 x1 x2 x3 x4) (plane1 arg11 (G2' c i arg3 harg3 arg4 harg4 arg5 harg5 arg6 harg6 arg7 harg7 arg8 harg8 arg9 harg9 arg10 harg10 arg11 harg11 x0 x1 x2 x3 x4)) (dv1 i arg7 harg7 x4)

theorem hs24_eq : ∃ w, kernelRun0_A.sl.HS2_4 c i arg3 harg3 arg4 harg4 arg5 harg5 arg6 harg6 arg7 harg7 arg8 harg8 arg9 harg9 arg10 harg10 arg11 harg11 x0 x1 x2 x3 x4 = put1 (f1 c i arg3 harg3 arg4 harg4 arg5 harg5 arg6 harg6 arg7 harg7 arg8 harg8 arg9 harg9 arg10 harg10 arg11 harg11 x0 x1 x2 x3 x4) :: put1 w :: kernelRun0_A.sl.HS2_2 c i arg3 harg3 arg4 harg4 arg5 harg5 arg6 harg6 arg7 harg7 arg8 harg8 arg9 harg9 arg10 harg10 arg11 harg11 x0 x1 x2 x3 x4 := by
  refine ⟨mulf (alpha (plane1 arg9 (G0' c i arg3 harg3 arg4 harg4 arg5 harg5 arg6 harg6 arg7 harg7 arg8 harg8 arg9 harg9 arg10 harg10 arg11 harg11 x0 x1 x2 x3 x4)) (e1 c i arg3 harg3 arg4 harg4 arg5 harg5 arg6 harg6 arg7 harg7 arg8 harg8 arg9 harg9 arg10 harg10 arg11 harg11 x0 x1 x2 x3 x4)) (plane1 arg11 (G2' c i arg3 harg3 arg4 harg4 arg5 harg5 arg6 harg6 arg7 harg7 arg8 harg8 arg9 harg9 arg10 harg10 arg11 harg11 x0 x1 x2 x3 x4)), ?_⟩
  have h := load_put1 arg11 (mulf (alpha (plane1 arg9 (G0' c i arg3 harg3 arg4 harg4 arg5 harg5 arg6 harg6 arg7 harg7 arg8 harg8 arg9 harg9 arg10 harg10 arg11 harg11 x0 x1 x2 x3 x4)) (e1 c i arg3 harg3 arg4 harg4 arg5 harg5 arg6 harg6 arg7 harg7 arg8 harg8 arg9 harg9 arg10 harg10 arg11 harg11 x0 x1 x2 x3 x4)) (plane1 arg11 (G2' c i arg3 harg3 arg4 harg4 arg5 harg5 arg6 harg6 arg7 harg7 arg8 harg8 arg9 harg9 arg10 harg10 arg11 harg11 x0 x1 x2 x3 x4))) (kernelRun0_A.sl.HS2_2 c i arg3 harg3 arg4 harg4 arg5 harg5 arg6 harg6 arg7 harg7 arg8 harg8 arg9 harg9 arg10 harg10 arg11 harg11 x0 x1 x2 x3 x4)
  unfold kernelRun0_A.sl.HS2_4
  refine congrArg (fun w => (⟨Rect.unit ![1, 0, 0] S1x512x128.size inb_S2x512x128_S1x512x128_1_0_0, w⟩ : View.Piece (Elt F) S2x512x128 .f32) :: _) ?_
  refine (congrArg (fun x => shapeCast S1x512x128 (addf x _) shapeCasts_S512x128_S1x512x128) h).trans ?_
  rfl

end Generic

end Cert.KernelIdeal.Attn

end
-- ==== Proof.Out.lean ====
/- One block of the attention at an index: the quotient of the weighted sum and the sum of weights over the keys up to the
end of the block's own tile. -/
module

public import proofs.«01_k».proof.Proof.Block

@[expose] public section

set_option maxRecDepth 16384

noncomputable section

namespace Cert.KernelIdeal.Attn

open Cert.KernelIdeal Cert.KernelIdeal.Gen Cert.Online Idealize.ShloMosaic Idealize.ShloMosaic.TcCoe Idealize.ShloMosaic.Tactic Idealize.SL.Sem

/-- The second loop takes no trip. -/
theorem trips2_eq : ∀ i : grid0.Coords, Scf.trips (k0_t2_loop i).lb (k0_t2_loop i).ub (k0_t2_loop i).st = 0 := by decide +kernel

theorem row_lt (i : grid0.Coords) : (i 2).val < 16 := (i 2).isLt

/-- The named constant of the mask is −∞. -/
theorem mask_bot : (Named.named κ "mask" 0xF149F2CA#32 : Ideal .f32) = ⊥ := IdealRules.named_const.ideal_named_scalar _ _ _ _ rfl

/-- The cut tile at an index. -/
theorem cut_apply (s : FVec Ideal S512x512 .f32) (r c : Fin 512) : cut s (ix2 r c) = if c.val ≤ r.val then s (ix2 r c) else ⊥ := by
  pointwise [cut]
  rw [mask_bot, WordCmp.cmpi_sle_ofNat (by omega) (by omega)]
  by_cases h : c.val ≤ r.val <;> simp [h, Scalar.select]

/-- The half of the 128 rotary lanes that a lane lies in, as the kernel computes it. -/
def halfOf (l : ℕ) : BitVec 32 :=
  Scalar.select
    (IntOp.andi
      (IntOp.cmpi CmpIPredicate.ne
        (IntOp.subi (BitVec.setWidth 32 (IntOp.cmpi CmpIPredicate.sgt (BitVec.ofNat 32 l) 0#32))
          (BitVec.setWidth 32 (IntOp.cmpi CmpIPredicate.slt (BitVec.ofNat 32 l) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 l) 64#32) 0#32))
    (IntOp.subi (IntOp.divsi ArithUnit.vector (BitVec.ofNat 32 l) 64#32) 1#32)
    (IntOp.divsi ArithUnit.vector (BitVec.ofNat 32 l) 64#32)

theorem half_eq : ∀ l : Fin 128, halfOf l.val = if l.val < 64 then 0#32 else 1#32 := by decide +kernel

variable (c : Dev nD) (i : grid0.Coords) (arg3 : Memref sig .tc .vmem S512x256 .bf16) (harg3 : arg3.IsWhole) (arg4 : Memref sig .tc .vmem S512x128 .bf16) (harg4 : arg4.IsWhole) (arg5 : Memref sig .tc .vmem S8192x256 .bf16) (harg5 : arg5.IsWhole) (arg6 : Memref sig .tc .vmem S8192x128 .bf16) (harg6 : arg6.IsWhole) (arg7 : Memref sig .tc .vmem S8192x256 .bf16) (harg7 : arg7.IsWhole) (arg8 : Memref sig .tc .vmem S512x256 .f32) (harg8 : arg8.IsWhole) (arg9 : Memref sig .tc .vmem S2x512x128 .f32) (harg9 : arg9.IsWhole) (arg10 : Memref sig .tc .vmem S2x512x128 .f32) (harg10 : arg10.IsWhole) (arg11 : Memref sig .tc .vmem S2x512x128 .f32) (harg11 : arg11.IsWhole) (x0 : Vec Ideal S512x256 .bf16) (x1 : Vec Ideal S512x128 .bf16) (x2 : Vec Ideal S8192x256 .bf16) (x3 : Vec Ideal S8192x128 .bf16) (x4 : Vec Ideal S8192x256 .bf16)

/-- Head 0's queries as the scores take them: the head's own lanes, then its half of the rotary lanes, the other half zero. -/
theorem q0_apply (r : Fin 512) (d : Fin 256) : (kernelRun0_A.sl.r_1 c arg3 harg3 arg4 harg4 x0 x1) (ix2 r d)
    = if h : d.val < 128 then x0 (ix2 r ⟨d.val, by omega⟩) else if d.val < 192 then x1 (ix2 r ⟨d.val - 128, by omega⟩) else 0 := by
  unfold kernelRun0_A.sl.r_1
  rw [View.readAt_eq_ld, View.readAt_eq_ld, harg3.read_unread, harg4.read_unread]
  pointwise [k0_pay75, k0_pay74]
  by_cases h : d.val < 128
  · rw [dif_pos h, dif_pos h]
  · rw [dif_neg h, dif_neg h]
    have := half_eq ⟨d.val - 128, by omega⟩
    unfold halfOf at this
    rw [this]
    by_cases h' : d.val < 192
    · rw [if_pos (show d.val - 128 < 64 by omega), if_pos h']
      rfl
    · rw [if_neg (show ¬d.val - 128 < 64 by omega), if_neg h']
      rfl

/-- Head 1's. -/
theorem q1_apply (r : Fin 512) (d : Fin 256) : (kernelRun0_A.sl.r_2 c arg3 harg3 arg4 harg4 x0 x1) (ix2 r d)
    = if h : d.val < 128 then x0 (ix2 r ⟨128 + d.val, by omega⟩) else if 192 ≤ d.val then x1 (ix2 r ⟨d.val - 128, by omega⟩) else 0 := by
  unfold kernelRun0_A.sl.r_2 kernelRun0_A.sl.r kernelRun0_A.sl.v0
  rw [View.readAt_eq_ld, View.readAt_eq_ld, harg3.read_unread, harg4.read_unread]
  pointwise [k0_pay79, k0_pay74, k0_pay76, k0_pay77, k0_pay78]
  by_cases h : d.val < 128
  · rw [dif_pos h, dif_pos h]
  · rw [dif_neg h, dif_neg h]
    have := half_eq ⟨d.val - 128, by omega⟩
    unfold halfOf at this
    rw [this]
    by_cases h' : 192 ≤ d.val
    · rw [if_neg (show ¬d.val - 128 < 64 by omega), if_pos h']
      rfl
    · rw [if_pos (show d.val - 128 < 64 by omega), if_neg h']
      rfl

theorem dk0_apply (c : Fin 512) (d : Fin 128) : dk0 i arg5 harg5 x2 (ix2 c d)
    = x2 (ix2 ⟨512 * (i 2).val + c.val, by have := row_lt i; omega⟩ ⟨0 + d.val, by omega⟩) := by
  unfold dk0
  rw [View.readAt_eq_ld, harg5.read_unread]
  pointwise
  congr 2 <;> exact Fin.ext (by simp [k0_off8_eq])

theorem dk1_apply (c : Fin 512) (d : Fin 128) : dk1 i arg5 harg5 x2 (ix2 c d)
    = x2 (ix2 ⟨512 * (i 2).val + c.val, by have := row_lt i; omega⟩ ⟨128 + d.val, by omega⟩) := by
  unfold dk1
  rw [View.readAt_eq_ld, harg5.read_unread]
  pointwise
  congr 2 <;> exact Fin.ext (by simp [k0_off9_eq])

theorem dkr_apply (c : Fin 512) (d : Fin 128) : dkr i arg6 harg6 x3 (ix2 c d)
    = x3 (ix2 ⟨512 * (i 2).val + c.val, by have := row_lt i; omega⟩ d) := by
  unfold dkr
  rw [View.readAt_eq_ld, harg6.read_unread]
  pointwise
  congr 2 <;> exact Fin.ext (by simp [k0_off7_eq])

theorem dv0_apply (c : Fin 512) (d : Fin 128) : dv0 i arg7 harg7 x4 (ix2 c d)
    = x4 (ix2 ⟨512 * (i 2).val + c.val, by have := row_lt i; omega⟩ ⟨0 + d.val, by omega⟩) := by
  unfold dv0
  rw [View.readAt_eq_ld, harg7.read_unread]
  pointwise
  congr 2 <;> exact Fin.ext (by simp [k0_off8_eq])

theorem dv1_apply (c : Fin 512) (d : Fin 128) : dv1 i arg7 harg7 x4 (ix2 c d)
    = x4 (ix2 ⟨512 * (i 2).val + c.val, by have := row_lt i; omega⟩ ⟨128 + d.val, by omega⟩) := by
  unfold dv1
  rw [View.readAt_eq_ld, harg7.read_unread]
  pointwise
  congr 2 <;> exact Fin.ext (by simp [k0_off9_eq])

/-- The scores of the block's own tile are the row's. -/
theorem d0_apply (r cc : Fin 512) : d0 c i arg3 harg3 arg4 harg4 arg5 harg5 arg6 harg6 x0 x1 x2 x3 (ix2 r cc)
    = (SS (512 * (i 2).val) (kernelRun0_A.sl.r_1 c arg3 harg3 arg4 harg4 x0 x1) (kernelRun0_A.sl.r_2 c arg3 harg3 arg4 harg4 x0 x1) x2 x3) 0 r (512 * (i 2).val + cc.val) := by
  have := row_lt i
  show _ = cqk _ _ _ _ _ _ _ _
  unfold d0 cqk qk
  rw [cut_apply, sTile_apply]
  simp only [dk0_apply, dkr_apply]
  by_cases h : cc.val ≤ r.val
  · rw [if_pos h, if_pos (by omega), dif_pos (by omega)]
  · rw [if_neg h, if_neg (by omega)]

theorem d1_apply (r cc : Fin 512) : d1 c i arg3 harg3 arg4 harg4 arg5 harg5 arg6 harg6 x0 x1 x2 x3 (ix2 r cc)
    = (SS (512 * (i 2).val) (kernelRun0_A.sl.r_1 c arg3 harg3 arg4 harg4 x0 x1) (kernelRun0_A.sl.r_2 c arg3 harg3 arg4 harg4 x0 x1) x2 x3) 1 r (512 * (i 2).val + cc.val) := by
  have := row_lt i
  show _ = cqk _ _ _ _ _ _ _ _
  unfold d1 cqk qk
  rw [cut_apply, sTile_apply]
  simp only [dk1_apply, dkr_apply]
  by_cases h : cc.val ≤ r.val
  · rw [if_pos h, if_pos (by omega), dif_pos (by omega)]
  · rw [if_neg h, if_neg (by omega)]

/-- A buffer filled whole, read. -/
theorem read_fill (m : Memref sig .tc .vmem S2x512x128 .f32) (f : BufTy.Contents (Elt Ideal) m.view.ty) (w : FVec Ideal S2x512x128 .f32) :
    View.read (Elt Ideal) m.view (m.view.writes (Elt Ideal) f [⟨Rect.unit (s := S2x512x128) ![0, 0, 0] S2x512x128.size inb_S2x512x128_S2x512x128_0_0_0, w⟩]) = w := by
  funext j
  idx_vars j
  refine View.read_writes_cons_unit_of_mem m.view f (off := ![0, 0, 0]) (off' := ![0, 0, 0]) (size := S2x512x128.size)
    inb_S2x512x128_S2x512x128_0_0_0 w [] (ix3 j0 j1 j2) (ix3 j0 j1 j2) rfl ?_
  intro a; fin_cases a <;> simp

/-- What the scratch buffers hold before the block's own tile. -/
theorem before (hS : ∀ e r, Row ((SS (512 * (i 2).val) (kernelRun0_A.sl.r_1 c arg3 harg3 arg4 harg4 x0 x1) (kernelRun0_A.sl.r_2 c arg3 harg3 arg4 harg4 x0 x1) x2 x3) e r)) : Holds (SS (512 * (i 2).val) (kernelRun0_A.sl.r_1 c arg3 harg3 arg4 harg4 x0 x1) (kernelRun0_A.sl.r_2 c arg3 harg3 arg4 harg4 x0 x1) x2 x3) (VV x4) (512 * (i 2).val)
    (View.read (Elt Ideal) arg9.view (G0 c i arg3 harg3 arg4 harg4 arg5 harg5 arg6 harg6 arg7 harg7 arg8 harg8 arg9 harg9 arg10 harg10 arg11 harg11 x0 x1 x2 x3 x4)) (View.read (Elt Ideal) arg10.view (G1 c i arg3 harg3 arg4 harg4 arg5 harg5 arg6 harg6 arg7 harg7 arg8 harg8 arg9 harg9 arg10 harg10 arg11 harg11 x0 x1 x2 x3 x4)) (View.read (Elt Ideal) arg11.view (G2 c i arg3 harg3 arg4 harg4 arg5 harg5 arg6 harg6 arg7 harg7 arg8 harg8 arg9 harg9 arg10 harg10 arg11 harg11 x0 x1 x2 x3 x4)) := by
  have h0 : Holds (SS (512 * (i 2).val) (kernelRun0_A.sl.r_1 c arg3 harg3 arg4 harg4 x0 x1) (kernelRun0_A.sl.r_2 c arg3 harg3 arg4 harg4 x0 x1) x2 x3) (VV x4) 0 (View.read (Elt Ideal) arg9.view (arg9.view.writes (Elt Ideal) arg9.view.junk kernelRun0_A.sl.HS0_1))
      (View.read (Elt Ideal) arg10.view (arg10.view.writes (Elt Ideal) arg10.view.junk kernelRun0_A.sl.HS1_1)) (View.read (Elt Ideal) arg11.view (arg11.view.writes (Elt Ideal) arg11.view.junk kernelRun0_A.sl.HS2_1)) := by
    unfold kernelRun0_A.sl.HS0_1 kernelRun0_A.sl.HS1_1 kernelRun0_A.sl.HS2_1
    rw [read_fill, read_fill, read_fill]
    refine Holds.zero _ _ _ _ _ (fun e r l => ?_) (fun e r l => ?_) (fun e r l => ?_)
    · pointwise [k0_pay80]; exact mask_bot
    · pointwise [k0_pay81]
    · pointwise [k0_pay82]
  have h1 := loop_holds i arg5 arg6 arg7 (kernelRun0_A.sl.r_1 c arg3 harg3 arg4 harg4 x0 x1) (kernelRun0_A.sl.r_2 c arg3 harg3 arg4 harg4 x0 x1) (harg5.unread x2) (harg6.unread x3) (harg7.unread x4) Variants.none c none arg3 harg3 arg4 harg4 harg5 harg6 harg7 arg8 harg8 arg9 harg9 arg10 harg10 arg11 harg11
    (BitVec.ofNat 32 (i 2).val) _ _ _ (row_lt i) (by rw [harg5.read_unread, harg6.read_unread]; exact hS)
    (by rw [harg5.read_unread, harg6.read_unread, harg7.read_unread]; exact h0) _ le_rfl
  rw [harg5.read_unread, harg6.read_unread, harg7.read_unread, ← View.writes_append, ← View.writes_append, ← View.writes_append] at h1
  have e2 : P2 (F := Ideal) c i arg3 harg3 arg4 harg4 arg5 harg5 arg6 harg6 arg7 harg7 arg8 harg8 arg9 harg9 arg10 harg10 arg11 harg11 x0 x1 x2 x3 x4 = ([], [], []) := by
    unfold P2
    rw [trips2_eq]
    rfl
  unfold G0 G1 G2 L0 L1 L2
  rw [e2]
  have et := trips_eq i
  rw [show 512 * (k0_t1_loop i).trips = 512 * (i 2).val by rw [et]] at h1
  exact h1

/-- What head 0's last updates leave. -/
theorem head0 (hS : ∀ e r, Row ((SS (512 * (i 2).val) (kernelRun0_A.sl.r_1 c arg3 harg3 arg4 harg4 x0 x1) (kernelRun0_A.sl.r_2 c arg3 harg3 arg4 harg4 x0 x1) x2 x3) e r)) (r : Fin 512) (l : Fin 128) :
    e0 c i arg3 harg3 arg4 harg4 arg5 harg5 arg6 harg6 arg7 harg7 arg8 harg8 arg9 harg9 arg10 harg10 arg11 harg11 x0 x1 x2 x3 x4 (ix2 r l) = runMax ((SS (512 * (i 2).val) (kernelRun0_A.sl.r_1 c arg3 harg3 arg4 harg4 x0 x1) (kernelRun0_A.sl.r_2 c arg3 harg3 arg4 harg4 x0 x1) x2 x3) 0 r) (512 * (i 2).val + 512)
    ∧ lNew (d0 c i arg3 harg3 arg4 harg4 arg5 harg5 arg6 harg6 x0 x1 x2 x3) (plane0 arg9 (G0 c i arg3 harg3 arg4 harg4 arg5 harg5 arg6 harg6 arg7 harg7 arg8 harg8 arg9 harg9 arg10 harg10 arg11 harg11 x0 x1 x2 x3 x4)) (e0 c i arg3 harg3 arg4 harg4 arg5 harg5 arg6 harg6 arg7 harg7 arg8 harg8 arg9 harg9 arg10 harg10 arg11 harg11 x0 x1 x2 x3 x4) (plane0 arg10 (G1 c i arg3 harg3 arg4 harg4 arg5 harg5 arg6 harg6 arg7 harg7 arg8 harg8 arg9 harg9 arg10 harg10 arg11 harg11 x0 x1 x2 x3 x4)) (ix2 r l) = runSum ((SS (512 * (i 2).val) (kernelRun0_A.sl.r_1 c arg3 harg3 arg4 harg4 x0 x1) (kernelRun0_A.sl.r_2 c arg3 harg3 arg4 harg4 x0 x1) x2 x3) 0 r) (512 * (i 2).val + 512)
    ∧ f0 c i arg3 harg3 arg4 harg4 arg5 harg5 arg6 harg6 arg7 harg7 arg8 harg8 arg9 harg9 arg10 harg10 arg11 harg11 x0 x1 x2 x3 x4 (ix2 r l) = runAcc ((SS (512 * (i 2).val) (kernelRun0_A.sl.r_1 c arg3 harg3 arg4 harg4 x0 x1) (kernelRun0_A.sl.r_2 c arg3 harg3 arg4 harg4 x0 x1) x2 x3) 0 r) ((VV x4) 0 l) (512 * (i 2).val + 512) := by
  have hb := before c i arg3 harg3 arg4 harg4 arg5 harg5 arg6 harg6 arg7 harg7 arg8 harg8 arg9 harg9 arg10 harg10 arg11 harg11 x0 x1 x2 x3 x4 hS
  have hi := row_lt i
  have hs := d0_apply c i arg3 harg3 arg4 harg4 arg5 harg5 arg6 harg6 x0 x1 x2 x3
  have hm := fun r l => (plane0_apply arg9 (G0 c i arg3 harg3 arg4 harg4 arg5 harg5 arg6 harg6 arg7 harg7 arg8 harg8 arg9 harg9 arg10 harg10 arg11 harg11 x0 x1 x2 x3 x4) r l).trans (hb.m 0 r l)
  have hm' := mNew_apply _ _ _ _ hs hm
  have hv : ∀ (cc : Fin 512) (l : Fin 128), dv0 i arg7 harg7 x4 (ix2 cc l) = VV x4 0 l (512 * (i 2).val + cc.val) := by
    intro cc l
    rw [dv0_apply]
    show _ = val _ 0 (by omega) l _
    unfold val
    rw [dif_pos (show 512 * (i 2).val + cc.val < 8192 by omega)]
  exact ⟨hm' r l, lNew_apply _ _ _ _ _ _ (hS 0) hs hm hm' (fun r l => (plane0_apply arg10 (G1 c i arg3 harg3 arg4 harg4 arg5 harg5 arg6 harg6 arg7 harg7 arg8 harg8 arg9 harg9 arg10 harg10 arg11 harg11 x0 x1 x2 x3 x4) r l).trans (hb.s 0 r l)) r l,
    aNew_apply _ _ _ _ _ _ _ _ (hS 0) hs hm hm' (fun r l => (plane0_apply arg11 (G2 c i arg3 harg3 arg4 harg4 arg5 harg5 arg6 harg6 arg7 harg7 arg8 harg8 arg9 harg9 arg10 harg10 arg11 harg11 x0 x1 x2 x3 x4) r l).trans (hb.a 0 r l)) hv r l⟩

/-- What head 1's last updates leave. -/
theorem head1 (hS : ∀ e r, Row ((SS (512 * (i 2).val) (kernelRun0_A.sl.r_1 c arg3 harg3 arg4 harg4 x0 x1) (kernelRun0_A.sl.r_2 c arg3 harg3 arg4 harg4 x0 x1) x2 x3) e r)) (r : Fin 512) (l : Fin 128) :
    lNew (d1 c i arg3 harg3 arg4 harg4 arg5 harg5 arg6 harg6 x0 x1 x2 x3) (plane1 arg9 (G0' c i arg3 harg3 arg4 harg4 arg5 harg5 arg6 harg6 arg7 harg7 arg8 harg8 arg9 harg9 arg10 harg10 arg11 harg11 x0 x1 x2 x3 x4)) (e1 c i arg3 harg3 arg4 harg4 arg5 harg5 arg6 harg6 arg7 harg7 arg8 harg8 arg9 harg9 arg10 harg10 arg11 harg11 x0 x1 x2 x3 x4) (plane1 arg10 (G1' c i arg3 harg3 arg4 harg4 arg5 harg5 arg6 harg6 arg7 harg7 arg8 harg8 arg9 harg9 arg10 harg10 arg11 harg11 x0 x1 x2 x3 x4)) (ix2 r l) = runSum ((SS (512 * (i 2).val) (kernelRun0_A.sl.r_1 c arg3 harg3 arg4 harg4 x0 x1) (kernelRun0_A.sl.r_2 c arg3 harg3 arg4 harg4 x0 x1) x2 x3) 1 r) (512 * (i 2).val + 512)
    ∧ f1 c i arg3 harg3 arg4 harg4 arg5 harg5 arg6 harg6 arg7 harg7 arg8 harg8 arg9 harg9 arg10 harg10 arg11 harg11 x0 x1 x2 x3 x4 (ix2 r l) = runAcc ((SS (512 * (i 2).val) (kernelRun0_A.sl.r_1 c arg3 harg3 arg4 harg4 x0 x1) (kernelRun0_A.sl.r_2 c arg3 harg3 arg4 harg4 x0 x1) x2 x3) 1 r) ((VV x4) 1 l) (512 * (i 2).val + 512) := by
  have hb := before c i arg3 harg3 arg4 harg4 arg5 harg5 arg6 harg6 arg7 harg7 arg8 harg8 arg9 harg9 arg10 harg10 arg11 harg11 x0 x1 x2 x3 x4 hS
  have hi := row_lt i
  have hs := d1_apply c i arg3 harg3 arg4 harg4 arg5 harg5 arg6 harg6 x0 x1 x2 x3
  have hm : ∀ r l, plane1 arg9 (G0' c i arg3 harg3 arg4 harg4 arg5 harg5 arg6 harg6 arg7 harg7 arg8 harg8 arg9 harg9 arg10 harg10 arg11 harg11 x0 x1 x2 x3 x4) (ix2 r l) = _ := fun r l => (plane1_apply arg9 (G0' c i arg3 harg3 arg4 harg4 arg5 harg5 arg6 harg6 arg7 harg7 arg8 harg8 arg9 harg9 arg10 harg10 arg11 harg11 x0 x1 x2 x3 x4) r l).trans ((read_put0_1 _ _ _ _ _ _).trans (hb.m 1 r l))
  have hl : ∀ r l, plane1 arg10 (G1' c i arg3 harg3 arg4 harg4 arg5 harg5 arg6 harg6 arg7 harg7 arg8 harg8 arg9 harg9 arg10 harg10 arg11 harg11 x0 x1 x2 x3 x4) (ix2 r l) = _ := fun r l => (plane1_apply arg10 (G1' c i arg3 harg3 arg4 harg4 arg5 harg5 arg6 harg6 arg7 harg7 arg8 harg8 arg9 harg9 arg10 harg10 arg11 harg11 x0 x1 x2 x3 x4) r l).trans ((read_put0_1 _ _ _ _ _ _).trans (hb.s 1 r l))
  have ha : ∀ r l, plane1 arg11 (G2' c i arg3 harg3 arg4 harg4 arg5 harg5 arg6 harg6 arg7 harg7 arg8 harg8 arg9 harg9 arg10 harg10 arg11 harg11 x0 x1 x2 x3 x4) (ix2 r l) = _ := fun r l => (plane1_apply arg11 (G2' c i arg3 harg3 arg4 harg4 arg5 harg5 arg6 harg6 arg7 harg7 arg8 harg8 arg9 harg9 arg10 harg10 arg11 harg11 x0 x1 x2 x3 x4) r l).trans (by
    obtain ⟨w, hw⟩ := hs2_eq (F := Ideal) c i arg3 harg3 arg4 harg4 arg5 harg5 arg6 harg6 arg7 harg7 arg8 harg8 arg9 harg9 arg10 harg10 arg11 harg11 x0 x1 x2 x3 x4
    unfold G2'
    rw [hw]
    exact (read_put0_1 _ _ _ _ _ _).trans ((read_put0_1 _ _ _ _ _ _).trans (hb.a 1 r l)))
  have hm' := mNew_apply _ _ _ _ hs hm
  have hv : ∀ (cc : Fin 512) (l : Fin 128), dv1 i arg7 harg7 x4 (ix2 cc l) = VV x4 1 l (512 * (i 2).val + cc.val) := by
    intro cc l
    rw [dv1_apply]
    show _ = val _ 128 (by omega) l _
    unfold val
    rw [dif_pos (show 512 * (i 2).val + cc.val < 8192 by omega)]
  exact ⟨lNew_apply _ _ _ _ _ _ (hS 1) hs hm hm' hl r l, aNew_apply _ _ _ _ _ _ _ _ (hS 1) hs hm hm' ha hv r l⟩

/-- A plane loaded. -/
theorem load0 (m : Memref sig .tc .vmem S2x512x128 .f32) (L : List (View.Piece (Elt Ideal) S2x512x128 .f32)) (r : Fin 512) (l : Fin 128) :
    shapeCast (s := S1x512x128) S512x128 (m.view.readCov L (Rect.unit (s := S2x512x128) ![0, 0, 0] S1x512x128.size inb_S2x512x128_S1x512x128_0_0_0).toLoadRect)
      shapeCasts_S1x512x128_S512x128 (ix2 r l) = View.read (Elt Ideal) m.view (m.view.writes (Elt Ideal) m.view.junk L) (ix3 0 r l) := plane0_apply m _ r l

theorem load1 (m : Memref sig .tc .vmem S2x512x128 .f32) (L : List (View.Piece (Elt Ideal) S2x512x128 .f32)) (r : Fin 512) (l : Fin 128) :
    shapeCast (s := S1x512x128) S512x128 (m.view.readCov L (Rect.unit (s := S2x512x128) ![1, 0, 0] S1x512x128.size inb_S2x512x128_S1x512x128_1_0_0).toLoadRect)
      shapeCasts_S1x512x128_S512x128 (ix2 r l) = View.read (Elt Ideal) m.view (m.view.writes (Elt Ideal) m.view.junk L) (ix3 1 r l) := plane1_apply m _ r l

/-- Head 0's part of the block. -/
theorem pay_head0 (hS : ∀ e r, Row ((SS (512 * (i 2).val) (kernelRun0_A.sl.r_1 c arg3 harg3 arg4 harg4 x0 x1) (kernelRun0_A.sl.r_2 c arg3 harg3 arg4 harg4 x0 x1) x2 x3) e r)) (r : Fin 512) (l : Fin 128) :
    k0_pay121 (kernelRun0_A.sl.v221 c i arg3 harg3 arg4 harg4 arg5 harg5 arg6 harg6 arg7 harg7 arg8 harg8 arg9 harg9 arg10 harg10 arg11 harg11 x0 x1 x2 x3 x4) (kernelRun0_A.sl.v223 c i arg3 harg3 arg4 harg4 arg5 harg5 arg6 harg6 arg7 harg7 arg8 harg8 arg9 harg9 arg10 harg10 arg11 harg11 x0 x1 x2 x3 x4) (ix2 r l)
      = Ideal.div (runAcc ((SS (512 * (i 2).val) (kernelRun0_A.sl.r_1 c arg3 harg3 arg4 harg4 x0 x1) (kernelRun0_A.sl.r_2 c arg3 harg3 arg4 harg4 x0 x1) x2 x3) 0 r) ((VV x4) 0 l) (512 * (i 2).val + 512)) (runSum ((SS (512 * (i 2).val) (kernelRun0_A.sl.r_1 c arg3 harg3 arg4 harg4 x0 x1) (kernelRun0_A.sl.r_2 c arg3 harg3 arg4 harg4 x0 x1) x2 x3) 0 r) (512 * (i 2).val + 512)) := by
  obtain ⟨_, h1, h2⟩ := head0 c i arg3 harg3 arg4 harg4 arg5 harg5 arg6 harg6 arg7 harg7 arg8 harg8 arg9 harg9 arg10 harg10 arg11 harg11 x0 x1 x2 x3 x4 hS r l
  refine congrArg₂ Ideal.div ?_ ?_
  · refine (load0 arg11 (kernelRun0_A.sl.HS2_4 c i arg3 harg3 arg4 harg4 arg5 harg5 arg6 harg6 arg7 harg7 arg8 harg8 arg9 harg9 arg10 harg10 arg11 harg11 x0 x1 x2 x3 x4) r l).trans ?_
    obtain ⟨w, hw⟩ := hs24_eq (F := Ideal) c i arg3 harg3 arg4 harg4 arg5 harg5 arg6 harg6 arg7 harg7 arg8 harg8 arg9 harg9 arg10 harg10 arg11 harg11 x0 x1 x2 x3 x4
    obtain ⟨w', hw'⟩ := hs2_eq (F := Ideal) c i arg3 harg3 arg4 harg4 arg5 harg5 arg6 harg6 arg7 harg7 arg8 harg8 arg9 harg9 arg10 harg10 arg11 harg11 x0 x1 x2 x3 x4
    rw [hw, read_put1_0, read_put1_0, hw', read_put0]
    exact h2
  · refine (load0 arg10 (kernelRun0_A.sl.HS1_2 c i arg3 harg3 arg4 harg4 arg5 harg5 arg6 harg6 arg7 harg7 arg8 harg8 arg9 harg9 arg10 harg10 arg11 harg11 x0 x1 x2 x3 x4) r l).trans ?_
    rw [hs12_eq, read_put1_0, hs1_eq, read_put0]
    exact h1

/-- Head 1's part of the block. -/
theorem pay_head1 (hS : ∀ e r, Row ((SS (512 * (i 2).val) (kernelRun0_A.sl.r_1 c arg3 harg3 arg4 harg4 x0 x1) (kernelRun0_A.sl.r_2 c arg3 harg3 arg4 harg4 x0 x1) x2 x3) e r)) (r : Fin 512) (l : Fin 128) :
    k0_pay1 (kernelRun0_A.sl.v227 c i arg3 harg3 arg4 harg4 arg5 harg5 arg6 harg6 arg7 harg7 arg8 harg8 arg9 harg9 arg10 harg10 arg11 harg11 x0 x1 x2 x3 x4) (kernelRun0_A.sl.v229 c i arg3 harg3 arg4 harg4 arg5 harg5 arg6 harg6 arg7 harg7 arg8 harg8 arg9 harg9 arg10 harg10 arg11 harg11 x0 x1 x2 x3 x4) (ix2 r l)
      = Ideal.div (runAcc ((SS (512 * (i 2).val) (kernelRun0_A.sl.r_1 c arg3 harg3 arg4 harg4 x0 x1) (kernelRun0_A.sl.r_2 c arg3 harg3 arg4 harg4 x0 x1) x2 x3) 1 r) ((VV x4) 1 l) (512 * (i 2).val + 512)) (runSum ((SS (512 * (i 2).val) (kernelRun0_A.sl.r_1 c arg3 harg3 arg4 harg4 x0 x1) (kernelRun0_A.sl.r_2 c arg3 harg3 arg4 harg4 x0 x1) x2 x3) 1 r) (512 * (i 2).val + 512)) := by
  obtain ⟨h1, h2⟩ := head1 c i arg3 harg3 arg4 harg4 arg5 harg5 arg6 harg6 arg7 harg7 arg8 harg8 arg9 harg9 arg10 harg10 arg11 harg11 x0 x1 x2 x3 x4 hS r l
  refine congrArg₂ Ideal.div ?_ ?_
  · refine (load1 arg11 (kernelRun0_A.sl.HS2_4 c i arg3 harg3 arg4 harg4 arg5 harg5 arg6 harg6 arg7 harg7 arg8 harg8 arg9 harg9 arg10 harg10 arg11 harg11 x0 x1 x2 x3 x4) r l).trans ?_
    obtain ⟨w, hw⟩ := hs24_eq (F := Ideal) c i arg3 harg3 arg4 harg4 arg5 harg5 arg6 harg6 arg7 harg7 arg8 harg8 arg9 harg9 arg10 harg10 arg11 harg11 x0 x1 x2 x3 x4
    rw [hw, read_put1]
    exact h2
  · refine (load1 arg10 (kernelRun0_A.sl.HS1_2 c i arg3 harg3 arg4 harg4 arg5 harg5 arg6 harg6 arg7 harg7 arg8 harg8 arg9 harg9 arg10 harg10 arg11 harg11 x0 x1 x2 x3 x4) r l).trans ?_
    rw [hs12_eq, read_put1]
    exact h1

/-- The block at an index. -/
theorem out_apply (hS : ∀ e r, Row ((SS (512 * (i 2).val) (kernelRun0_A.sl.r_1 c arg3 harg3 arg4 harg4 x0 x1) (kernelRun0_A.sl.r_2 c arg3 harg3 arg4 harg4 x0 x1) x2 x3) e r)) (r : Fin 512) (e : Fin 2) (l : Fin 128) (j : Fin 256) (hj : j.val = 128 * e.val + l.val) :
    out0_A_5 c i arg3 harg3 arg4 harg4 arg5 harg5 arg6 harg6 arg7 harg7 arg8 harg8 arg9 harg9 arg10 harg10 arg11 harg11 x0 x1 x2 x3 x4 (ix2 r j)
      = Ideal.div (runAcc ((SS (512 * (i 2).val) (kernelRun0_A.sl.r_1 c arg3 harg3 arg4 harg4 x0 x1) (kernelRun0_A.sl.r_2 c arg3 harg3 arg4 harg4 x0 x1) x2 x3) e r) ((VV x4) e l) (512 * (i 2).val + 512)) (runSum ((SS (512 * (i 2).val) (kernelRun0_A.sl.r_1 c arg3 harg3 arg4 harg4 x0 x1) (kernelRun0_A.sl.r_2 c arg3 harg3 arg4 harg4 x0 x1) x2 x3) e r) (512 * (i 2).val + 512)) := by
  unfold out0_A_5 kernelRun0_A
  dsimp only
  match e with
  | 0 =>
    refine (View.read_writes_cons_unit_of_not_mem VO0_5 VO0_5.junk (off := ![0, 128]) (off' := ![0, 128]) (size := ![512, 128])
      inb_S512x256_S512x128_0_128 _ _ (ix2 r j) rfl 1 (.inl (by simp [hj]))).trans ?_
    refine (View.read_writes_cons_unit_of_mem VO0_5 VO0_5.junk (off := ![0, 0]) (off' := ![0, 0]) (size := ![512, 128])
      inb_S512x256_S512x128_0_0 _ _ (ix2 r j) (ix2 r l) rfl ?_).trans (pay_head0 c i arg3 harg3 arg4 harg4 arg5 harg5 arg6 harg6 arg7 harg7 arg8 harg8 arg9 harg9 arg10 harg10 arg11 harg11 x0 x1 x2 x3 x4 hS r l)
    intro a; fin_cases a <;> simp [hj]
  | 1 =>
    refine (View.read_writes_cons_unit_of_mem VO0_5 VO0_5.junk (off := ![0, 128]) (off' := ![0, 128]) (size := ![512, 128])
      inb_S512x256_S512x128_0_128 _ _ (ix2 r j) (ix2 r l) rfl ?_).trans (pay_head1 c i arg3 harg3 arg4 harg4 arg5 harg5 arg6 harg6 arg7 harg7 arg8 harg8 arg9 harg9 arg10 harg10 arg11 harg11 x0 x1 x2 x3 x4 hS r l)
    intro a; fin_cases a <;> simp [hj]

end Cert.KernelIdeal.Attn

end
-- ==== Proof.Score.lean ====
/- The scores of the attention: what the reference computes for a query and a key, and that the scaled and split products of
the kernel are the same score in bits. -/
module

public import proofs.«01_k».proof.Proof.Online
public import Idealize.ShloMosaic.Lib.Pointwise

@[expose] public section

noncomputable section

namespace Cert.Online

open Idealize.ShloMosaic

/-- The scale of the scores. -/
def sqrtScale : EReal := Ideal.rsqrt ((192 : ℝ) : EReal)

/-- The scale in bits: that the kernel's host code multiplies into the queries. -/
def hostScale : EReal := Ideal.div sqrtScale (Ideal.log ((2 : ℝ) : EReal))

theorem sqrtScale_real : sqrtScale = ((1 / Real.sqrt 192 : ℝ) : EReal) := by
  unfold sqrtScale; rw [Ideal.rsqrt_coe]; norm_num

theorem hostScale_real : hostScale = ((1 / Real.sqrt 192 * (1 / Real.log 2) : ℝ) : EReal) := by
  unfold hostScale
  rw [sqrtScale_real, Ideal.log_coe, if_neg (by norm_num), Ideal.div_coe (Real.log_pos one_lt_two).ne', ← EReal.coe_mul]

/-- A score with the scale multiplied into the query is the score in bits. -/
theorem score_bits {n : ℕ} (Q K : Fin n → EReal) (hQ : ∀ d, ∃ r : ℝ, Q d = (r : EReal)) (hK : ∀ d, ∃ r : ℝ, K d = (r : EReal)) :
    ∑ d, Q d * hostScale * K d = bits ((∑ d, Q d * K d) * sqrtScale) := by
  choose q hq using hQ
  choose k hk using hK
  simp only [hq, hk, hostScale_real, sqrtScale_real, ← EReal.coe_mul, ← coe_sum, bits_coe]
  refine congrArg _ ?_
  rw [Finset.sum_mul, Finset.sum_mul]
  exact Finset.sum_congr rfl fun d _ => by ring

/-- A score of numbers is a number. -/
theorem score_real {n : ℕ} (Q K : Fin n → EReal) (hQ : ∀ d, ∃ r : ℝ, Q d = (r : EReal)) (hK : ∀ d, ∃ r : ℝ, K d = (r : EReal)) :
    ∃ r : ℝ, (∑ d, Q d * K d) * sqrtScale = (r : EReal) := by
  choose q hq using hQ
  choose k hk using hK
  simp only [hq, hk, sqrtScale_real, ← EReal.coe_mul, ← coe_sum]
  exact ⟨_, rfl⟩

/-- The 192 lanes as 128 and 64. -/
theorem sum_split (f : Fin 192 → EReal) :
    ∑ d, f d = ∑ d : Fin 128, f ⟨d.val, by omega⟩ + ∑ d : Fin 64, f ⟨128 + d.val, by omega⟩ := Fin.sum_univ_add (a := 128) (b := 64) f

/-- 128 lanes of which the second half is zero. -/
theorem sum_low (f : Fin 128 → EReal) (h : ∀ d : Fin 64, f ⟨64 + d.val, by omega⟩ = 0) :
    ∑ d, f d = ∑ d : Fin 64, f ⟨d.val, by omega⟩ := by
  refine (Fin.sum_univ_add (a := 64) (b := 64) f).trans ?_
  rw [Finset.sum_eq_zero (s := Finset.univ) (f := fun d : Fin 64 => f (Fin.natAdd 64 d)) fun d _ => h d, add_zero]
  rfl

/-- 128 lanes of which the first half is zero. -/
theorem sum_high (f : Fin 128 → EReal) (h : ∀ d : Fin 64, f ⟨d.val, by omega⟩ = 0) :
    ∑ d, f d = ∑ d : Fin 64, f ⟨64 + d.val, by omega⟩ := by
  refine (Fin.sum_univ_add (a := 64) (b := 64) f).trans ?_
  rw [Finset.sum_eq_zero (s := Finset.univ) (f := fun d : Fin 64 => f (Fin.castAdd 64 d)) fun d _ => h d, zero_add]
  rfl

/-- The causal score of query `s` and key `k`: −∞ beyond the query. -/
def causal (Q K : (⟨4, ![2, 8192, 8, 192]⟩ : Shape).Idx → EReal) (b : Fin 2) (s : Fin 8192) (h : Fin 8) (k : ℕ) : EReal :=
  if hk : k ≤ s.val then (∑ d : Fin 192, Q (ix4 b s h d) * K (ix4 b ⟨k, by omega⟩ h d)) * sqrtScale else ⊥

/-- The values of a head's lane, key by key. -/
def lane (V : (⟨4, ![2, 8192, 8, 128]⟩ : Shape).Idx → EReal) (b : Fin 2) (h : Fin 8) (l : Fin 128) (k : ℕ) : EReal :=
  if hk : k < 8192 then V (ix4 b ⟨k, hk⟩ h l) else ⊥

/-- A row of causal scores starts with a number and holds no +∞. -/
theorem causal_row {Q K : (⟨4, ![2, 8192, 8, 192]⟩ : Shape).Idx → EReal} (hQ : ∀ i, ∃ r : ℝ, Q i = (r : EReal))
    (hK : ∀ i, ∃ r : ℝ, K i = (r : EReal)) (b : Fin 2) (s : Fin 8192) (h : Fin 8) : Row (causal Q K b s h) := by
  constructor
  · unfold causal
    rw [dif_pos (Nat.zero_le _)]
    obtain ⟨r, hr⟩ := score_real _ _ (fun d => hQ (ix4 b s h d)) (fun d => hK (ix4 b ⟨0, by omega⟩ h d))
    rw [hr]; exact EReal.coe_ne_bot r
  · intro k
    unfold causal
    by_cases hk : k ≤ s.val
    · rw [dif_pos hk]
      obtain ⟨r, hr⟩ := score_real _ _ (fun d => hQ (ix4 b s h d)) (fun d => hK (ix4 b ⟨k, by omega⟩ h d))
      rw [hr]; exact EReal.coe_ne_top r
    · rw [dif_neg hk]; exact bot_ne_top

/-- The attention of head `h` for query `s`, at lane `l`: the softmax of its causal scores, weighting the values. -/
def attend (Q K : (⟨4, ![2, 8192, 8, 192]⟩ : Shape).Idx → EReal) (V : (⟨4, ![2, 8192, 8, 128]⟩ : Shape).Idx → EReal) (b : Fin 2) (s : Fin 8192) (h : Fin 8) (l : Fin 128) : EReal :=
  ∑ k ∈ Finset.range 8192, Ideal.div (Ideal.exp (causal Q K b s h k - runMax (causal Q K b s h) 8192))
    (∑ j ∈ Finset.range 8192, Ideal.exp (causal Q K b s h j - runMax (causal Q K b s h) 8192)) * lane V b h l k

end Cert.Online

end
-- ==== Proof.Blocks.lean ====
/- What the windows read: each block of the queries, keys and values as the elements of the three arguments it holds, the
scale of the scores multiplied into the queries. -/
module

public import proofs.«01_k».proof.Proof.Out
public import proofs.«01_k».proof.Proof.Score
public import proofs.«01_k».proof.Proof.Gen.KernelIdeal.Value

@[expose] public section

set_option maxRecDepth 16384

noncomputable section

namespace Cert.KernelIdeal.Attn

open Cert.KernelIdeal Cert.KernelIdeal.Gen Cert.Online Idealize.ShloMosaic Idealize.ShloMosaic.TcCoe Idealize.ShloMosaic.Tactic Idealize.SL.Sem

/-- An array of heads, rows and lanes flattened to rows and columns: 128 lanes a head. -/
theorem flat128 (x : S2x8192x8x128.Idx → EReal) (b : Fin 2) (s : Fin 8192) (h : Fin 8) (d : Fin 128) (r : Fin 16384) (j : Fin 1024)
    (hr : r.val = 8192 * b.val + s.val) (hj : j.val = 128 * h.val + d.val) :
    shapeCast S16384x1024 x shapeCasts_S2x8192x8x128_S16384x1024 (ix2 r j) = x (ix4 b s h d) := by
  refine shapeCast_apply _ _ _ _ ?_
  rw [rowMajor_val4 _ 8388608 1024 128 rfl rfl rfl, rowMajor_val2 _ 1024 rfl]
  show b.val * 8388608 + s.val * 1024 + h.val * 128 + d.val = r.val * 1024 + j.val
  omega

/-- The same with 64 lanes a head. -/
theorem flat64 (x : S2x8192x8x64.Idx → EReal) (b : Fin 2) (s : Fin 8192) (h : Fin 8) (d : Fin 64) (r : Fin 16384) (j : Fin 512)
    (hr : r.val = 8192 * b.val + s.val) (hj : j.val = 64 * h.val + d.val) :
    shapeCast S16384x512 x shapeCasts_S2x8192x8x64_S16384x512 (ix2 r j) = x (ix4 b s h d) := by
  refine shapeCast_apply _ _ _ _ ?_
  rw [rowMajor_val4 _ 4194304 512 64 rfl rfl rfl, rowMajor_val2 _ 512 rfl]
  show b.val * 4194304 + s.val * 512 + h.val * 64 + d.val = r.val * 512 + j.val
  omega

/-- The host's scale as it prints. -/
theorem scale_eq : FloatOps.hostDivf (FloatOps.hostUnary .rsqrt (FloatOps.ofBits .f32 0x43400000#32 : Ideal .f32)) (FloatOps.hostUnary .log (FloatOps.ofBits .f32 0x40000000#32 : Ideal .f32)) = hostScale := by
  show Ideal.div (Ideal.rsqrt (Ideal.ofBits .f32 0x43400000#32)) (Ideal.log (Ideal.ofBits .f32 0x40000000#32)) = _
  rw [show Ideal.ofBits .f32 0x43400000#32 = ((192 : ℝ) : EReal) by simp [Ideal.ofBits, Ideal.ieee, -EReal.coe_mul]; norm_num,
    show Ideal.ofBits .f32 0x40000000#32 = ((2 : ℝ) : EReal) by simp [Ideal.ofBits, Ideal.ieee, -EReal.coe_mul]; norm_num]
  rfl

variable (m : (ℓ : Loc nD τ sig) → Buf (Elt Ideal) ℓ) (c : Dev nD)

/-- The queries at launch. -/
def argQ : S2x8192x8x192.Idx → EReal := m ((c : Thread nD τ).loc main_arg0)
/-- The keys at launch. -/
def argK : S2x8192x8x192.Idx → EReal := m ((c : Thread nD τ).loc main_arg1)
/-- The values at launch. -/
def argV : S2x8192x8x128.Idx → EReal := m ((c : Thread nD τ).loc main_arg2)

/-- The first 128 lanes of the scaled queries, laid out by rows. -/
theorem V_qn (b : Fin 2) (s : Fin 8192) (h : Fin 8) (d : Fin 128) (r : Fin 16384) (j : Fin 1024)
    (hr : r.val = 8192 * b.val + s.val) (hj : j.val = 128 * h.val + d.val) :
    V m c main_v7 (ix2 r j) = argQ m c (ix4 b s h ⟨d.val, by omega⟩) * hostScale := by
  show StableHlo.after hostOps0 _ (Proc.devRef .tc main_v7) _ = _
  after_results
  refine (flat128 (extractStridedSlice S2x8192x8x128 ![0, 0, 0, 0] (mulf (F := Ideal) (φ := .f32) (m (c, Proc.tc.devRef main_arg0)) (broadcastInDim S2x8192x8x192 ![] bcast_S_S2x8192x8x192 (Host.divf (Host.rsqrt (constant (F := Ideal) S_ FTy.f32 0x43400000#32)) (Host.log (constant S_ FTy.f32 0x40000000#32))))) slices_S2x8192x8x192_S2x8192x8x128_0_0_0_0) b s h d r j hr hj).trans ?_
  refine (extractStridedSlice_apply _ _ _ _ (ix4 b s h (⟨d.val, by omega⟩ : Fin 192)) fun a => ?_).trans ?_
  · match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  · exact congrArg (argQ m c _ * ·) scale_eq

/-- The last 64 lanes of the scaled queries. -/
theorem V_qr (b : Fin 2) (s : Fin 8192) (h : Fin 8) (d : Fin 64) (r : Fin 16384) (j : Fin 512)
    (hr : r.val = 8192 * b.val + s.val) (hj : j.val = 64 * h.val + d.val) :
    V m c main_v10 (ix2 r j) = argQ m c (ix4 b s h ⟨128 + d.val, by omega⟩) * hostScale := by
  show StableHlo.after hostOps0 _ (Proc.devRef .tc main_v10) _ = _
  after_results
  refine (flat64 (extractStridedSlice S2x8192x8x64 ![0, 0, 0, 128] (mulf (F := Ideal) (φ := .f32) (m (c, Proc.tc.devRef main_arg0)) (broadcastInDim S2x8192x8x192 ![] bcast_S_S2x8192x8x192 (Host.divf (Host.rsqrt (constant (F := Ideal) S_ FTy.f32 0x43400000#32)) (Host.log (constant S_ FTy.f32 0x40000000#32))))) slices_S2x8192x8x192_S2x8192x8x64_0_0_0_128) b s h d r j hr hj).trans ?_
  refine (extractStridedSlice_apply _ _ _ _ (ix4 b s h (⟨128 + d.val, by omega⟩ : Fin 192)) fun a => ?_).trans ?_
  · match a with
    | ⟨0, _⟩ => exact (Nat.zero_add _).symm
    | ⟨1, _⟩ => exact (Nat.zero_add _).symm
    | ⟨2, _⟩ => exact (Nat.zero_add _).symm
    | ⟨3, _⟩ => exact rfl
  · exact congrArg (argQ m c _ * ·) scale_eq

/-- The first 128 lanes of the keys. -/
theorem V_kn (b : Fin 2) (s : Fin 8192) (h : Fin 8) (d : Fin 128) (r : Fin 16384) (j : Fin 1024)
    (hr : r.val = 8192 * b.val + s.val) (hj : j.val = 128 * h.val + d.val) :
    V m c main_v13 (ix2 r j) = argK m c (ix4 b s h ⟨d.val, by omega⟩) := by
  show StableHlo.after hostOps0 _ (Proc.devRef .tc main_v13) _ = _
  after_results
  refine (flat128 (extractStridedSlice S2x8192x8x128 ![0, 0, 0, 0] (m (c, Proc.tc.devRef main_arg1)) slices_S2x8192x8x192_S2x8192x8x128_0_0_0_0) b s h d r j hr hj).trans ?_
  refine (extractStridedSlice_apply _ _ _ _ (ix4 b s h (⟨d.val, by omega⟩ : Fin 192)) fun a => ?_).trans ?_
  · match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  · rfl

/-- The last 64 lanes of the keys. -/
theorem V_kr (b : Fin 2) (s : Fin 8192) (h : Fin 8) (d : Fin 64) (r : Fin 16384) (j : Fin 512)
    (hr : r.val = 8192 * b.val + s.val) (hj : j.val = 64 * h.val + d.val) :
    V m c main_v16 (ix2 r j) = argK m c (ix4 b s h ⟨128 + d.val, by omega⟩) := by
  show StableHlo.after hostOps0 _ (Proc.devRef .tc main_v16) _ = _
  after_results
  refine (flat64 (extractStridedSlice S2x8192x8x64 ![0, 0, 0, 128] (m (c, Proc.tc.devRef main_arg1)) slices_S2x8192x8x192_S2x8192x8x64_0_0_0_128) b s h d r j hr hj).trans ?_
  refine (extractStridedSlice_apply _ _ _ _ (ix4 b s h (⟨128 + d.val, by omega⟩ : Fin 192)) fun a => ?_).trans ?_
  · match a with
    | ⟨0, _⟩ => exact (Nat.zero_add _).symm
    | ⟨1, _⟩ => exact (Nat.zero_add _).symm
    | ⟨2, _⟩ => exact (Nat.zero_add _).symm
    | ⟨3, _⟩ => exact rfl
  · rfl

/-- The values. -/
theorem V_v (b : Fin 2) (s : Fin 8192) (h : Fin 8) (d : Fin 128) (r : Fin 16384) (j : Fin 1024)
    (hr : r.val = 8192 * b.val + s.val) (hj : j.val = 128 * h.val + d.val) :
    V m c main_v18 (ix2 r j) = argV m c (ix4 b s h d) := by
  show StableHlo.after hostOps0 _ (Proc.devRef .tc main_v18) _ = _
  after_results
  refine (flat128 (m (c, Proc.tc.devRef main_arg2)) b s h d r j hr hj).trans ?_
  rfl

/-- The coordinates of a grid point: batch, pair of heads, tile of queries. -/
theorem coords_eq : ∀ t : Fin grid0.N, (grid0.coords t 0).val = t.val / 64 ∧ (grid0.coords t 1).val = t.val / 16 % 4 ∧ (grid0.coords t 2).val = t.val % 16 := by decide +kernel

/-- Window 0's block at a grid point. -/
theorem index0 : ∀ t : Fin grid0.N, win0_0.index t 0 = t.val / 64 * 16 + t.val % 16 ∧ win0_0.index t 1 = t.val / 16 % 4 := by decide +kernel

/-- Its element at an index of the array. -/
theorem blk0 (t : Fin cfg0.N) (p : Fin 512) (d : Fin 256) (r : Fin 16384) (j : Fin 1024)
    (hr : r.val = (t.val / 64 * 16 + t.val % 16) * 512 + p.val) (hj : j.val = t.val / 16 % 4 * 256 + d.val) :
    (iblk m c 0 t : S512x256.Idx → EReal) (ix2 p d) = V m c main_v7 (ix2 r j) := by
  unfold iblk
  rw [View.read_apply]
  show V m c main_v7 _ = _
  refine congrArg (V m c main_v7) (funext fun a => Fin.ext ?_)
  match a with
  | ⟨0, _⟩ => show win0_0.index t 0 * 512 + 1 * p.val = r.val; rw [(index0 t).1]; omega
  | ⟨1, _⟩ => show win0_0.index t 1 * 256 + 1 * d.val = j.val; rw [(index0 t).2]; omega

/-- Window 1's block at a grid point. -/
theorem index1 : ∀ t : Fin grid0.N, win0_1.index t 0 = t.val / 64 * 16 + t.val % 16 ∧ win0_1.index t 1 = t.val / 16 % 4 := by decide +kernel

/-- Its element at an index of the array. -/
theorem blk1 (t : Fin cfg0.N) (p : Fin 512) (d : Fin 128) (r : Fin 16384) (j : Fin 512)
    (hr : r.val = (t.val / 64 * 16 + t.val % 16) * 512 + p.val) (hj : j.val = t.val / 16 % 4 * 128 + d.val) :
    (iblk m c 1 t : S512x128.Idx → EReal) (ix2 p d) = V m c main_v10 (ix2 r j) := by
  unfold iblk
  rw [View.read_apply]
  show V m c main_v10 _ = _
  refine congrArg (V m c main_v10) (funext fun a => Fin.ext ?_)
  match a with
  | ⟨0, _⟩ => show win0_1.index t 0 * 512 + 1 * p.val = r.val; rw [(index1 t).1]; omega
  | ⟨1, _⟩ => show win0_1.index t 1 * 128 + 1 * d.val = j.val; rw [(index1 t).2]; omega

/-- Window 2's block at a grid point. -/
theorem index2 : ∀ t : Fin grid0.N, win0_2.index t 0 = t.val / 64 ∧ win0_2.index t 1 = t.val / 16 % 4 := by decide +kernel

/-- Its element at an index of the array. -/
theorem blk2 (t : Fin cfg0.N) (p : Fin 8192) (d : Fin 256) (r : Fin 16384) (j : Fin 1024)
    (hr : r.val = (t.val / 64) * 8192 + p.val) (hj : j.val = t.val / 16 % 4 * 256 + d.val) :
    (iblk m c 2 t : S8192x256.Idx → EReal) (ix2 p d) = V m c main_v13 (ix2 r j) := by
  unfold iblk
  rw [View.read_apply]
  show V m c main_v13 _ = _
  refine congrArg (V m c main_v13) (funext fun a => Fin.ext ?_)
  match a with
  | ⟨0, _⟩ => show win0_2.index t 0 * 8192 + 1 * p.val = r.val; rw [(index2 t).1]; omega
  | ⟨1, _⟩ => show win0_2.index t 1 * 256 + 1 * d.val = j.val; rw [(index2 t).2]; omega

/-- Window 3's block at a grid point. -/
theorem index3 : ∀ t : Fin grid0.N, win0_3.index t 0 = t.val / 64 ∧ win0_3.index t 1 = t.val / 16 % 4 := by decide +kernel

/-- Its element at an index of the array. -/
theorem blk3 (t : Fin cfg0.N) (p : Fin 8192) (d : Fin 128) (r : Fin 16384) (j : Fin 512)
    (hr : r.val = (t.val / 64) * 8192 + p.val) (hj : j.val = t.val / 16 % 4 * 128 + d.val) :
    (iblk m c 3 t : S8192x128.Idx → EReal) (ix2 p d) = V m c main_v16 (ix2 r j) := by
  unfold iblk
  rw [View.read_apply]
  show V m c main_v16 _ = _
  refine congrArg (V m c main_v16) (funext fun a => Fin.ext ?_)
  match a with
  | ⟨0, _⟩ => show win0_3.index t 0 * 8192 + 1 * p.val = r.val; rw [(index3 t).1]; omega
  | ⟨1, _⟩ => show win0_3.index t 1 * 128 + 1 * d.val = j.val; rw [(index3 t).2]; omega

/-- Window 4's block at a grid point. -/
theorem index4 : ∀ t : Fin grid0.N, win0_4.index t 0 = t.val / 64 ∧ win0_4.index t 1 = t.val / 16 % 4 := by decide +kernel

/-- Its element at an index of the array. -/
theorem blk4 (t : Fin cfg0.N) (p : Fin 8192) (d : Fin 256) (r : Fin 16384) (j : Fin 1024)
    (hr : r.val = (t.val / 64) * 8192 + p.val) (hj : j.val = t.val / 16 % 4 * 256 + d.val) :
    (iblk m c 4 t : S8192x256.Idx → EReal) (ix2 p d) = V m c main_v18 (ix2 r j) := by
  unfold iblk
  rw [View.read_apply]
  show V m c main_v18 _ = _
  refine congrArg (V m c main_v18) (funext fun a => Fin.ext ?_)
  match a with
  | ⟨0, _⟩ => show win0_4.index t 0 * 8192 + 1 * p.val = r.val; rw [(index4 t).1]; omega
  | ⟨1, _⟩ => show win0_4.index t 1 * 256 + 1 * d.val = j.val; rw [(index4 t).2]; omega

/-- Window 5's block at a grid point. -/
theorem index5 : ∀ t : Fin grid0.N, win0_5.index t 0 = t.val / 64 * 16 + t.val % 16 ∧ win0_5.index t 1 = t.val / 16 % 4 := by decide +kernel

end Cert.KernelIdeal.Attn

end
-- ==== Proof.Array.lean ====
/- The array the kernel leaves: every element is the attention of its head for its query, given that the queries and keys
are numbers. -/
module

public import proofs.«01_k».proof.Proof.Blocks

@[expose] public section

set_option maxRecDepth 16384

noncomputable section

namespace Cert.KernelIdeal.Attn

open Cert.KernelIdeal Cert.KernelIdeal.Gen Cert.Online Idealize.ShloMosaic Idealize.ShloMosaic.TcCoe Idealize.ShloMosaic.Tactic Idealize.SL.Sem

variable (m : (ℓ : Loc nD τ sig) → Buf (Elt Ideal) ℓ) (c : Dev nD)

/-- The queries of head 0 as the run at a point takes them. -/
def Q0 (t : Fin cfg0.N) : FVec Ideal S512x256 .bf16 := kernelRun0_A.sl.r_1 (F := Ideal) c (ms0_0 t) (hs0_0 t) (ms0_1 t) (hs0_1 t) (iblk m c 0 t) (iblk m c 1 t)

/-- The queries of head 1. -/
def Q1 (t : Fin cfg0.N) : FVec Ideal S512x256 .bf16 := kernelRun0_A.sl.r_2 (F := Ideal) c (ms0_0 t) (hs0_0 t) (ms0_1 t) (hs0_1 t) (iblk m c 0 t) (iblk m c 1 t)

/-- Head 0's queries at an index. -/
theorem Q0_apply (t : Fin cfg0.N) (r : Fin 512) (d : Fin 256) : Q0 m c t (ix2 r d)
    = if h : d.val < 128 then (iblk m c 0 t : S512x256.Idx → EReal) (ix2 r ⟨d.val, by omega⟩) else if d.val < 192 then (iblk m c 1 t : S512x128.Idx → EReal) (ix2 r ⟨d.val - 128, by omega⟩) else (0 : EReal) :=
  q0_apply c (ms0_0 t) (hs0_0 t) (ms0_1 t) (hs0_1 t) (iblk m c 0 t) (iblk m c 1 t) r d

/-- Head 1's queries at an index. -/
theorem Q1_apply (t : Fin cfg0.N) (r : Fin 512) (d : Fin 256) : Q1 m c t (ix2 r d)
    = if h : d.val < 128 then (iblk m c 0 t : S512x256.Idx → EReal) (ix2 r ⟨128 + d.val, by omega⟩) else if 192 ≤ d.val then (iblk m c 1 t : S512x128.Idx → EReal) (ix2 r ⟨d.val - 128, by omega⟩) else (0 : EReal) :=
  q1_apply c (ms0_0 t) (hs0_0 t) (ms0_1 t) (hs0_1 t) (iblk m c 0 t) (iblk m c 1 t) r d

/-- Head 0's product of a query and a key, over its 128 lanes and the padded rotary lanes. -/
theorem qk0 (t : Fin cfg0.N) (b : Fin 2) (s : Fin 8192) (h : Fin 8) (r : Fin 512) (k : Fin 8192)
    (ht : t.val / 64 = b.val) (hs : s.val = 512 * (t.val % 16) + r.val) (hh : h.val = 2 * (t.val / 16 % 4)) :
    qk (Q0 m c t) (iblk m c 2 t) (iblk m c 3 t) 0 (by omega) r k.val
      = ∑ d : Fin 192, argQ m c (ix4 b s h d) * hostScale * argK m c (ix4 b k h d) := by
  unfold qk
  rw [dif_pos k.isLt, sum_split]
  congr 1
  · refine Finset.sum_congr rfl fun d _ => congrArg₂ (· * ·) ?_ ?_
    · rw [Q0_apply, dif_pos d.isLt]
      rw [blk0 m c t r _ ⟨8192 * b.val + s.val, by omega⟩ ⟨128 * h.val + d.val, by omega⟩ (by dsimp only; omega) (by dsimp only; omega)]
      exact V_qn m c b s h d _ _ rfl rfl
    · rw [blk2 m c t _ _ ⟨8192 * b.val + k.val, by omega⟩ ⟨128 * h.val + d.val, by omega⟩ (by dsimp only; omega) (by dsimp only; omega)]
      exact V_kn m c b k h d _ _ rfl rfl
  · rw [sum_low]
    · refine Finset.sum_congr rfl fun d _ => congrArg₂ (· * ·) ?_ ?_
      · rw [Q0_apply, dif_neg (by dsimp only; omega), if_pos (by dsimp only; omega)]
        rw [blk1 m c t r _ ⟨8192 * b.val + s.val, by omega⟩ ⟨64 * h.val + d.val, by omega⟩ (by dsimp only; omega) (by dsimp only; omega)]
        exact V_qr m c b s h d _ _ rfl rfl
      · rw [blk3 m c t _ _ ⟨8192 * b.val + k.val, by omega⟩ ⟨64 * h.val + d.val, by omega⟩ (by dsimp only; omega) (by dsimp only; omega)]
        exact V_kr m c b k h d _ _ rfl rfl
    · intro d
      rw [Q0_apply, dif_neg (by dsimp only; omega), if_neg (by dsimp only; omega)]
      exact zero_mul (_ : EReal)

/-- Head 1's product. -/
theorem qk1 (t : Fin cfg0.N) (b : Fin 2) (s : Fin 8192) (h : Fin 8) (r : Fin 512) (k : Fin 8192)
    (ht : t.val / 64 = b.val) (hs : s.val = 512 * (t.val % 16) + r.val) (hh : h.val = 2 * (t.val / 16 % 4) + 1) :
    qk (Q1 m c t) (iblk m c 2 t) (iblk m c 3 t) 128 (by omega) r k.val
      = ∑ d : Fin 192, argQ m c (ix4 b s h d) * hostScale * argK m c (ix4 b k h d) := by
  unfold qk
  rw [dif_pos k.isLt, sum_split]
  congr 1
  · refine Finset.sum_congr rfl fun d _ => congrArg₂ (· * ·) ?_ ?_
    · rw [Q1_apply, dif_pos d.isLt]
      rw [blk0 m c t r _ ⟨8192 * b.val + s.val, by omega⟩ ⟨128 * h.val + d.val, by omega⟩ (by dsimp only; omega) (by dsimp only; omega)]
      exact V_qn m c b s h d _ _ rfl rfl
    · rw [blk2 m c t _ _ ⟨8192 * b.val + k.val, by omega⟩ ⟨128 * h.val + d.val, by omega⟩ (by dsimp only; omega) (by dsimp only; omega)]
      exact V_kn m c b k h d _ _ rfl rfl
  · rw [sum_high]
    · refine Finset.sum_congr rfl fun d _ => congrArg₂ (· * ·) ?_ ?_
      · rw [Q1_apply, dif_neg (by dsimp only; omega), if_pos (by dsimp only; omega)]
        rw [blk1 m c t r _ ⟨8192 * b.val + s.val, by omega⟩ ⟨64 * h.val + d.val, by omega⟩ (by dsimp only; omega) (by dsimp only; omega)]
        exact V_qr m c b s h d _ _ rfl rfl
      · rw [blk3 m c t _ _ ⟨8192 * b.val + k.val, by omega⟩ ⟨64 * h.val + d.val, by omega⟩ (by dsimp only; omega) (by dsimp only; omega)]
        exact V_kr m c b k h d _ _ rfl rfl
    · intro d
      rw [Q1_apply, dif_neg (by dsimp only; omega), if_neg (by dsimp only; omega)]
      exact zero_mul (_ : EReal)

/-- The scores of both heads are the causal scores in bits. -/
theorem scores (hQ : ∀ i, ∃ r : ℝ, argQ m c i = (r : EReal)) (hK : ∀ i, ∃ r : ℝ, argK m c i = (r : EReal)) (t : Fin cfg0.N) (b : Fin 2) (s : Fin 8192) (e : Fin 2) (h : Fin 8) (r : Fin 512)
    (ht : t.val / 64 = b.val) (hs : s.val = 512 * (t.val % 16) + r.val) (hh : h.val = 2 * (t.val / 16 % 4) + e.val) (k : ℕ) :
    SS (512 * (t.val % 16)) (Q0 m c t) (Q1 m c t) (iblk m c 2 t) (iblk m c 3 t) e r k = bits (causal (argQ m c) (argK m c) b s h k) := by
  have key : ∀ hk : k ≤ s.val, ∑ d : Fin 192, argQ m c (ix4 b s h d) * hostScale * argK m c (ix4 b (⟨k, by omega⟩ : Fin 8192) h d)
      = bits (causal (argQ m c) (argK m c) b s h k) := fun hk => by
    unfold causal; rw [dif_pos hk]
    exact score_bits (fun d => argQ m c (ix4 b s h d)) (fun d => argK m c (ix4 b (⟨k, by omega⟩ : Fin 8192) h d)) (fun d => hQ _) fun d => hK _
  have out : ¬ k ≤ s.val → bits (causal (argQ m c) (argK m c) b s h k) = ⊥ := fun hk => by
    unfold causal; rw [dif_neg hk, bits_bot]
  rcases (show e = 0 ∨ e = 1 by omega) with rfl | rfl
  · show cqk (512 * (t.val % 16)) (Q0 m c t) (iblk m c 2 t) (iblk m c 3 t) 0 (by omega) r k = _
    unfold cqk
    by_cases hk : k ≤ s.val
    · rw [if_pos (by omega)]
      exact (qk0 m c t b s h r ⟨k, by omega⟩ ht hs (by simpa using hh)).trans (key hk)
    · rw [if_neg (by omega), out hk]
  · show cqk (512 * (t.val % 16)) (Q1 m c t) (iblk m c 2 t) (iblk m c 3 t) 128 (by omega) r k = _
    unfold cqk
    by_cases hk : k ≤ s.val
    · rw [if_pos (by omega)]
      exact (qk1 m c t b s h r ⟨k, by omega⟩ ht hs (by simpa using hh)).trans (key hk)
    · rw [if_neg (by omega), out hk]

/-- The values of both heads. -/
theorem values (t : Fin cfg0.N) (b : Fin 2) (e : Fin 2) (h : Fin 8) (l : Fin 128) (ht : t.val / 64 = b.val) (hh : h.val = 2 * (t.val / 16 % 4) + e.val) :
    VV (iblk m c 4 t) e l = lane (argV m c) b h l := by
  funext k
  have key : ∀ (hk : k < 8192) (j : Fin 256), j.val = 128 * e.val + l.val → (iblk m c 4 t : S8192x256.Idx → EReal) (ix2 ⟨k, hk⟩ j) = argV m c (ix4 b ⟨k, hk⟩ h l) := fun hk j hj => by
    rw [blk4 m c t _ _ ⟨8192 * b.val + k, by omega⟩ ⟨128 * h.val + l.val, by omega⟩ (by dsimp only; omega) (by dsimp only; omega)]
    exact V_v m c b ⟨k, hk⟩ h l _ _ rfl rfl
  rcases (show e = 0 ∨ e = 1 by omega) with rfl | rfl
  · show val (iblk m c 4 t) 0 (by omega) l k = _
    unfold val lane
    by_cases hk : k < 8192
    · rw [dif_pos hk, dif_pos hk]; exact key hk _ (by simp)
    · rw [dif_neg hk, dif_neg hk]
  · show val (iblk m c 4 t) 128 (by omega) l k = _
    unfold val lane
    by_cases hk : k < 8192
    · rw [dif_pos hk, dif_pos hk]; exact key hk _ (by simp)
    · rw [dif_neg hk, dif_neg hk]

/-- Every point writes its block back. -/
theorem flush_all : ∀ t : Fin cfg0.N, (cfg0.win 5).flush t = true := (by decide +kernel : ∀ t : Fin grid0.N, win0_5.flush t = true)

/-- The array the kernel leaves, at an index. -/
theorem array_apply (hQ : ∀ i, ∃ r : ℝ, argQ m c i = (r : EReal)) (hK : ∀ i, ∃ r : ℝ, argK m c i = (r : EReal))
    (b : Fin 2) (s : Fin 8192) (h : Fin 8) (l : Fin 128) (R : Fin 16384) (J : Fin 1024) (hR : R.val = 8192 * b.val + s.val) (hJ : J.val = 128 * h.val + l.val) :
    ((dats m 0 c).arrAt 5 cfg0.N : S16384x1024.Idx → EReal) (ix2 R J) = attend (argQ m c) (argK m c) (argV m c) b s h l := by
  have hN : cfg0.N = 128 := by decide
  obtain ⟨t, htv⟩ : ∃ t : Fin cfg0.N, t.val = 64 * b.val + 16 * (h.val / 2) + s.val / 512 := ⟨⟨64 * b.val + 16 * (h.val / 2) + s.val / 512, by omega⟩, rfl⟩
  obtain ⟨r, hr⟩ : ∃ r : Fin 512, r.val = s.val % 512 := ⟨⟨s.val % 512, by omega⟩, rfl⟩
  obtain ⟨e, he⟩ : ∃ e : Fin 2, e.val = h.val % 2 := ⟨⟨h.val % 2, by omega⟩, rfl⟩
  obtain ⟨j, hj⟩ : ∃ j : Fin 256, j.val = 128 * e.val + l.val := ⟨⟨128 * e.val + l.val, by omega⟩, rfl⟩
  have ht : t.val / 64 = b.val := by omega
  have hs : s.val = 512 * (t.val % 16) + r.val := by omega
  have hh : h.val = 2 * (t.val / 16 % 4) + e.val := by omega
  have hrow := fun k => scores m c hQ hK t b s e h r ht hs hh k
  have h1 := congrFun (Value.blocks5 m c t (flush_all t)) (ix2 r j)
  rw [View.read_apply] at h1
  have h2 : ((dats m 0 c).arrAt 5 cfg0.N : S16384x1024.Idx → EReal) (ix2 R J) = (dats m 0 c).flushed 5 t (ix2 r j) := by
    refine Eq.trans ?_ h1
    show _ = ((dats m 0 c).arrAt 5 cfg0.N : S16384x1024.Idx → EReal) _
    refine congrArg ((dats m 0 c).arrAt 5 cfg0.N : S16384x1024.Idx → EReal) (funext fun a => Fin.ext ?_)
    match a with
    | ⟨0, _⟩ => show R.val = win0_5.index t 0 * 512 + 1 * r.val; rw [(index5 t).1]; omega
    | ⟨1, _⟩ => show J.val = win0_5.index t 1 * 256 + 1 * j.val; rw [(index5 t).2]; omega
  rw [h2, Value.flushed5_A]
  have ec : ((grid0.coords t) 2).val = t.val % 16 := (coords_eq t).2.2
  have hSS : ∀ e' r', Row (SS (512 * ((grid0.coords t) 2).val) (Q0 m c t) (Q1 m c t) (iblk m c 2 t) (iblk m c 3 t) e' r') := fun e' r' => by
    rw [ec]
    exact bits_row (fun k => scores m c hQ hK t b ⟨512 * (t.val % 16) + r'.val, by omega⟩ e' ⟨2 * (t.val / 16 % 4) + e'.val, by omega⟩ r' ht rfl rfl k) (causal_row hQ hK _ _ _)
  refine (out_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) hSS r e l j hj).trans ?_
  show Ideal.div (runAcc (SS (512 * ((grid0.coords t) 2).val) (Q0 m c t) (Q1 m c t) (iblk m c 2 t) (iblk m c 3 t) e r) (VV (iblk m c 4 t) e l) _) (runSum (SS (512 * ((grid0.coords t) 2).val) (Q0 m c t) (Q1 m c t) (iblk m c 2 t) (iblk m c 3 t) e r) _) = _
  rw [ec, values m c t b e h l ht hh]
  exact (softmax_eq hrow (causal_row hQ hK b s h) (by omega) (by omega) fun k hk _ => by
    unfold causal; rw [dif_neg (by omega)]).symm

end Cert.KernelIdeal.Attn

end
-- ==== Proof.Ref.lean ====
/- The reference at an index: the softmax attention of the causal scores. -/
module

public import proofs.«01_k».proof.Proof.Score
public import proofs.«01_k».proof.Proof.Gen.ReferenceIdeal.Read
public import Idealize.ShloMosaic.Lib.Pointwise
public import Idealize.ShloMosaic.Lib.WordCmp

@[expose] public section

set_option maxRecDepth 16384

noncomputable section

namespace Cert.ReferenceIdeal.Attn

open Cert.ReferenceIdeal Cert.ReferenceIdeal.Gen Cert.ReferenceIdeal.Read Cert.Online Idealize.ShloMosaic Idealize.ShloMosaic.TcCoe Idealize.ShloMosaic.Tactic Idealize.SL.Sem

variable (x0 x1 : S2x8192x8x192.Idx → EReal) (x2 : S2x8192x8x128.Idx → EReal)

/-- Which elements the two products and the sums read. -/
theorem lidx1 (b : Fin 2) (h : Fin 8) (s k : Fin 8192) (d : Fin 192) : lidx_main_v1 (ix4 b h s k) d = ix4 b s h d := funext fun a => match a with | ⟨0, _⟩ => rfl | ⟨1, _⟩ => rfl | ⟨2, _⟩ => rfl | ⟨3, _⟩ => rfl
theorem ridx1 (b : Fin 2) (h : Fin 8) (s k : Fin 8192) (d : Fin 192) : ridx_main_v1 (ix4 b h s k) d = ix4 b k h d := funext fun a => match a with | ⟨0, _⟩ => rfl | ⟨1, _⟩ => rfl | ⟨2, _⟩ => rfl | ⟨3, _⟩ => rfl
theorem lidx22 (b : Fin 2) (h : Fin 8) (l : Fin 128) (s k : Fin 8192) : lidx_main_v22 (ix4 b h l s) k = ix4 b k h l := funext fun a => match a with | ⟨0, _⟩ => rfl | ⟨1, _⟩ => rfl | ⟨2, _⟩ => rfl | ⟨3, _⟩ => rfl
theorem ridx22 (b : Fin 2) (h : Fin 8) (l : Fin 128) (s k : Fin 8192) : ridx_main_v22 (ix4 b h l s) k = ix4 b h s k := funext fun a => match a with | ⟨0, _⟩ => rfl | ⟨1, _⟩ => rfl | ⟨2, _⟩ => rfl | ⟨3, _⟩ => rfl
theorem idx23 (b : Fin 2) (s : Fin 8192) (h : Fin 8) (l : Fin 128) : idx_main_v23 (ix4 b s h l) = ix4 b h l s := funext fun a => match a with | ⟨0, _⟩ => rfl | ⟨1, _⟩ => rfl | ⟨2, _⟩ => rfl | ⟨3, _⟩ => rfl
theorem idx15 (b : Fin 2) (h : Fin 8) (s k : Fin 8192) : idx_main_v14 (idx_main_v15 (ix4 b h s k)) = ix3 b h s := funext fun a => match a with | ⟨0, _⟩ => rfl | ⟨1, _⟩ => rfl | ⟨2, _⟩ => rfl
theorem idx20 (b : Fin 2) (h : Fin 8) (s k : Fin 8192) : idx_main_v19 (idx_main_v20 (ix4 b h s k)) = ix3 b h s := funext fun a => match a with | ⟨0, _⟩ => rfl | ⟨1, _⟩ => rfl | ⟨2, _⟩ => rfl
theorem idx18 (b : Fin 2) (h : Fin 8) (s k : Fin 8192) : idx_main_v18 (ix3 b h s) k = ix4 b h s k := funext fun a => match a with | ⟨0, _⟩ => rfl | ⟨1, _⟩ => rfl | ⟨2, _⟩ => rfl | ⟨3, _⟩ => rfl

/-- The literals: 192, −∞ and zero. -/
theorem lit192 : (FloatOps.ofBits .f32 0x43400000#32 : Ideal .f32) = ((192 : ℝ) : EReal) := by
  show Ideal.ofBits .f32 0x43400000#32 = _
  simp [Ideal.ofBits, Ideal.ieee, -EReal.coe_mul]; norm_num
theorem litBot : (FloatOps.ofBits .f32 0xFF800000#32 : Ideal .f32) = (⊥ : EReal) := by
  show Ideal.ofBits .f32 0xFF800000#32 = _
  simp [Ideal.ofBits, Ideal.ieee]
theorem litZero : (FloatOps.ofBits .f32 0x00000000#32 : Ideal .f32) = (0 : EReal) := by
  show Ideal.ofBits .f32 0x00000000#32 = _
  simp [Ideal.ofBits, Ideal.ieee]

/-- The masked scores. -/
theorem v10_apply (b : Fin 2) (h : Fin 8) (s k : Fin 8192) : val_main_v10 (F := Ideal) x0 x1 (ix4 b h s k) = causal x0 x1 b s h k.val := by
  rw [val_main_v10_apply, val_main_call0_v1_apply, val_main_v9_apply, val_main_v7_apply, val_main_v8_apply, val_main_v5_apply, val_main_v6_apply, val_main_v0_apply, val_main_v0_apply,
    val_main_v4_apply, val_main_v1_apply, val_main_v3_apply, val_main_v2_apply, val_main_cst_apply, val_main_call0_v2_apply, val_main_call0_v0_apply, val_main_cst_0_apply, lit192, litBot]
  simp only [lidx1, ridx1]
  show Scalar.select (IntOp.cmpi .sle (BitVec.ofNat 32 k.val) (BitVec.ofNat 32 s.val)) ((∑ d : Fin 192, x0 (ix4 b s h d) * x1 (ix4 b k h d)) * sqrtScale) (⊥ : EReal) = _
  rw [WordCmp.cmpi_sle_ofNat (by omega) (by omega)]
  unfold causal
  by_cases hk : k.val ≤ s.val <;> simp [hk, Scalar.select]

/-- The row's maximum. -/
theorem v11_apply (b : Fin 2) (h : Fin 8) (s : Fin 8192) : val_main_v11 (F := Ideal) x0 x1 (ix3 b h s) = runMax (causal x0 x1 b s h) 8192 := by
  unfold val_main_v11
  pointwise
  simp only [v10_apply, val_main_cst_1_apply, litBot]
  show Finset.sup Finset.univ (fun k : Fin 8192 => causal x0 x1 b s h k.val) = Finset.sup (Finset.range 8192) (causal x0 x1 b s h)
  refine le_antisymm (Finset.sup_le fun k _ => Finset.le_sup (f := causal x0 x1 b s h) (Finset.mem_range.mpr k.isLt)) (Finset.sup_le fun k hk => ?_)
  exact Finset.le_sup (f := fun k : Fin 8192 => causal x0 x1 b s h k.val) (Finset.mem_univ (⟨k, Finset.mem_range.mp hk⟩ : Fin 8192))

/-- The exponentials. -/
theorem v17_apply (b : Fin 2) (h : Fin 8) (s k : Fin 8192) :
    val_main_v17 (F := Ideal) x0 x1 (ix4 b h s k) = Ideal.exp (causal x0 x1 b s h k.val - runMax (causal x0 x1 b s h) 8192) := by
  rw [val_main_v17_apply, val_main_v16_apply, val_main_v15_apply, val_main_v14_apply, idx15, val_main_v13_apply, val_main_v12_apply, val_main_cst_2_apply, v10_apply, v11_apply, litBot]
  show Ideal.exp (causal x0 x1 b s h k.val - max ⊥ (runMax (causal x0 x1 b s h) 8192)) = _
  rw [max_eq_right bot_le]

/-- The reference's result at an index. -/
theorem ref_apply (b : Fin 2) (s : Fin 8192) (h : Fin 8) (l : Fin 128) (R : Fin 16384) (J : Fin 1024) (hR : R.val = 8192 * b.val + s.val) (hJ : J.val = 128 * h.val + l.val) :
    val_main_v24 (F := Ideal) x0 x1 x2 (ix2 R J) = attend x0 x1 x2 b s h l := by
  unfold val_main_v24
  refine (shapeCast_apply _ _ _ (ix4 b s h l) ?_).trans ?_
  · rw [rowMajor_val4 _ 8388608 1024 128 rfl rfl rfl, rowMajor_val2 _ 1024 rfl]
    show b.val * 8388608 + s.val * 1024 + h.val * 128 + l.val = R.val * 1024 + J.val
    omega
  rw [val_main_v23_apply, idx23, val_main_v22_apply]
  unfold attend
  rw [Finset.sum_range]
  refine Finset.sum_congr rfl fun k _ => ?_
  rw [lidx22, ridx22, val_main_v21_apply, v17_apply, val_main_v20_apply, val_main_v19_apply, idx20, val_main_v18_apply, val_main_cst_3_apply, litZero]
  simp only [idx18, v17_apply]
  rw [Finset.sum_range, mul_comm]
  unfold lane
  rw [dif_pos k.isLt, zero_add]
  rfl

end Cert.ReferenceIdeal.Attn

end
-- ==== Proof.Equation.lean ====
/- The precondition read back, and the equation of the kernel's array and the reference's. -/
module

public import proofs.«01_k».proof.Defs
public import proofs.«01_k».proof.Proof.Array
public import proofs.«01_k».proof.Proof.Ref
public import proofs.«01_k».proof.Proof.Gen.Pre_real_logits

@[expose] public section

set_option maxRecDepth 16384

noncomputable section

namespace Cert.Proof

open Cert.Online Idealize.ShloMosaic Idealize.ShloMosaic.TcCoe Idealize.SL.Sem

/-- A value whose magnitude compares below +∞ is a number. -/
theorem real_of_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  have hlt : max x (-x) < ⊤ := by
    by_contra hn
    simp [Ideal.cmp, hn] at h
  induction x using EReal.rec with
  | bot => simp at hlt
  | top => simp at hlt
  | coe r => exact ⟨r, rfl⟩

variable (m : (ℓ : Loc Cert.KernelIdeal.nD Cert.KernelIdeal.τ Cert.KernelIdeal.sig) → Buf (Elt Ideal) ℓ)

/-- The queries are numbers. -/
theorem realQ (hp : Cert.Pre_KernelIdeal_real_logits m) (c : Dev Cert.KernelIdeal.nD) (i) : ∃ r : ℝ, KernelIdeal.Attn.argQ m c i = (r : EReal) :=
  real_of_lt _ (congrFun (hp c).1 i)

/-- The keys are numbers. -/
theorem realK (hp : Cert.Pre_KernelIdeal_real_logits m) (c : Dev Cert.KernelIdeal.nD) (i) : ∃ r : ℝ, KernelIdeal.Attn.argK m c i = (r : EReal) :=
  real_of_lt _ (congrFun (hp c).2.1 i)

/-- The kernel's array is the reference's result. -/
theorem result_eq (m' : (ℓ : Loc Cert.ReferenceIdeal.nD Cert.ReferenceIdeal.τ Cert.ReferenceIdeal.sig) → Buf (Elt Ideal) ℓ) (hp : Cert.Pre_KernelIdeal_real_logits m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.ReferenceIdeal.Value.res_main_v24 m' c : ReferenceIdeal.S16384x1024.Idx → EReal) = (KernelIdeal.Gen.dats m 0 c).arrAt 5 Cert.KernelIdeal.cfg0.N := by
  rw [Cert.ReferenceIdeal.Read.val_main_v24_eq m' c, h0, h1, h2]
  funext j
  obtain ⟨R, J, rfl⟩ : ∃ (R : Fin 16384) (J : Fin 1024), j = ix2 R J := ⟨j 0, j 1, funext fun a => match a with | ⟨0, _⟩ => rfl | ⟨1, _⟩ => rfl⟩
  have hb : R.val = 8192 * (R.val / 8192) + R.val % 8192 := by omega
  have hh : J.val = 128 * (J.val / 128) + J.val % 128 := by omega
  exact (ReferenceIdeal.Attn.ref_apply (KernelIdeal.Attn.argQ m c) (KernelIdeal.Attn.argK m c) (KernelIdeal.Attn.argV m c) ⟨R.val / 8192, by omega⟩ ⟨R.val % 8192, by omega⟩ ⟨J.val / 128, by omega⟩ ⟨J.val % 128, by omega⟩ R J hb hh).trans
    (KernelIdeal.Attn.array_apply m c (realQ m hp c) (realK m hp c) ⟨R.val / 8192, by omega⟩ ⟨R.val % 8192, by omega⟩ ⟨J.val / 128, by omega⟩ ⟨J.val % 128, by omega⟩ R J hb hh).symm

end Cert.Proof

end
-- ==== Proof.Expert.lean ====
/- The mathematics of a gated feed-forward layer on one row: the row's norm, the gated products with the two input
weights, and the output weights' product. -/
module

public import Idealize.ShloMosaic.PureOps.Ideal.Laws

@[expose] public section

noncomputable section

namespace Cert.Expert

open Idealize.ShloMosaic

/-- The literals of the root mean square: the small number added to the mean, and the row's length. -/
def eps : EReal := Ideal.ofBits .f32 0x358637BD#32
def count : EReal := Ideal.ofBits .f32 0x45000000#32

/-- A row divided by its root mean square and scaled. -/
def rmsRow (x g : Fin 2048 → EReal) (d : Fin 2048) : EReal :=
  x d * Ideal.rsqrt (Ideal.div (∑ k, x k * x k) count + eps) * g d

/-- One hidden unit of a row: the product with the gate's weights, through the sigmoid-weighted unit, times the product
with the other weights. -/
def gated (t w u : Fin 2048 → EReal) : EReal :=
  (∑ k, t k * w k) * Ideal.logistic (∑ k, t k * w k) * ∑ k, t k * u k

/-- A sum over blocks of a sum within each block is the sum over all. -/
theorem sum_blocks (n b : ℕ) (f : ℕ → EReal) : ∑ j ∈ Finset.range n, ∑ l ∈ Finset.range b, f (b * j + l) = ∑ k ∈ Finset.range (b * n), f k := by
  induction n with
  | zero => simp
  | succ n ih => rw [Finset.sum_range_succ, ih, Nat.mul_succ, Finset.sum_range_add]

end Cert.Expert

end
-- ==== Proof.Dense.lean ====
/- The dense gated layer's body at a grid point: what the run leaves in the two scratch buffers and in the output, at an
index. -/
module

public import proofs.«01_k».proof.Proof.Expert
public import proofs.«01_k».proof.Proof.Gen.Kernel3Ideal.Value
public import Idealize.ShloMosaic.Lib.Pointwise
public import Idealize.ShloMosaic.Lib.VecWindow

@[expose] public section

set_option maxRecDepth 16384

noncomputable section

namespace Cert.Kernel3Ideal.Dense

open Cert.Kernel3Ideal Cert.Kernel3Ideal.Gen Cert.Expert Idealize.ShloMosaic Idealize.ShloMosaic.TcCoe Idealize.ShloMosaic.Tactic Idealize.SL.Sem

/-- The norm of a block's rows. -/
theorem pay1_apply (x : Vec Ideal S512x2048 .f32) (g : Vec Ideal S1x2048 .f32) (r : Fin 512) (d : Fin 2048) :
    k0_pay1 (F := Ideal) x g (ix2 r d) = rmsRow (fun k => x (ix2 r k)) (fun k => g (ix2 0 k)) d := by
  pointwise [k0_pay1]
  rfl

/-- The accumulator starts at zero. -/
theorem pay2_apply (r : Fin 512) (d : Fin 2048) : k0_pay2 (F := Ideal) (ix2 r d) = (0 : EReal) := by
  pointwise [k0_pay2]

/-- One block of the inner width added to the accumulator. -/
theorem pay3_apply (t : Vec Ideal S512x2048 .bf16) (w u : Vec Ideal S2048x512 .bf16) (acc : Vec Ideal S512x2048 .f32) (wd : Vec Ideal S512x2048 .bf16) (r : Fin 512) (d : Fin 2048) :
    k0_pay3 (F := Ideal) t w u acc wd (ix2 r d) = acc (ix2 r d) + ∑ l : Fin 512, gated (fun k => t (ix2 r k)) (fun k => w (ix2 k l)) (fun k => u (ix2 k l)) * wd (ix2 l d) := by
  pointwise [k0_pay3]
  unfold gated
  rfl

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x2048 .f32) (harg9 : arg9.IsWhole)
variable (x0 : Vec Ideal S512x2048 .f32) (x1 : Vec Ideal S1x2048 .f32) (x2 x3 : Vec Ideal S2048x512 .bf16) (x4 : Vec Ideal S512x2048 .bf16) (xs0 : Vec Ideal S512x2048 .bf16) (xs1 : Vec Ideal S512x2048 .f32)

/-- A load of the whole of a buffer held at `x` is `x`. -/
theorem ld {s : Shape} {e : EltTy} {sp : Space} {arg : Memref sig .tc sp s e} (h : arg.IsWhole) {off : Fin s.rank → ℕ} (inb : ∀ a, off a + s.size a ≤ s.size a) (x : s.Idx → Elt Ideal e) :
    arg.view.readAt (Elt Ideal) (Rect.unit off s.size inb).toLoadRect (h.unread x) = x :=
  (View.readAt_full arg.view _ inb).trans (h.read_unread x)

theorem congr5 {α β γ δ ε ζ : Type} (f : α → β → γ → δ → ε → ζ) {a a' b b' e e' d d' g g'} (h1 : a = a') (h2 : b = b') (h3 : e = e') (h4 : d = d') (h5 : g = g') : f a b e d g = f a' b' e' d' g' := by
  subst h1 h2 h3 h4 h5; rfl

/-- The first scratch at a row block's first point: the rows' norm. -/
theorem sA0 (hc0) (hc1) : sout0_A_0 c i arg2 harg2 arg3 harg3 arg4 harg4 arg5 harg5 arg6 harg6 arg7 harg7 arg8 harg8 arg9 harg9 hc0 hc1 x0 x1 x2 x3 x4 = k0_pay1 (F := Ideal) x0 x1 := by
  unfold sout0_A_0 kernelRun0_A
  dsimp only
  exact (View.read_writes_full VS0_0 VS0_0.junk inb_S512x2048_S512x2048_0_0 _ _).trans (congrArg₂ k0_pay1 (ld harg2 _ x0) (ld harg3 _ x1))

/-- The accumulator at a row block's first point: one block over zero. -/
theorem sA1 (hc0) (hc1) : sout0_A_1 c i arg2 harg2 arg3 harg3 arg4 harg4 arg5 harg5 arg6 harg6 arg7 harg7 arg8 harg8 arg9 harg9 hc0 hc1 x0 x1 x2 x3 x4 = k0_pay3 (F := Ideal) (k0_pay1 x0 x1) x2 x3 (k0_pay2 (F := Ideal)) x4 := by
  unfold sout0_A_1 kernelRun0_A
  dsimp only
  refine (View.read_writes_full VS0_1 VS0_1.junk inb_S512x2048_S512x2048_0_0 _ _).trans (congr5 (k0_pay3 (F := Ideal)) ?_ (ld harg4 _ x2) (ld harg5 _ x3) ?_ (ld harg6 _ x4))
  · exact (View.readCov_full arg8.view inb_S512x2048_S512x2048_0_0 inb_S512x2048_S512x2048_0_0 _ _).trans (congrArg₂ k0_pay1 (ld harg2 _ x0) (ld harg3 _ x1))
  · exact View.readCov_full arg9.view inb_S512x2048_S512x2048_0_0 inb_S512x2048_S512x2048_0_0 _ _

/-- The accumulator at a middle point. -/
theorem sB1 (hc0) (hc1) : sout0_B_1 c i arg2 harg2 arg3 harg3 arg4 harg4 arg5 harg5 arg6 harg6 arg7 harg7 arg8 harg8 arg9 harg9 hc0 hc1 x0 x1 x2 x3 x4 xs0 xs1 = k0_pay3 (F := Ideal) xs0 x2 x3 xs1 x4 := by
  unfold sout0_B_1 kernelRun0_B
  dsimp only
  exact (View.read_writes_full VS0_1 VS0_1.junk inb_S512x2048_S512x2048_0_0 _ _).trans (congr5 (k0_pay3 (F := Ideal)) (ld harg8 _ xs0) (ld harg4 _ x2) (ld harg5 _ x3) (ld harg9 _ xs1) (ld harg6 _ x4))

/-- The accumulator at a row block's last point. -/
theorem sC1 (hc0) (hc1) : sout0_C_1 c i arg2 harg2 arg3 harg3 arg4 harg4 arg5 harg5 arg6 harg6 arg7 harg7 arg8 harg8 arg9 harg9 hc0 hc1 x0 x1 x2 x3 x4 xs0 xs1 = k0_pay3 (F := Ideal) xs0 x2 x3 xs1 x4 := by
  unfold sout0_C_1 kernelRun0_C
  dsimp only
  exact (View.read_writes_full VS0_1 VS0_1.junk inb_S512x2048_S512x2048_0_0 _ _).trans (congr5 (k0_pay3 (F := Ideal)) (ld harg8 _ xs0) (ld harg4 _ x2) (ld harg5 _ x3) (ld harg9 _ xs1) (ld harg6 _ x4))

/-- The output at a row block's last point: the block's rows and the accumulator. -/
theorem oC5 (hc0) (hc1) : out0_C_5 c i arg2 harg2 arg3 harg3 arg4 harg4 arg5 harg5 arg6 harg6 arg7 harg7 arg8 harg8 arg9 harg9 hc0 hc1 x0 x1 x2 x3 x4 xs0 xs1 = k0_pay4 (F := Ideal) x0 (k0_pay3 (F := Ideal) xs0 x2 x3 xs1 x4) := by
  unfold out0_C_5 kernelRun0_C
  dsimp only
  refine (View.read_writes_full VO0_5 VO0_5.junk inb_S512x2048_S512x2048_0_0 _ _).trans (congrArg₂ (k0_pay4 (F := Ideal)) (ld harg2 _ x0) ?_)
  exact (View.readCov_full arg9.view inb_S512x2048_S512x2048_0_0 inb_S512x2048_S512x2048_0_0 _ _).trans (congr5 (k0_pay3 (F := Ideal)) (ld harg8 _ xs0) (ld harg4 _ x2) (ld harg5 _ x3) (ld harg9 _ xs1) (ld harg6 _ x4))

end Cert.Kernel3Ideal.Dense

end
-- ==== Proof.DenseArray.lean ====
/- The array the dense gated layer leaves: each row with its feed-forward product added. -/
module

public import proofs.«01_k».proof.Proof.Dense

@[expose] public section

set_option maxRecDepth 16384

noncomputable section

namespace Cert.Kernel3Ideal.Dense

open Cert.Kernel3Ideal Cert.Kernel3Ideal.Gen Cert.Expert Idealize.ShloMosaic Idealize.ShloMosaic.TcCoe Idealize.ShloMosaic.Tactic Idealize.SL.Sem

variable (m : (ℓ : Loc nD τ sig) → Buf (Elt Ideal) ℓ) (c : Dev nD)

/-- The rows at launch. -/
def argH : S16384x2048.Idx → EReal := m ((c : Thread nD τ).loc main_arg0)
/-- The gain at launch. -/
def argG : S2048.Idx → EReal := m ((c : Thread nD τ).loc main_arg1)
/-- The gate's weights at launch. -/
def argWg : S2048x5632.Idx → EReal := m ((c : Thread nD τ).loc main_arg2)
/-- The up weights at launch. -/
def argWu : S2048x5632.Idx → EReal := m ((c : Thread nD τ).loc main_arg3)
/-- The down weights at launch. -/
def argWd : S5632x2048.Idx → EReal := m ((c : Thread nD τ).loc main_arg4)

/-- The rows reach the call as they are. -/
theorem V_h (i : S16384x2048.Idx) : V m c main_arg0 i = argH m c i := by
  show StableHlo.after hostOps0 _ (Proc.devRef .tc main_arg0) _ = _
  after_results
  rfl

/-- A vector laid out as one row. -/
theorem row1 (x : S2048.Idx → EReal) (k : Fin 2048) : shapeCast S1x2048 x shapeCasts_S2048_S1x2048 (ix2 0 k) = x (ix1 k) := by
  refine shapeCast_apply _ _ _ _ ?_
  rw [rowMajor_val1, rowMajor_val2 _ 2048 rfl]
  show k.val = 0 * 2048 + k.val
  omega

/-- The gain reaches it as one row. -/
theorem V_g (k : Fin 2048) : V m c main_v3 (ix2 0 k) = argG m c (ix1 k) := by
  show StableHlo.after hostOps0 _ (Proc.devRef .tc main_v3) _ = _
  after_results
  exact row1 (argG m c) k

/-- The gate's weights. -/
theorem V_wg (i : S2048x5632.Idx) : V m c main_v0 i = argWg m c i := by
  show StableHlo.after hostOps0 _ (Proc.devRef .tc main_v0) _ = _
  after_results
  rfl

/-- The up weights. -/
theorem V_wu (i : S2048x5632.Idx) : V m c main_v1 i = argWu m c i := by
  show StableHlo.after hostOps0 _ (Proc.devRef .tc main_v1) _ = _
  after_results
  rfl

/-- The down weights. -/
theorem V_wd (i : S5632x2048.Idx) : V m c main_v2 i = argWd m c i := by
  show StableHlo.after hostOps0 _ (Proc.devRef .tc main_v2) _ = _
  after_results
  rfl

/-- The windows' blocks at a grid point. -/
theorem index0 : ∀ t : Fin grid0.N, win0_0.index t 0 = t.val / 11 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = t.val % 11 := by decide +kernel
theorem index3 : ∀ t : Fin grid0.N, win0_3.index t 0 = 0 ∧ win0_3.index t 1 = t.val % 11 := by decide +kernel
theorem index4 : ∀ t : Fin grid0.N, win0_4.index t 0 = t.val % 11 ∧ win0_4.index t 1 = 0 := by decide +kernel

/-- An element of the block of rows. -/
theorem blk0 (t : Fin cfg0.N) (r : Fin 512) (k : Fin 2048) (R : Fin 16384) (hR : R.val = 512 * (t.val / 11) + r.val) :
    (iblk m c 0 t : S512x2048.Idx → EReal) (ix2 r k) = argH m c (ix2 R k) := by
  refine Eq.trans ?_ (V_h m c (ix2 R k))
  unfold iblk
  rw [View.read_apply]
  show V m c main_arg0 _ = _
  refine congrArg (V m c main_arg0) (funext fun a => Fin.ext ?_)
  match a with
  | ⟨0, _⟩ => show win0_0.index t 0 * 512 + 1 * r.val = R.val; rw [(index0 t).1]; omega
  | ⟨1, _⟩ => show win0_0.index t 1 * 2048 + 1 * k.val = k.val; rw [(index0 t).2]; omega

/-- An element of the gain. -/
theorem blk1 (t : Fin cfg0.N) (k : Fin 2048) : (iblk m c 1 t : S1x2048.Idx → EReal) (ix2 0 k) = argG m c (ix1 k) := by
  refine Eq.trans ?_ (V_g m c k)
  unfold iblk
  rw [View.read_apply]
  show V m c main_v3 _ = _
  refine congrArg (V m c main_v3) (funext fun a => Fin.ext ?_)
  match a with
  | ⟨0, _⟩ => show win0_1.index t 0 * 1 + 1 * 0 = 0; rw [(index1 t).1]
  | ⟨1, _⟩ => show win0_1.index t 1 * 2048 + 1 * k.val = k.val; rw [(index1 t).2]; omega

/-- An element of the gate's block. -/
theorem blk2 (t : Fin cfg0.N) (k : Fin 2048) (l : Fin 512) (f : Fin 5632) (hf : f.val = 512 * (t.val % 11) + l.val) :
    (iblk m c 2 t : S2048x512.Idx → EReal) (ix2 k l) = argWg m c (ix2 k f) := by
  refine Eq.trans ?_ (V_wg m c (ix2 k f))
  unfold iblk
  rw [View.read_apply]
  show V m c main_v0 _ = _
  refine congrArg (V m c main_v0) (funext fun a => Fin.ext ?_)
  match a with
  | ⟨0, _⟩ => show win0_2.index t 0 * 2048 + 1 * k.val = k.val; rw [(index2 t).1]; omega
  | ⟨1, _⟩ => show win0_2.index t 1 * 512 + 1 * l.val = f.val; rw [(index2 t).2]; omega

/-- An element of the up weights' block. -/
theorem blk3 (t : Fin cfg0.N) (k : Fin 2048) (l : Fin 512) (f : Fin 5632) (hf : f.val = 512 * (t.val % 11) + l.val) :
    (iblk m c 3 t : S2048x512.Idx → EReal) (ix2 k l) = argWu m c (ix2 k f) := by
  refine Eq.trans ?_ (V_wu m c (ix2 k f))
  unfold iblk
  rw [View.read_apply]
  show V m c main_v1 _ = _
  refine congrArg (V m c main_v1) (funext fun a => Fin.ext ?_)
  match a with
  | ⟨0, _⟩ => show win0_3.index t 0 * 2048 + 1 * k.val = k.val; rw [(index3 t).1]; omega
  | ⟨1, _⟩ => show win0_3.index t 1 * 512 + 1 * l.val = f.val; rw [(index3 t).2]; omega

/-- An element of the down weights' block. -/
theorem blk4 (t : Fin cfg0.N) (l : Fin 512) (d : Fin 2048) (f : Fin 5632) (hf : f.val = 512 * (t.val % 11) + l.val) :
    (iblk m c 4 t : S512x2048.Idx → EReal) (ix2 l d) = argWd m c (ix2 f d) := by
  refine Eq.trans ?_ (V_wd m c (ix2 f d))
  unfold iblk
  rw [View.read_apply]
  show V m c main_v2 _ = _
  refine congrArg (V m c main_v2) (funext fun a => Fin.ext ?_)
  match a with
  | ⟨0, _⟩ => show win0_4.index t 0 * 512 + 1 * l.val = f.val; rw [(index4 t).1]; omega
  | ⟨1, _⟩ => show win0_4.index t 1 * 2048 + 1 * d.val = d.val; rw [(index4 t).2]; omega

/-- One inner column's part of the product. -/
def part (R : Fin 16384) (d : Fin 2048) (f : ℕ) : EReal :=
  if h : f < 5632 then
    gated (rmsRow (fun k => argH m c (ix2 R k)) fun k => argG m c (ix1 k)) (fun k => argWg m c (ix2 k ⟨f, h⟩)) (fun k => argWu m c (ix2 k ⟨f, h⟩)) * argWd m c (ix2 ⟨f, h⟩ d)
  else 0

/-- The norm of the rows as a point computes it. -/
theorem norm_blk (t : Fin cfg0.N) (r : Fin 512) (d : Fin 2048) (R : Fin 16384) (hR : R.val = 512 * (t.val / 11) + r.val) :
    k0_pay1 (F := Ideal) (iblk m c 0 t) (iblk m c 1 t) (ix2 r d) = rmsRow (fun k => argH m c (ix2 R k)) (fun k => argG m c (ix1 k)) d := by
  rw [pay1_apply]
  exact congrArg₂ (rmsRow · · d) (funext fun k => blk0 m c t r k R hR) (funext fun k => blk1 m c t k)

/-- A block of inner columns added to an accumulator. -/
theorem step_gen (j : ℕ) (hj : j < 11) (T : Vec Ideal S512x2048 .bf16) (w u : Vec Ideal S2048x512 .bf16) (acc : Vec Ideal S512x2048 .f32) (wd : Vec Ideal S512x2048 .bf16) (r : Fin 512) (d : Fin 2048) (R : Fin 16384)
    (hT : ∀ k, T (ix2 r k) = rmsRow (fun k => argH m c (ix2 R k)) (fun k => argG m c (ix1 k)) k)
    (hw : ∀ (k : Fin 2048) (l : Fin 512) (f : Fin 5632), f.val = 512 * j + l.val → w (ix2 k l) = argWg m c (ix2 k f))
    (hu : ∀ (k : Fin 2048) (l : Fin 512) (f : Fin 5632), f.val = 512 * j + l.val → u (ix2 k l) = argWu m c (ix2 k f))
    (hd : ∀ (l : Fin 512) (d : Fin 2048) (f : Fin 5632), f.val = 512 * j + l.val → wd (ix2 l d) = argWd m c (ix2 f d)) :
    k0_pay3 (F := Ideal) T w u acc wd (ix2 r d) = acc (ix2 r d) + ∑ l ∈ Finset.range 512, part m c R d (512 * j + l) := by
  rw [pay3_apply, Finset.sum_range]
  refine congrArg (acc (ix2 r d) + ·) (Finset.sum_congr rfl fun l _ => ?_)
  have hf : 512 * j + l.val < 5632 := by omega
  unfold part
  rw [dif_pos hf, hd l d ⟨_, hf⟩ rfl, show (fun k => T (ix2 r k)) = rmsRow (fun k => argH m c (ix2 R k)) fun k => argG m c (ix1 k) from funext hT,
    show (fun k => w (ix2 k l)) = fun k => argWg m c (ix2 k ⟨_, hf⟩) from funext fun k => hw k l ⟨_, hf⟩ rfl,
    show (fun k => u (ix2 k l)) = fun k => argWu m c (ix2 k ⟨_, hf⟩) from funext fun k => hu k l ⟨_, hf⟩ rfl]

/-- The same at a grid point. -/
theorem step (t : Fin cfg0.N) (T : Vec Ideal S512x2048 .bf16) (acc : Vec Ideal S512x2048 .f32) (r : Fin 512) (d : Fin 2048) (R : Fin 16384)
    (hT : ∀ k, T (ix2 r k) = rmsRow (fun k => argH m c (ix2 R k)) (fun k => argG m c (ix1 k)) k) :
    k0_pay3 (F := Ideal) T (iblk m c 2 t) (iblk m c 3 t) acc (iblk m c 4 t) (ix2 r d)
      = acc (ix2 r d) + ∑ l ∈ Finset.range 512, part m c R d (512 * (t.val % 11) + l) :=
  step_gen m c (t.val % 11) (Nat.mod_lt _ (by omega)) T _ _ acc _ r d R hT (blk2 m c t) (blk3 m c t) (blk4 m c t)

/-- What the scratch buffers hold after a point: the rows' norm, and the product over the inner columns so far. -/
theorem scratch (n : ℕ) (hn : n < cfg0.N) (r : Fin 512) (R : Fin 16384) (hR : R.val = 512 * (n / 11) + r.val) :
    (∀ d : Fin 2048, (outsAt0 m c n hn).2.1 (ix2 r d) = rmsRow (fun k => argH m c (ix2 R k)) (fun k => argG m c (ix1 k)) d)
    ∧ ∀ d : Fin 2048, (outsAt0 m c n hn).2.2 (ix2 r d) = ∑ j ∈ Finset.range (n % 11 + 1), ∑ l ∈ Finset.range 512, part m c R d (512 * j + l) := by
  induction n with
  | zero =>
    rw [outsAt0_A m c ⟨0, hn⟩ rfl (by simp)]
    dsimp only
    rw [sA0, sA1]
    refine ⟨fun d => norm_blk m c ⟨0, hn⟩ r d R hR, fun d => ?_⟩
    rw [step m c ⟨0, hn⟩ _ _ r d R fun k => norm_blk m c ⟨0, hn⟩ r k R hR, pay2_apply, zero_add, Finset.sum_range_one]
    rfl
  | succ n ih =>
    by_cases h0 : (n + 1) % 11 = 0
    · rw [outsAt0_A m c ⟨n + 1, hn⟩ h0 (by dsimp only; omega)]
      dsimp only
      rw [sA0, sA1]
      refine ⟨fun d => norm_blk m c ⟨n + 1, hn⟩ r d R hR, fun d => ?_⟩
      rw [step m c ⟨n + 1, hn⟩ _ _ r d R fun k => norm_blk m c ⟨n + 1, hn⟩ r k R hR, pay2_apply, zero_add, h0, Finset.sum_range_one]
    · obtain ⟨i1, i2⟩ := ih (Nat.lt_of_succ_lt hn) (by omega)
      have e : (n + 1) % 11 = n % 11 + 1 := by omega
      by_cases h1 : (n + 1) % 11 = 10
      · rw [outsAt0_C m c ⟨n + 1, hn⟩ h0 h1]
        dsimp only
        rw [sC1]
        refine ⟨i1, fun d => ?_⟩
        refine (step m c ⟨n + 1, hn⟩ (outsAt0 m c n (Nat.lt_of_succ_lt hn)).2.1 (outsAt0 m c n (Nat.lt_of_succ_lt hn)).2.2 r d R i1).trans ?_
        rw [i2 d, e, Finset.sum_range_succ _ (n % 11 + 1)]
      · rw [outsAt0_B m c ⟨n + 1, hn⟩ h0 h1]
        dsimp only
        rw [sB1]
        refine ⟨i1, fun d => ?_⟩
        refine (step m c ⟨n + 1, hn⟩ (outsAt0 m c n (Nat.lt_of_succ_lt hn)).2.1 (outsAt0 m c n (Nat.lt_of_succ_lt hn)).2.2 r d R i1).trans ?_
        rw [i2 d, e, Finset.sum_range_succ _ (n % 11 + 1)]

/-- The output block at a row block's last point. -/
theorem last (n : ℕ) (hn : n + 1 < cfg0.N) (h1 : (n + 1) % 11 = 10) (r : Fin 512) (d : Fin 2048) (R : Fin 16384) (hR : R.val = 512 * ((n + 1) / 11) + r.val) :
    (outsAt0 m c (n + 1) hn).1 (ix2 r d) = argH m c (ix2 R d) + ∑ f ∈ Finset.range 5632, part m c R d f := by
  have hs := (scratch m c (n + 1) hn r R hR).2 d
  rw [outsAt0_C m c ⟨n + 1, hn⟩ (by dsimp only; omega) h1] at hs ⊢
  dsimp only at hs ⊢
  rw [sC1] at hs
  rw [oC5]
  refine (congrArg₂ (fun a b : EReal => a + b) (blk0 m c ⟨n + 1, hn⟩ r d R hR) hs).trans ?_
  rw [h1, sum_blocks 11 512]

/-- The array at an index. -/
theorem array_apply (R : Fin 16384) (d : Fin 2048) :
    (Value.G5 m c : S16384x2048.Idx → EReal) (ix2 R d) = argH m c (ix2 R d) + ∑ f ∈ Finset.range 5632, part m c R d f := by
  have hN : cfg0.N = 352 := N_0
  unfold Value.G5
  have hp : Value.pt5Of (ix2 R d) = 11 * (R.val / 512) + 9 + 1 := by
    show 11 * (1 * (R.val / 512 - 0) + 1 * (d.val / 2048 - 0)) + 10 = _
    omega
  have hlt : Value.pt5Of (ix2 R d) < cfg0.N := by rw [hp, hN]; omega
  rw [dif_pos hlt, ← Value.outsAt0_sweep m c _ hlt]
  have hl : Value.loc5Of (ix2 R d) = ix2 (⟨R.val % 512, by omega⟩ : Fin 512) d := by
    funext a
    match a with
    | ⟨0, _⟩ => rfl
    | ⟨1, _⟩ => exact Fin.ext (Nat.mod_eq_of_lt d.isLt)
  rw [hl]
  have key : ∀ (p : ℕ) (hp' : p < cfg0.N), p = 11 * (R.val / 512) + 9 + 1 → (outsAt0 m c p hp').1 (ix2 (⟨R.val % 512, by omega⟩ : Fin 512) d) = argH m c (ix2 R d) + ∑ f ∈ Finset.range 5632, part m c R d f := by
    intro p hp' e
    subst e
    exact last m c _ hp' (by omega) _ d R (by dsimp only; omega)
  exact key _ _ hp

end Cert.Kernel3Ideal.Dense

end
-- ==== Proof.DenseRef.lean ====
/- The dense gated layer's reference at an index. -/
module

public import proofs.«01_k».proof.Proof.Expert
public import proofs.«01_k».proof.Proof.Gen.Reference3Ideal.Read
public import Idealize.ShloMosaic.Lib.Pointwise

@[expose] public section

set_option maxRecDepth 16384

noncomputable section

namespace Cert.Reference3Ideal.Dense

open Cert.Reference3Ideal Cert.Reference3Ideal.Gen Cert.Reference3Ideal.Read Cert.Expert Idealize.ShloMosaic Idealize.ShloMosaic.TcCoe Idealize.ShloMosaic.Tactic Idealize.SL.Sem

variable (h : S16384x2048.Idx → EReal) (g : S2048.Idx → EReal) (wg wu : S2048x5632.Idx → EReal) (wd : S5632x2048.Idx → EReal)

/-- Which elements the products and the sum read. -/
theorem idx1 (R : Fin 16384) (k : Fin 2048) : idx_main_v1 (ix1 R) k = ix2 R k := funext fun a => match a with | ⟨0, _⟩ => rfl | ⟨1, _⟩ => rfl
theorem idx8 (R : Fin 16384) (k : Fin 2048) : idx_main_v2 (idx_main_v8 (ix2 R k)) = ix1 R := funext fun a => match a with | ⟨0, _⟩ => rfl
theorem idx11 (R : Fin 16384) (k : Fin 2048) : idx_main_v10 (idx_main_v11 (ix2 R k)) = ix1 k := funext fun a => match a with | ⟨0, _⟩ => rfl
theorem lidx13 (R : Fin 16384) (f : Fin 5632) (k : Fin 2048) : lidx_main_v13 (ix2 R f) k = ix2 R k := funext fun a => match a with | ⟨0, _⟩ => rfl | ⟨1, _⟩ => rfl
theorem ridx13 (R : Fin 16384) (f : Fin 5632) (k : Fin 2048) : ridx_main_v13 (ix2 R f) k = ix2 k f := funext fun a => match a with | ⟨0, _⟩ => rfl | ⟨1, _⟩ => rfl
theorem lidx15 (R : Fin 16384) (f : Fin 5632) (k : Fin 2048) : lidx_main_v15 (ix2 R f) k = ix2 R k := funext fun a => match a with | ⟨0, _⟩ => rfl | ⟨1, _⟩ => rfl
theorem ridx15 (R : Fin 16384) (f : Fin 5632) (k : Fin 2048) : ridx_main_v15 (ix2 R f) k = ix2 k f := funext fun a => match a with | ⟨0, _⟩ => rfl | ⟨1, _⟩ => rfl
theorem lidx17 (R : Fin 16384) (d : Fin 2048) (f : Fin 5632) : lidx_main_v17 (ix2 R d) f = ix2 R f := funext fun a => match a with | ⟨0, _⟩ => rfl | ⟨1, _⟩ => rfl
theorem ridx17 (R : Fin 16384) (d : Fin 2048) (f : Fin 5632) : ridx_main_v17 (ix2 R d) f = ix2 f d := funext fun a => match a with | ⟨0, _⟩ => rfl | ⟨1, _⟩ => rfl

/-- The literals zero and one. -/
theorem litZero : (FloatOps.ofBits .f32 0x00000000#32 : Ideal .f32) = (0 : EReal) := by
  show Ideal.ofBits .f32 0x00000000#32 = _
  simp [Ideal.ofBits, Ideal.ieee]
theorem litOne : Ideal.ofBits .f32 0x3F800000#32 = (1 : EReal) := by
  simp [Ideal.ofBits, Ideal.ieee, -EReal.coe_mul]; norm_num

/-- The rows' norm. -/
theorem v12_apply (R : Fin 16384) (d : Fin 2048) : val_main_v12 (F := Ideal) h g (ix2 R d) = rmsRow (fun k => h (ix2 R k)) (fun k => g (ix1 k)) d := by
  rw [val_main_v12_apply, val_main_v9_apply, val_main_v11_apply, val_main_v10_apply, idx11, val_main_v8_apply, val_main_v7_apply, val_main_v6_apply, val_main_v4_apply, val_main_v2_apply, idx8, val_main_v1_apply,
    val_main_v3_apply, val_main_cst_0_apply, val_main_v5_apply, val_main_cst_1_apply, val_main_cst_apply, litZero, zero_add]
  simp only [idx1, val_main_v0_apply]
  rfl

/-- The gated product of the row. -/
theorem v16_apply (R : Fin 16384) (f : Fin 5632) : val_main_v16 (F := Ideal) h g wg wu (ix2 R f)
    = gated (rmsRow (fun k => h (ix2 R k)) fun k => g (ix1 k)) (fun k => wg (ix2 k f)) (fun k => wu (ix2 k f)) := by
  rw [val_main_v16_apply, val_main_v14_apply, val_main_v15_apply, val_main_call0_v5_apply, val_main_call0_v4_apply, val_main_call0_cst_0_apply, val_main_call0_v3_apply, val_main_call0_v2_apply, val_main_call0_cst_apply,
    val_main_call0_v1_apply, val_main_call0_v0_apply, val_main_v13_apply]
  simp only [lidx13, ridx13, lidx15, ridx15, v12_apply]
  unfold gated
  show _ * Ideal.div (Ideal.ofBits .f32 0x3F800000#32) (Ideal.ofBits .f32 0x3F800000#32 + Ideal.exp (-_)) * _ = _
  rw [litOne]
  rfl

/-- The reference's result at an index. -/
theorem ref_apply (R : Fin 16384) (d : Fin 2048) : val_main_v18 (F := Ideal) h g wg wu wd (ix2 R d)
    = h (ix2 R d) + ∑ f : Fin 5632, gated (rmsRow (fun k => h (ix2 R k)) fun k => g (ix1 k)) (fun k => wg (ix2 k f)) (fun k => wu (ix2 k f)) * wd (ix2 f d) := by
  rw [val_main_v18_apply, val_main_v17_apply]
  simp only [lidx17, ridx17, v16_apply]
  rfl

end Cert.Reference3Ideal.Dense

end
-- ==== Proof.DenseEquation.lean ====
/- The dense gated layer's array is its reference's result. -/
module

public import proofs.«01_k».proof.Proof.DenseArray
public import proofs.«01_k».proof.Proof.DenseRef

@[expose] public section

set_option maxRecDepth 16384

noncomputable section

namespace Cert.Proof

open Cert.Expert Idealize.ShloMosaic Idealize.ShloMosaic.TcCoe Idealize.SL.Sem

variable (m : (ℓ : Loc Cert.Kernel3Ideal.nD Cert.Kernel3Ideal.τ Cert.Kernel3Ideal.sig) → Buf (Elt Ideal) ℓ)

/-- The kernel's array is the reference's result. -/
theorem result_eq3 (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) :
    (Cert.Reference3Ideal.Read.val_main_v18 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) : Reference3Ideal.S16384x2048.Idx → EReal) = Kernel3Ideal.Value.G5 m c := by
  rw [h0, h1, h2, h3, h4]
  funext j
  obtain ⟨R, d, rfl⟩ : ∃ (R : Fin 16384) (d : Fin 2048), j = ix2 R d := ⟨j 0, j 1, funext fun a => match a with | ⟨0, _⟩ => rfl | ⟨1, _⟩ => rfl⟩
  refine (Reference3Ideal.Dense.ref_apply (Kernel3Ideal.Dense.argH m c) (Kernel3Ideal.Dense.argG m c) (Kernel3Ideal.Dense.argWg m c) (Kernel3Ideal.Dense.argWu m c) (Kernel3Ideal.Dense.argWd m c) R d).trans
    (Eq.trans ?_ (Kernel3Ideal.Dense.array_apply m c R d).symm)
  rw [Finset.sum_range]
  refine congrArg (_ + ·) (Finset.sum_congr rfl fun f _ => ?_)
  unfold Kernel3Ideal.Dense.part
  rw [dif_pos f.isLt]

end Cert.Proof

end
-- ==== Proof.Tile.lean ====
/- The expert layer's body at a grid point: its run in each of the five cases that the grid point and the number of used
row blocks select, with what the two scratch buffers and the output hold afterwards. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.VecWindow

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources the frames are stated over. -/
abbrev Res (F : FTy → Type) : Type := MT nD τ sig Unit (Elt F) ℕ (UR sig nD τ) ℕ

/-- The two tables as the body is handed them: the expert of each row block and the number of used row blocks. -/
abbrev tabE : Memref sig .tc .smem S72 .i32 := Memref.whole main_v53
abbrev tabN : Memref sig .tc .smem S1 .i32 := Memref.whole main_v54

/-- A table's contents on a core, and the table held at half of the full share. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp (Res F) :=
  M.view.loc (c : Thread nD τ) ↦{fullShare.right} f

/-- The word the body reads: the number of used row blocks. -/
abbrev word {c : Dev nD} (xt : TabBuf (F := F) c tabN) : BitVec 32 :=
  tabN.view.readAt (Elt F) (Rect.unit (s := S1) ![0] S1.size inb_S1_S1_0).toLoadRect xt (Shape.Idx.first (numel1_S1.symm ▸ Nat.one_pos))

/-- The conditions of the body's first two branches, as the body computes them. -/
abbrev cond1 (i : grid0.Coords) (v : BitVec 32) : Prop := (Scalar.cmpi .ne (Scalar.extui (Scalar.andi (Scalar.cmpi .slt (BitVec.ofNat 32 (i 0).val) v) (Scalar.cmpi .eq (BitVec.ofNat 32 (i 1).val) 0#32))) 0#32) = 1#1
abbrev cond2 (i : grid0.Coords) (v : BitVec 32) : Prop := (Scalar.cmpi .ne (Scalar.extui (Scalar.cmpi .slt (BitVec.ofNat 32 (i 0).val) v)) 0#32) = 1#1

/-- A load of the whole of a buffer held at `x` is `x`. -/
theorem ld {s : Shape} {e : EltTy} {sp : Space} {arg : Memref sig .tc sp s e} (h : arg.IsWhole) {off : Fin s.rank → ℕ} (inb : ∀ a, off a + s.size a ≤ s.size a) (x : s.Idx → Elt F e) :
    arg.view.readAt (Elt F) (Rect.unit off s.size inb).toLoadRect (h.unread x) = x :=
  (View.readAt_full arg.view _ inb).trans (h.read_unread x)

theorem congr5 {α β γ δ ε ζ : Type} (f : α → β → γ → δ → ε → ζ) {a a' b b' e e' d d' g g'} (h1 : a = a') (h2 : b = b') (h3 : e = e') (h4 : d = d') (h5 : g = g') : f a b e d g = f a' b' e' d' g' := by
  subst h1 h2 h3 h4 h5; rfl

variable (c : Dev nD) (i : grid0.Coords) (arg4 : Memref sig .tc .vmem S512x2048 .f32) (harg4 : arg4.IsWhole) (arg5 : Memref sig .tc .vmem S1x2048 .f32) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x256x2048 .bf16) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole)
variable (x0 : Vec F S512x2048 .f32) (x1 : Vec F S1x2048 .f32) (x2 x3 : Vec F S1x2048x256 .bf16) (x4 : Vec F S1x256x2048 .bf16) (xt0 : TabBuf (F := F) c tabE) (xt1 : TabBuf (F := F) c tabN)

/-- What the body holds at a point: the inputs' buffers, the output's, the two scratch buffers and the tables. -/
def held (o : Vec F S512x2048 .f32) (s : Vec F S512x2048 .bf16) (a : Vec F S512x2048 .f32) : sProp (Res F) :=
  iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare o ∗ owns (c : Thread nD τ) arg10 fullShare s ∗ owns (c : Thread nD τ) arg11 fullShare a ∗ tabPt c tabE xt0 ∗ tabPt c tabN xt1)

/-- The body runs from the output at `o` and the scratch at `s` and `a` to the output at `o'` and the scratch at `s'` and `a'`. -/
abbrev Runs (o o' : Vec F S512x2048 .f32) (s s' : Vec F S512x2048 .bf16) (a a' : Vec F S512x2048 .f32) : Prop :=
  ∀ (E : Set ℕ) (K : PUnit → sProp (Res F)),
    iprop(held c arg4 arg5 arg6 arg7 arg8 arg9 arg10 arg11 x0 x1 x2 x3 x4 xt0 xt1 o s a ∗ (held c arg4 arg5 arg6 arg7 arg8 arg9 arg10 arg11 x0 x1 x2 x3 x4 xt0 xt1 o' s' a' -∗ K ⟨⟩))
      ⊢ wp frame (wpE (defs₀ (F := F)) Variants.none c none) E (cc0_moe_ffn i tabE (Memref.isWhole_whole _) tabN (Memref.isWhole_whole _) arg4 harg4 arg5 harg5 arg6 harg6 arg7 harg7 arg8 harg8 arg9 harg9 arg10 harg10 arg11 harg11) K

variable (o : Vec F S512x2048 .f32) (s : Vec F S512x2048 .bf16) (a : Vec F S512x2048 .f32)

set_option maxHeartbeats 1000000 in
/-- A used row block's first point: the rows' norm, and one block of the inner width over zero. -/
theorem first (h1 : cond1 i (word xt1)) (h2 : cond2 i (word xt1)) (h3 : ¬(k0_cond3 i (word xt1) = 1#1)) (h4 : ¬(k0_cond4 i (word xt1) = 1#1)) :
    Runs c i arg4 harg4 arg5 harg5 arg6 harg6 arg7 harg7 arg8 harg8 arg9 harg9 arg10 harg10 arg11 harg11 x0 x1 x2 x3 x4 xt0 xt1 o o s (k0_pay1 x0 x1) a (k0_pay3 (k0_pay1 x0 x1) x2 x3 (k0_pay2 (F := F)) x4) := by
  intro E K
  simp only [cc0_moe_ffn_eq_skeleton]; unfold cc0_moe_ffn_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, HT0, HT1⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hfs0; obtain rfl := harg11.eq_unread hfs1
  sl_exec (disch := first | sl_exact h1 | sl_exact h2 | sl_exact h3 | sl_exact h4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [HS0]
  · iexists _; isplitr
    swap; · iexact HS0
    ipureintro
    exact (View.read_writes_full arg10.view _ inb_S512x2048_S512x2048_0_0 _ _).trans (congrArg₂ k0_pay1 (ld harg4 _ x0) (ld harg5 _ x1))
  isplitl [HS1]
  · iexists _; isplitr
    swap; · iexact HS1
    ipureintro
    refine (View.read_writes_full arg11.view _ inb_S512x2048_S512x2048_0_0 _ _).trans (congr5 (k0_pay3 (F := F)) ((View.readCov_full arg10.view inb_S512x2048_S512x2048_0_0 inb_S512x2048_S512x2048_0_0 _ _).trans (congrArg₂ k0_pay1 (ld harg4 _ x0) (ld harg5 _ x1))) (ld harg6 _ x2) (ld harg7 _ x3) (View.readCov_full arg11.view inb_S512x2048_S512x2048_0_0 inb_S512x2048_S512x2048_0_0 _ _) (ld harg8 _ x4))
  isplitl [HT0]; · iexact HT0
  iexact HT1

set_option maxHeartbeats 1000000 in
/-- A used row block's point between the first and the last: one more block of the inner width. -/
theorem middle (h1 : ¬cond1 i (word xt1)) (h2 : cond2 i (word xt1)) (h3 : ¬(k0_cond3 i (word xt1) = 1#1)) (h4 : ¬(k0_cond4 i (word xt1) = 1#1)) :
    Runs c i arg4 harg4 arg5 harg5 arg6 harg6 arg7 harg7 arg8 harg8 arg9 harg9 arg10 harg10 arg11 harg11 x0 x1 x2 x3 x4 xt0 xt1 o o s s a (k0_pay3 s x2 x3 a x4) := by
  intro E K
  simp only [cc0_moe_ffn_eq_skeleton]; unfold cc0_moe_ffn_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, HT0, HT1⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hfs0; obtain rfl := harg11.eq_unread hfs1
  sl_exec (disch := first | sl_exact h1 | sl_exact h2 | sl_exact h3 | sl_exact h4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [HS0]
  · iexists _; isplitr; · ipureintro; exact harg10.read_unread _
    iexact HS0
  isplitl [HS1]
  · iexists _; isplitr
    swap; · iexact HS1
    ipureintro
    exact (View.read_writes_full arg11.view _ inb_S512x2048_S512x2048_0_0 _ _).trans (congr5 (k0_pay3 (F := F)) (ld harg10 _ s) (ld harg6 _ x2) (ld harg7 _ x3) (ld harg11 _ a) (ld harg8 _ x4))
  isplitl [HT0]; · iexact HT0
  iexact HT1

set_option maxHeartbeats 1000000 in
/-- A used row block's last point: the last block of the inner width, and the accumulator stored. -/
theorem final (h1 : ¬cond1 i (word xt1)) (h2 : cond2 i (word xt1)) (h3 : k0_cond3 i (word xt1) = 1#1) (h4 : ¬(k0_cond4 i (word xt1) = 1#1)) :
    Runs c i arg4 harg4 arg5 harg5 arg6 harg6 arg7 harg7 arg8 harg8 arg9 harg9 arg10 harg10 arg11 harg11 x0 x1 x2 x3 x4 xt0 xt1 o (k0_pay3 s x2 x3 a x4) s s a (k0_pay3 s x2 x3 a x4) := by
  intro E K
  simp only [cc0_moe_ffn_eq_skeleton]; unfold cc0_moe_ffn_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, HT0, HT1⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hfs0; obtain rfl := harg11.eq_unread hfs1
  sl_exec (disch := first | sl_exact h1 | sl_exact h2 | sl_exact h3 | sl_exact h4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr
    swap; · iexact H5
    ipureintro
    exact (View.read_writes_full arg9.view _ inb_S512x2048_S512x2048_0_0 _ _).trans ((View.readCov_full arg11.view inb_S512x2048_S512x2048_0_0 inb_S512x2048_S512x2048_0_0 _ _).trans (congr5 (k0_pay3 (F := F)) (ld harg10 _ s) (ld harg6 _ x2) (ld harg7 _ x3) (ld harg11 _ a) (ld harg8 _ x4)))
  isplitl [HS0]
  · iexists _; isplitr; · ipureintro; exact harg10.read_unread _
    iexact HS0
  isplitl [HS1]
  · iexists _; isplitr
    swap; · iexact HS1
    ipureintro
    exact (View.read_writes_full arg11.view _ inb_S512x2048_S512x2048_0_0 _ _).trans (congr5 (k0_pay3 (F := F)) (ld harg10 _ s) (ld harg6 _ x2) (ld harg7 _ x3) (ld harg11 _ a) (ld harg8 _ x4))
  isplitl [HT0]; · iexact HT0
  iexact HT1

set_option maxHeartbeats 1000000 in
/-- A point of an unused row block before the last: nothing happens. -/
theorem unused (h1 : ¬cond1 i (word xt1)) (h2 : ¬cond2 i (word xt1)) (h3 : ¬(k0_cond3 i (word xt1) = 1#1)) (h4 : ¬(k0_cond4 i (word xt1) = 1#1)) :
    Runs c i arg4 harg4 arg5 harg5 arg6 harg6 arg7 harg7 arg8 harg8 arg9 harg9 arg10 harg10 arg11 harg11 x0 x1 x2 x3 x4 xt0 xt1 o o s s a a := by
  intro E K
  simp only [cc0_moe_ffn_eq_skeleton]; unfold cc0_moe_ffn_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, HT0, HT1⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hfs0; obtain rfl := harg11.eq_unread hfs1
  sl_exec (disch := first | sl_exact h1 | sl_exact h2 | sl_exact h3 | sl_exact h4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [HS0]
  · iexists _; isplitr; · ipureintro; exact harg10.read_unread _
    iexact HS0
  isplitl [HS1]
  · iexists _; isplitr; · ipureintro; exact harg11.read_unread _
    iexact HS1
  isplitl [HT0]; · iexact HT0
  iexact HT1

set_option maxHeartbeats 1000000 in
/-- An unused row block's last point: the output is zero. -/
theorem zero (h1 : ¬cond1 i (word xt1)) (h2 : ¬cond2 i (word xt1)) (h3 : ¬(k0_cond3 i (word xt1) = 1#1)) (h4 : k0_cond4 i (word xt1) = 1#1) :
    Runs c i arg4 harg4 arg5 harg5 arg6 harg6 arg7 harg7 arg8 harg8 arg9 harg9 arg10 harg10 arg11 harg11 x0 x1 x2 x3 x4 xt0 xt1 o (k0_pay4 (F := F)) s s a a := by
  intro E K
  simp only [cc0_moe_ffn_eq_skeleton]; unfold cc0_moe_ffn_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, HT0, HT1⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hfs0; obtain rfl := harg11.eq_unread hfs1
  sl_exec (disch := first | sl_exact h1 | sl_exact h2 | sl_exact h3 | sl_exact h4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr
    swap; · iexact H5
    ipureintro
    exact View.read_writes_full arg9.view _ inb_S512x2048_S512x2048_0_0 _ _
  isplitl [HS0]
  · iexists _; isplitr; · ipureintro; exact harg10.read_unread _
    iexact HS0
  isplitl [HS1]
  · iexists _; isplitr; · ipureintro; exact harg11.read_unread _
    iexact HS1
  isplitl [HT0]; · iexact HT0
  iexact HT1

end Cert.Kernel2Ideal.Experts

end
-- ==== Proof.Branch.lean ====
/- The conditions of the expert layer's branches, over the grid point and the number of used row blocks. -/
module

public import proofs.«01_k».proof.Proof.Tile

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The number of used row blocks, in the second table. -/
abbrev used (T : pre0.Contents (Elt F)) : BitVec 32 := T.atD 1 ![0]

theorem in1 : ∀ a : Fin 1, (![0] : Fin 1 → ℕ) a + 1 ≤ S1.size a := by decide

theorem word_eq (c : Dev nD) (T : pre0.Contents (Elt F)) : word (c := c) (T 1) = used T := by
  refine Eq.trans ?_ (dif_pos in1).symm
  show T 1 _ = T 1 _
  refine congrArg (T 1) (funext fun a => ?_)
  match a with
  | ⟨0, _⟩ => exact Subsingleton.elim (α := Fin 1) _ _

/-- A row block is used: its number is below the number of used row blocks. -/
def live (v : BitVec 32) (b : ℕ) : Prop := Scalar.cmpi .slt (BitVec.ofNat 32 b) v = 1#1

instance (v : BitVec 32) (b : ℕ) : Decidable (live v b) := inferInstanceAs (Decidable (_ = _))

theorem one_word (x : BitVec 1) : x = 0#1 ∨ x = 1#1 := by
  revert x; decide

theorem at0 : ∀ j : Fin 11, Scalar.cmpi .eq (BitVec.ofNat 32 j.val) 0#32 = if j.val = 0 then 1#1 else 0#1 := by decide
theorem at10 : ∀ j : Fin 11, Scalar.cmpi .eq (BitVec.ofNat 32 j.val) 10#32 = if j.val = 10 then 1#1 else 0#1 := by decide

theorem cond1_iff (i : grid0.Coords) (v : BitVec 32) : cond1 i v ↔ live v (i 0).val ∧ (i 1).val = 0 := by
  unfold cond1 live
  rw [at0 (i 1)]
  rcases one_word (Scalar.cmpi .slt (BitVec.ofNat 32 (i 0).val) v) with h | h <;> rw [h] <;>
    by_cases hj : (i 1).val = 0 <;> simp only [hj, if_true, if_false] <;> decide

theorem cond2_iff (i : grid0.Coords) (v : BitVec 32) : cond2 i v ↔ live v (i 0).val := by
  unfold cond2 live
  rcases one_word (Scalar.cmpi .slt (BitVec.ofNat 32 (i 0).val) v) with h | h <;> rw [h] <;> decide

theorem cond3_iff (i : grid0.Coords) (v : BitVec 32) : k0_cond3 i v = 1#1 ↔ live v (i 0).val ∧ (i 1).val = 10 := by
  unfold k0_cond3 live
  dsimp only
  rw [at10 (i 1)]
  rcases one_word (Scalar.cmpi .slt (BitVec.ofNat 32 (i 0).val) v) with h | h <;> rw [h] <;>
    by_cases hj : (i 1).val = 10 <;> simp only [hj, if_true, if_false] <;> decide

theorem cond4_iff (i : grid0.Coords) (v : BitVec 32) : k0_cond4 i v = 1#1 ↔ ¬live v (i 0).val ∧ (i 1).val = 10 := by
  unfold k0_cond4 live
  dsimp only
  rw [at10 (i 1)]
  rcases one_word (Scalar.cmpi .slt (BitVec.ofNat 32 (i 0).val) v) with h | h <;> rw [h] <;>
    by_cases hj : (i 1).val = 10 <;> simp only [hj, if_true, if_false] <;> decide

/-- A point's row block and its block of the inner width. -/
theorem coords0 (t : Fin grid0.N) : (grid0.coords t 0).val = t.val / 11 := by
  have ht : t.val < 792 := Nat.lt_of_lt_of_eq t.isLt N_0
  have e : (grid0.coords t 0).val = t.val / 11 % 72 := Pipeline.Grid.coords_val t 0 (by decide) rfl
  omega
theorem coords1 (t : Fin grid0.N) : (grid0.coords t 1).val = t.val % 11 := by
  have e : (grid0.coords t 1).val = t.val / 1 % 11 := Pipeline.Grid.coords_val t 1 (by decide) rfl
  omega

theorem idle_iff (T : pre0.Contents (Elt F)) (t : Fin grid0.N) : idle0 T 5 (grid0.coords t) = true ↔ t.val % 11 ≠ 10 := by
  show ((!(k0_cond3 (grid0.coords t) (used T) == 1#1)) && (!(k0_cond4 (grid0.coords t) (used T) == 1#1))) = true ↔ _
  have h3 := cond3_iff (grid0.coords t) (used T)
  have h4 := cond4_iff (grid0.coords t) (used T)
  rw [coords1 t] at h3 h4
  simp only [Bool.and_eq_true, Bool.not_eq_true', beq_eq_false_iff_ne, ne_eq, h3, h4]
  tauto

theorem noFlush : ∀ t : Fin grid0.N, t.val % 11 ≠ 10 → Pipeline.Window.flushOf grid0 true cc0_transform_5 t = false := by
  decide +kernel

end Cert.Kernel2Ideal.Experts

end
-- ==== Proof.Walk.lean ====
/- The expert layer's call over its grid: what the scratch holds after each point of a used row block, the body's
triple at every point, the run of the whole program and its frame. -/
module

public import proofs.«01_k».proof.Proof.Branch
public import Idealize.ShloMosaic.Lib.Quiescent

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b)) {T : pre0.Contents (Elt F)}

/-- Every block the tables name lies inside its array. -/
abbrev Ok (T : pre0.Contents (Elt F)) : Prop := ok0 (F := F) T
abbrev adm {T : pre0.Contents (Elt F)} (hO : Ok T) : (pcfg0 (F := F)).Adm := ⟨T, hO⟩
abbrev cfgM {T : pre0.Contents (Elt F)} (hO : Ok T) : Pipeline.Cfg sig Λ₀ := cfg0 (adm hO)

/-- The tables' halves the call hands the body, table by table. -/
theorem tables_eq (c : Dev nD) : (Pipeline.ΦT pre0 (T) c : sProp (Res F)) = iprop(tabPt c tabE (T 0) ∗ tabPt c tabN (T 1)) := by
  unfold Pipeline.ΦT Pipeline.prefHeld
  rw [show (Finset.univ : Finset (Fin 2)) = insert (0 : Fin 2) {(1 : Fin 2)} from by decide,
    bigSep_insert (by decide), bigSep_singleton]
  rfl

/-- A window's block at a point, read off its array as the call finds it. -/
def iblk (hO : Ok T) (c : Dev nD) (w : Fin (cfgM hO).W) (t : Fin (cfgM hO).N) : (((cfgM hO).win w).xblock ((cfgM hO).grid.coords t)).Idx → Elt F ((cfgM hO).win w).elt :=
  (((cfgM hO).win w).blk t).view.read (Elt F) (V c (Pipeline.arrRef spec0 w))

theorem before0_of (hO : Ok T) {c : Dev nD} (dat : Dat τ (Elt F) Unit ℕ (UR sig nD τ) ℕ (cfgM hO) c) (hA : dat.A 0 = V c (Pipeline.arrRef spec0 0))
    (hafter : ∀ t, dat.after 0 t = iblk V hO c 0 t) (t : Fin (cfgM hO).N) (d) : dat.before 0 t d = iblk V hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hO : Ok T) {c : Dev nD} (dat : Dat τ (Elt F) Unit ℕ (UR sig nD τ) ℕ (cfgM hO) c) (hA : dat.A 1 = V c (Pipeline.arrRef spec0 1))
    (hafter : ∀ t, dat.after 1 t = iblk V hO c 1 t) (t : Fin (cfgM hO).N) (d) : dat.before 1 t d = iblk V hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok T) {c : Dev nD} (dat : Dat τ (Elt F) Unit ℕ (UR sig nD τ) ℕ (cfgM hO) c) (hA : dat.A 2 = V c (Pipeline.arrRef spec0 2))
    (hafter : ∀ t, dat.after 2 t = iblk V hO c 2 t) (t : Fin (cfgM hO).N) (d) : dat.before 2 t d = iblk V hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of (hO : Ok T) {c : Dev nD} (dat : Dat τ (Elt F) Unit ℕ (UR sig nD τ) ℕ (cfgM hO) c) (hA : dat.A 3 = V c (Pipeline.arrRef spec0 3))
    (hafter : ∀ t, dat.after 3 t = iblk V hO c 3 t) (t : Fin (cfgM hO).N) (d) : dat.before 3 t d = iblk V hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of (hO : Ok T) {c : Dev nD} (dat : Dat τ (Elt F) Unit ℕ (UR sig nD τ) ℕ (cfgM hO) c) (hA : dat.A 4 = V c (Pipeline.arrRef spec0 4))
    (hafter : ∀ t, dat.after 4 t = iblk V hO c 4 t) (t : Fin (cfgM hO).N) (d) : dat.before 4 t d = iblk V hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The scratch after a row block's first point, -/
def start (x0 : Vec F S512x2048 .f32) (x1 : Vec F S1x2048 .f32) (x2 x3 : Vec F S1x2048x256 .bf16) (x4 : Vec F S1x256x2048 .bf16) : Vec F S512x2048 .bf16 × Vec F S512x2048 .f32 :=
  (k0_pay1 x0 x1, k0_pay3 (k0_pay1 x0 x1) x2 x3 (k0_pay2 (F := F)) x4)

/-- and after a later point from what the point before left. -/
def next (s : Vec F S512x2048 .bf16 × Vec F S512x2048 .f32) (x2 x3 : Vec F S1x2048x256 .bf16) (x4 : Vec F S1x256x2048 .bf16) : Vec F S512x2048 .bf16 × Vec F S512x2048 .f32 :=
  (s.1, k0_pay3 s.1 x2 x3 s.2 x4)

/-- The scratch after point `n`, were every row block used. -/
def st (hO : Ok T) (c : Dev nD) : (n : ℕ) → n < (cfgM hO).N → Vec F S512x2048 .bf16 × Vec F S512x2048 .f32
  | 0, h => start (iblk V hO c 0 ⟨0, h⟩) (iblk V hO c 1 ⟨0, h⟩) (iblk V hO c 2 ⟨0, h⟩) (iblk V hO c 3 ⟨0, h⟩) (iblk V hO c 4 ⟨0, h⟩)
  | n + 1, h => if (n + 1) % 11 = 0
      then start (iblk V hO c 0 ⟨n + 1, h⟩) (iblk V hO c 1 ⟨n + 1, h⟩) (iblk V hO c 2 ⟨n + 1, h⟩) (iblk V hO c 3 ⟨n + 1, h⟩) (iblk V hO c 4 ⟨n + 1, h⟩)
      else next (st hO c n (Nat.lt_of_succ_lt h)) (iblk V hO c 2 ⟨n + 1, h⟩) (iblk V hO c 3 ⟨n + 1, h⟩) (iblk V hO c 4 ⟨n + 1, h⟩)

theorem st_start (hO : Ok T) (c : Dev nD) (n : ℕ) (h : n < (cfgM hO).N) (hn : n % 11 = 0) :
    st V hO c n h = start (iblk V hO c 0 ⟨n, h⟩) (iblk V hO c 1 ⟨n, h⟩) (iblk V hO c 2 ⟨n, h⟩) (iblk V hO c 3 ⟨n, h⟩) (iblk V hO c 4 ⟨n, h⟩) := by
  cases n with
  | zero => rfl
  | succ n => exact if_pos hn

theorem st_next (hO : Ok T) (c : Dev nD) (n : ℕ) (h : n + 1 < (cfgM hO).N) (hn : ¬(n + 1) % 11 = 0) :
    st V hO c (n + 1) h = next (st V hO c n (Nat.lt_of_succ_lt h)) (iblk V hO c 2 ⟨n + 1, h⟩) (iblk V hO c 3 ⟨n + 1, h⟩) (iblk V hO c 4 ⟨n + 1, h⟩) :=
  if_neg hn

/-- The row block of a point is used. -/
abbrev On (T : pre0.Contents (Elt F)) (n : ℕ) : Prop := live (used T) (n / 11)

/-- What the scratch holds before a point: what the point before left, if that one's row block is used. -/
def Kept (hO : Ok T) (c : Dev nD) (n : ℕ) (s : Vec F S512x2048 .bf16) (a : Vec F S512x2048 .f32) : Prop :=
  ∀ k (hk : k < (cfgM hO).N), k + 1 = n → On T k → (s, a) = st V hO c k hk

abbrev sc0 : Memref sig .tc .vmem S512x2048 .bf16 := Memref.whole cc0_scratch0
abbrev sc1 : Memref sig .tc .vmem S512x2048 .f32 := Memref.whole cc0_scratch1

theorem scratch_eq (c : Dev nD) :
    (Pipeline.ΦA spec0 c : sProp (Res F))
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The invariant before a point. -/
def Inv (hO : Ok T) (c : Dev nD) (n : ℕ) : sProp (Res F) :=
  iprop((∃ s a, owns (c : Thread nD τ) sc0 fullShare s ∗ owns (c : Thread nD τ) sc1 fullShare a ∗ ⌜Kept V hO c n s a⌝) ∗ (∃ r, prngReg c r) ∗ tabPt c tabE (T 0) ∗ tabPt c tabN (T 1))

/-- The call's proof data: the arrays as the call finds them, each input's block left in place, and the output's block
the accumulator where the row block is used and zero elsewhere. -/
def dats (hO : Ok T) (_ : Fin 1) (c : Dev nD) : Dat τ (Elt F) Unit ℕ (UR sig nD τ) ℕ (cfgM hO) c where
  A w := V c (Pipeline.arrRef spec0 w)
  after w t := match w with
    | ⟨0, _⟩ => iblk V hO c 0 t
    | ⟨1, _⟩ => iblk V hO c 1 t
    | ⟨2, _⟩ => iblk V hO c 2 t
    | ⟨3, _⟩ => iblk V hO c 3 t
    | ⟨4, _⟩ => iblk V hO c 4 t
    | ⟨5, _⟩ => if On T t.val then (st V hO c t.val t.isLt).2 else k0_pay4 (F := F)
  Φ t := Inv V hO c t.val
  q _ := fullShare
  owed _ := 0

theorem A_eq (hO : Ok T) (c : Dev nD) (w : Fin (cfgM hO).W) : (dats V hO 0 c).A w = V c (Pipeline.arrRef spec0 w) := by
  dsimp only [dats]

theorem after0 (hO : Ok T) (c : Dev nD) (t : Fin (cfgM hO).N) : (dats V hO 0 c).after 0 t = iblk V hO c 0 t := by dsimp only [dats]; try rfl
theorem after1 (hO : Ok T) (c : Dev nD) (t : Fin (cfgM hO).N) : (dats V hO 0 c).after 1 t = iblk V hO c 1 t := by dsimp only [dats]; try rfl
theorem after2 (hO : Ok T) (c : Dev nD) (t : Fin (cfgM hO).N) : (dats V hO 0 c).after 2 t = iblk V hO c 2 t := by dsimp only [dats]; try rfl
theorem after3 (hO : Ok T) (c : Dev nD) (t : Fin (cfgM hO).N) : (dats V hO 0 c).after 3 t = iblk V hO c 3 t := by dsimp only [dats]; try rfl
theorem after4 (hO : Ok T) (c : Dev nD) (t : Fin (cfgM hO).N) : (dats V hO 0 c).after 4 t = iblk V hO c 4 t := by dsimp only [dats]; try rfl
theorem after5 (hO : Ok T) (c : Dev nD) (t : Fin (cfgM hO).N) : (dats V hO 0 c).after 5 t = if On T t.val then (st V hO c t.val t.isLt).2 else k0_pay4 (F := F) := by dsimp only [dats]; try rfl
theorem before0 (hO : Ok T) (c : Dev nD) (t : Fin (cfgM hO).N) (d) : (dats V hO 0 c).before 0 t d = iblk V hO c 0 t :=
  before0_of V hO (dats V hO 0 c) (A_eq V hO c 0) (after0 V hO c) t d
theorem before1 (hO : Ok T) (c : Dev nD) (t : Fin (cfgM hO).N) (d) : (dats V hO 0 c).before 1 t d = iblk V hO c 1 t :=
  before1_of V hO (dats V hO 0 c) (A_eq V hO c 1) (after1 V hO c) t d
theorem before2 (hO : Ok T) (c : Dev nD) (t : Fin (cfgM hO).N) (d) : (dats V hO 0 c).before 2 t d = iblk V hO c 2 t :=
  before2_of V hO (dats V hO 0 c) (A_eq V hO c 2) (after2 V hO c) t d
theorem before3 (hO : Ok T) (c : Dev nD) (t : Fin (cfgM hO).N) (d) : (dats V hO 0 c).before 3 t d = iblk V hO c 3 t :=
  before3_of V hO (dats V hO 0 c) (A_eq V hO c 3) (after3 V hO c) t d
theorem before4 (hO : Ok T) (c : Dev nD) (t : Fin (cfgM hO).N) (d) : (dats V hO 0 c).before 4 t d = iblk V hO c 4 t :=
  before4_of V hO (dats V hO 0 c) (A_eq V hO c 4) (after4 V hO c) t d
abbrev ms0 (hO : Ok T) (t : Fin (cfgM hO).N) : Memref sig .tc .vmem S512x2048 .f32 := spec0_0.stage ((cfgM hO).slots t 0)
abbrev hs0 (hO : Ok T) (t : Fin (cfgM hO).N) : (ms0 hO t).IsWhole := hstage0_0 (((cfgM hO).slots t 0).cast nbuf0_0)
abbrev ms1 (hO : Ok T) (t : Fin (cfgM hO).N) : Memref sig .tc .vmem S1x2048 .f32 := spec0_1.stage ((cfgM hO).slots t 1)
abbrev hs1 (hO : Ok T) (t : Fin (cfgM hO).N) : (ms1 hO t).IsWhole := hstage0_1 (((cfgM hO).slots t 1).cast nbuf0_1)
abbrev ms2 (hO : Ok T) (t : Fin (cfgM hO).N) : Memref sig .tc .vmem S1x2048x256 .bf16 := spec0_2.stage ((cfgM hO).slots t 2)
abbrev hs2 (hO : Ok T) (t : Fin (cfgM hO).N) : (ms2 hO t).IsWhole := hstage0_2 (((cfgM hO).slots t 2).cast nbuf0_2)
abbrev ms3 (hO : Ok T) (t : Fin (cfgM hO).N) : Memref sig .tc .vmem S1x2048x256 .bf16 := spec0_3.stage ((cfgM hO).slots t 3)
abbrev hs3 (hO : Ok T) (t : Fin (cfgM hO).N) : (ms3 hO t).IsWhole := hstage0_3 (((cfgM hO).slots t 3).cast nbuf0_3)
abbrev ms4 (hO : Ok T) (t : Fin (cfgM hO).N) : Memref sig .tc .vmem S1x256x2048 .bf16 := spec0_4.stage ((cfgM hO).slots t 4)
abbrev hs4 (hO : Ok T) (t : Fin (cfgM hO).N) : (ms4 hO t).IsWhole := hstage0_4 (((cfgM hO).slots t 4).cast nbuf0_4)
abbrev ms5 (hO : Ok T) (t : Fin (cfgM hO).N) : Memref sig .tc .vmem S512x2048 .f32 := spec0_5.stage ((cfgM hO).slots t 5)
abbrev hs5 (hO : Ok T) (t : Fin (cfgM hO).N) : (ms5 hO t).IsWhole := hstage0_5 (((cfgM hO).slots t 5).cast nbuf0_5)

/-- The body as the pipeline calls it at a point. -/
abbrev bodyAt (hO : Ok T) (t : Fin (cfgM hO).N) : Prog (TpuEff nD τ sig (Elt F) Λ₀ .tc) PUnit :=
  cc0_moe_ffn (grid0.coords t) tabE (Memref.isWhole_whole _) tabN (Memref.isWhole_whole _) (ms0 hO t) (hs0 hO t) (ms1 hO t) (hs1 hO t) (ms2 hO t) (hs2 hO t) (ms3 hO t) (hs3 hO t) (ms4 hO t) (hs4 hO t) (ms5 hO t) (hs5 hO t) sc0 (Memref.isWhole_whole _) sc1 (Memref.isWhole_whole _)

/-- The body's run at a point, from one content of the output and the scratch to another. -/
abbrev RunsAt (hO : Ok T) (c : Dev nD) (t : Fin (cfgM hO).N) (o o' : Vec F S512x2048 .f32) (s s' : Vec F S512x2048 .bf16) (a a' : Vec F S512x2048 .f32) : Prop :=
  Runs c (grid0.coords t) (ms0 hO t) (hs0 hO t) (ms1 hO t) (hs1 hO t) (ms2 hO t) (hs2 hO t) (ms3 hO t) (hs3 hO t) (ms4 hO t) (hs4 hO t) (ms5 hO t) (hs5 hO t) sc0 (Memref.isWhole_whole _) sc1 (Memref.isWhole_whole _) (iblk V hO c 0 t) (iblk V hO c 1 t) (iblk V hO c 2 t) (iblk V hO c 3 t) (iblk V hO c 4 t) (T 0) (T 1) o o' s s' a a'

def bodyPre (hO : Ok T) (c : Dev nD) (t : Fin (cfgM hO).N) : sProp (Res F) :=
  iprop((dats V hO 0 c).Φ t.castSucc ∗ (dats V hO 0 c).owesAt () t.castSucc
    ∗ (∃ d, owns (c : Thread nD τ) (ms0 hO t) fullShare ((dats V hO 0 c).before 0 t d))
    ∗ (∃ d, owns (c : Thread nD τ) (ms1 hO t) fullShare ((dats V hO 0 c).before 1 t d))
    ∗ (∃ d, owns (c : Thread nD τ) (ms2 hO t) fullShare ((dats V hO 0 c).before 2 t d))
    ∗ (∃ d, owns (c : Thread nD τ) (ms3 hO t) fullShare ((dats V hO 0 c).before 3 t d))
    ∗ (∃ d, owns (c : Thread nD τ) (ms4 hO t) fullShare ((dats V hO 0 c).before 4 t d))
    ∗ (∃ d, owns (c : Thread nD τ) (ms5 hO t) fullShare ((dats V hO 0 c).before 5 t d)))

def bodyPost (hO : Ok T) (c : Dev nD) (t : Fin (cfgM hO).N) : sProp (Res F) :=
  iprop((dats V hO 0 c).Φ t.succ ∗ (dats V hO 0 c).owesAt () t.succ
    ∗ (dats V hO 0 c).leavesExact 0 t
    ∗ (dats V hO 0 c).leavesExact 1 t
    ∗ (dats V hO 0 c).leavesExact 2 t
    ∗ (dats V hO 0 c).leavesExact 3 t
    ∗ (dats V hO 0 c).leavesExact 4 t
    ∗ (dats V hO 0 c).leavesExact 5 t)

/-- A run at a point that keeps the invariant and leaves the output's buffer as asked is the body's triple there. -/
theorem body_of (hO : Ok T) (c : Dev nD) (t : Fin (cfgM hO).N)
    (step : ∀ d s a, Kept V hO c t.val s a → ∃ o' s' a', RunsAt V hO c t ((dats V hO 0 c).before 5 t d) o' s s' a a'
      ∧ Kept V hO c (t.val + 1) s' a' ∧ (owns (c : Thread nD τ) (ms5 hO t) fullShare o' ⊢ (dats V hO 0 c).leavesExact 5 t)) :
    bodyPre V hO c t ⊢ wp frame (wpE (defs₀ (F := F)) Variants.none c none) Set.univ (bodyAt hO t) (fun _ => bodyPost V hO c t) := by
  unfold bodyPre bodyPost
  simp only [before0, before1, before2, before3, before4]
  rw [show (dats V hO 0 c).owesAt () t.succ = (dats V hO 0 c).owesAt () t.castSucc from rfl]
  rw [show (dats V hO 0 c).Φ t.succ = Inv V hO c (t.val + 1) from rfl, show (dats V hO 0 c).Φ t.castSucc = Inv V hO c t.val from rfl]
  rw [show (dats V hO 0 c).leavesExact 0 t = owns (c : Thread nD τ) (ms0 hO t) fullShare ((dats V hO 0 c).after 0 t) from by
    unfold Dat.leavesExact; rw [show (cfgM hO).idle 0 (grid0.coords t) = false from rfl]; try rfl, after0]
  rw [show (dats V hO 0 c).leavesExact 1 t = owns (c : Thread nD τ) (ms1 hO t) fullShare ((dats V hO 0 c).after 1 t) from by
    unfold Dat.leavesExact; rw [show (cfgM hO).idle 1 (grid0.coords t) = false from rfl]; try rfl, after1]
  rw [show (dats V hO 0 c).leavesExact 2 t = owns (c : Thread nD τ) (ms2 hO t) fullShare ((dats V hO 0 c).after 2 t) from by
    unfold Dat.leavesExact; rw [show (cfgM hO).idle 2 (grid0.coords t) = false from rfl]; try rfl, after2]
  rw [show (dats V hO 0 c).leavesExact 3 t = owns (c : Thread nD τ) (ms3 hO t) fullShare ((dats V hO 0 c).after 3 t) from by
    unfold Dat.leavesExact; rw [show (cfgM hO).idle 3 (grid0.coords t) = false from rfl]; try rfl, after3]
  rw [show (dats V hO 0 c).leavesExact 4 t = owns (c : Thread nD τ) (ms4 hO t) fullShare ((dats V hO 0 c).after 4 t) from by
    unfold Dat.leavesExact; rw [show (cfgM hO).idle 4 (grid0.coords t) = false from rfl]; try rfl, after4]
  unfold Inv
  iintro ⟨⟨⟨%s, %a, HS0, HS1, %hk⟩, Hg, HT0, HT1⟩, Ho, ⟨%d0, H0⟩, ⟨%d1, H1⟩, ⟨%d2, H2⟩, ⟨%d3, H3⟩, ⟨%d4, H4⟩, ⟨%d5, H5⟩⟩
  obtain ⟨o', s', a', hr, hk', h5⟩ := step d5 s a hk
  iapply (hr Set.univ _)
  unfold held
  isplitl [H0 H1 H2 H3 H4 H5 HS0 HS1 HT0 HT1]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HT0]; · iexact HT0
    iexact HT1
  iintro ⟨H0, H1, H2, H3, H4, H5, HS0, HS1, HT0, HT1⟩
  isplitl [HS0 HS1 Hg HT0 HT1]
  · isplitl [HS0 HS1]
    · iexists s'; iexists a'
      isplitl [HS0]; · iexact HS0
      isplitl [HS1]; · iexact HS1
      ipureintro; exact hk'
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iapply h5; iexact H5

/-- Where the output's buffer is idle it is handed back as it was. -/
theorem leaves_idle (hO : Ok T) (c : Dev nD) (t : Fin (cfgM hO).N) (h : ¬t.val % 11 = 10) (d) :
    owns (c : Thread nD τ) (ms5 hO t) fullShare ((dats V hO 0 c).before 5 t d) ⊢ (dats V hO 0 c).leavesExact 5 t := by
  rw [Dat.leavesExact_idle (dats V hO 0 c) 5 t ((idle_iff T t).mpr h) (noFlush t h)]
  iintro H
  iexists d; iexact H

/-- Where it is not, it holds what is to be written back. -/
theorem leaves_last (hO : Ok T) (c : Dev nD) (t : Fin (cfgM hO).N) (h : t.val % 11 = 10) (o : Vec F S512x2048 .f32)
    (ho : o = if On T t.val then (st V hO c t.val t.isLt).2 else k0_pay4 (F := F)) :
    owns (c : Thread nD τ) (ms5 hO t) fullShare o ⊢ (dats V hO 0 c).leavesExact 5 t := by
  have hi : (cfgM hO).idle 5 (grid0.coords t) = false := by
    have := (idle_iff T t).not.mpr (not_not.mpr h)
    exact Bool.eq_false_iff.mpr this
  rw [show (dats V hO 0 c).leavesExact 5 t = owns (c : Thread nD τ) (ms5 hO t) fullShare ((dats V hO 0 c).after 5 t) from by
    unfold Dat.leavesExact; rw [hi]; try rfl, after5, ho]

/-- The first point's run keeps the invariant. -/
theorem kept_start (hO : Ok T) (c : Dev nD) (t : Fin (cfgM hO).N) (h : t.val % 11 = 0) :
    Kept V hO c (t.val + 1) (k0_pay1 (iblk V hO c 0 t) (iblk V hO c 1 t)) (k0_pay3 (k0_pay1 (iblk V hO c 0 t) (iblk V hO c 1 t)) (iblk V hO c 2 t) (iblk V hO c 3 t) (k0_pay2 (F := F)) (iblk V hO c 4 t)) := by
  intro k hk e _
  obtain rfl : k = t.val := Nat.succ.inj e
  exact (st_start V hO c _ hk h).symm

/-- A later point of a used row block takes the scratch from what the point before left to what it leaves. -/
theorem step_eq (hO : Ok T) (c : Dev nD) (t : Fin (cfgM hO).N) (h : ¬t.val % 11 = 0) (hl : On T t.val) (s : Vec F S512x2048 .bf16) (a : Vec F S512x2048 .f32) (hk : Kept V hO c t.val s a) :
    (s, k0_pay3 s (iblk V hO c 2 t) (iblk V hO c 3 t) a (iblk V hO c 4 t)) = st V hO c t.val t.isLt := by
  obtain ⟨n, hn⟩ := t
  cases n with
  | zero => exact absurd rfl h
  | succ n =>
    have e := hk n (Nat.lt_of_succ_lt hn) rfl (by
      have : n / 11 = (n + 1) / 11 := by dsimp only at h; omega
      unfold On; rw [this]; exact hl)
    refine Eq.trans ?_ (st_next V hO c n hn h).symm
    rw [← e]
    rfl

theorem kept_of (hO : Ok T) (c : Dev nD) (t : Fin (cfgM hO).N) (s : Vec F S512x2048 .bf16) (a : Vec F S512x2048 .f32) (h : On T t.val → (s, a) = st V hO c t.val t.isLt) : Kept V hO c (t.val + 1) s a := by
  intro k hk e hl
  obtain rfl : k = t.val := Nat.succ.inj e
  exact h hl

/-- The body's triple at every point. -/
theorem sound_body (hO : Ok T) (c : Dev nD) (t : Fin (cfgM hO).N) :
    bodyPre V hO c t ⊢ wp frame (wpE (defs₀ (F := F)) Variants.none c none) Set.univ (bodyAt hO t) (fun _ => bodyPost V hO c t) := by
  have c1 := cond1_iff (grid0.coords t) (word (c := c) (T 1))
  have c2 := cond2_iff (grid0.coords t) (word (c := c) (T 1))
  have c3 := cond3_iff (grid0.coords t) (word (c := c) (T 1))
  have c4 := cond4_iff (grid0.coords t) (word (c := c) (T 1))
  rw [coords0 t, word_eq c (T)] at c1 c2 c3 c4
  rw [coords1 t] at c1 c3 c4
  refine body_of V hO c t fun d s a hk => ?_
  by_cases hl : On T t.val
  · by_cases h0 : t.val % 11 = 0
    · have h10 : ¬t.val % 11 = 10 := by omega
      exact ⟨_, _, _, first c (grid0.coords t) _ _ _ _ _ _ _ _ _ _ _ _ _ _ _ _ _ _ _ _ _ _ _ _ s a (c1.mpr ⟨hl, h0⟩) (c2.mpr hl) (fun h => h10 (c3.mp h).2) (fun h => h10 (c4.mp h).2),
        kept_start V hO c t h0, leaves_idle V hO c t h10 d⟩
    · have n1 : ¬cond1 (grid0.coords t) (word (c := c) (T 1)) := fun h => h0 (c1.mp h).2
      have e := step_eq V hO c t h0 hl s a hk
      by_cases h10 : t.val % 11 = 10
      · exact ⟨_, _, _, final c (grid0.coords t) _ _ _ _ _ _ _ _ _ _ _ _ _ _ _ _ _ _ _ _ _ _ _ _ s a n1 (c2.mpr hl) (c3.mpr ⟨hl, h10⟩) (fun h => (c4.mp h).1 hl),
          kept_of V hO c t _ _ (fun _ => e), leaves_last V hO c t h10 _ ((congrArg Prod.snd e).trans (if_pos hl).symm)⟩
      · exact ⟨_, _, _, middle c (grid0.coords t) _ _ _ _ _ _ _ _ _ _ _ _ _ _ _ _ _ _ _ _ _ _ _ _ s a n1 (c2.mpr hl) (fun h => h10 (c3.mp h).2) (fun h => h10 (c4.mp h).2),
          kept_of V hO c t _ _ (fun _ => e), leaves_idle V hO c t h10 d⟩
  · have n1 : ¬cond1 (grid0.coords t) (word (c := c) (T 1)) := fun h => hl (c1.mp h).1
    have n2 : ¬cond2 (grid0.coords t) (word (c := c) (T 1)) := fun h => hl (c2.mp h)
    have n3 : ¬k0_cond3 (grid0.coords t) (word (c := c) (T 1)) = 1#1 := fun h => hl (c3.mp h).1
    by_cases h10 : t.val % 11 = 10
    · exact ⟨_, _, _, zero c (grid0.coords t) _ _ _ _ _ _ _ _ _ _ _ _ _ _ _ _ _ _ _ _ _ _ _ _ s a n1 n2 n3 (c4.mpr ⟨hl, h10⟩),
        kept_of V hO c t _ _ (fun h => absurd h hl), leaves_last V hO c t h10 _ (if_neg hl).symm⟩
    · exact ⟨_, _, _, unused c (grid0.coords t) _ _ _ _ _ _ _ _ _ _ _ _ _ _ _ _ _ _ _ _ _ _ _ _ s a n1 n2 n3 (fun h => h10 (c4.mp h).2),
        kept_of V hO c t _ _ (fun h => absurd h hl), leaves_idle V hO c t h10 d⟩

theorem row (hO : Ok T) (t : Fin (cfgM hO).N) :
    defs₀ (F := F) .tc (cfgM hO).body ((cfgM hO).bodyArgs t ((cfgM hO).slots t)) = bodyAt hO t := by
  unfold defs₀; rw [Defs.onTc_tc]

theorem body_obligation (hO : Ok T) (c : Dev nD) : BodyObligation (dats (F := F) V hO 0 c) (defs₀ (F := F)) Variants.none () Set.univ := fun t => by
  rw [bigSep_W0, bigSep_W0, row hO]
  exact triple_restated (sound_body V hO c t) rfl .rfl fun _ => .rfl

theorem enter (hO : Ok T) (c : Dev nD) : iprop(Pipeline.ΦA spec0 c ∗ Pipeline.ΦT pre0 (T) c) ⊢ (dats V hO 0 c).Φ 0 := by
  rw [show (dats V hO 0 c).Φ 0 = Inv V hO c 0 from rfl, scratch_eq, tables_eq]
  unfold Inv
  iintro ⟨⟨⟨⟨%s, HS0⟩, ⟨%a, HS1⟩⟩, Hg⟩, HT0, HT1⟩
  isplitl [HS0 HS1]
  · iexists s; iexists a
    isplitl [HS0]; · iexact HS0
    isplitl [HS1]; · iexact HS1
    ipureintro; exact fun k _ e => absurd e (Nat.succ_ne_zero k)
  isplitl [Hg]; · iexact Hg
  isplitl [HT0]; · iexact HT0
  iexact HT1

theorem leave (hO : Ok T) (c : Dev nD) : (dats V hO 0 c).Φ (Fin.last (cfgM hO).N) ⊢ Pipeline.ΦA spec0 c := by
  rw [show (dats V hO 0 c).Φ (Fin.last (cfgM hO).N) = Inv V hO c (Fin.last (cfgM hO).N).val from rfl, scratch_eq]
  unfold Inv
  iintro ⟨⟨%s, %a, HS0, HS1, -⟩, Hg, -⟩
  isplitl [HS0 HS1]
  · isplitl [HS0]
    · iexists _; iexact HS0
    iexists _; iexact HS1
  iexact Hg

set_option backward.isDefEq.respectTransparency.types false in
/-- The run, of contents that the program reaches at the call: every array ends as the proof data says, and every
counter at zero. -/
theorem run (m : (ℓ : Loc nD τ sig) → Buf (Elt F) ℓ) (ρ : Dev nD → PrngReg) (hO : Ok T) (hT : ∀ c j, V c (pre0.ref j) = T j)
    (hV : Pipeline.HMainP (Ix := Unit) (Name := ℕ) (U := UR sig nD τ) (Lvl := ℕ) pcfgs 0 defs₀ Variants.none m (main (F := F)) V) :
    θ_run defs (onTc (τ := τ) (main (F := F))) (s₀ m ρ) (fun r => (Pipeline.FramePost (Pipeline.pin pcfgs fun _ => adm hO) (dats V hO) 0 V) r ∧ r.2.sem = fun _ => 0) :=
  Pipeline.θ_run_frameP_track (Q' := _) pcfgs (fun _ => adm hO) (dats V hO) (0 : Fin 1) launch0 defs₀ Variants.none m ρ main
    (hbody := fun c => (body_obligation V hO c).loose) (hshare := fun c => (dats V hO 0 c).share_full fun _ => rfl)
    (howed := fun _ _ => rfl) (V := V) (hmain := hV) (hA := A_eq V hO) (hpf := hT)
    (hin := enter V hO) (hout := leave V hO)

end Cert.Kernel2Ideal.Experts

end
-- ==== Proof.Route.lean ====
/- The expert layer's call as it is launched: what the host's routing leaves in the buffers, the two tables read from
them, each window's block, and the conditions of the body's branches. -/
module

public import proofs.«01_k».proof.Proof.Walk

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The host's operations before the call, stretch by stretch. -/
abbrev prefixes : List (List (HloOp τ sig (Elt F))) :=
  [hostOps0, hostOps0_1, hostOps0_2, hostOps0_3, hostOps0_4, hostOps0_5, hostOps0_6, hostOps0_7, hostOps0_8, hostOps0_9, hostOps0_10]

/-- A core's buffers when the call is entered: the launch memory after the host's operations. -/
def V (c : Dev nD) (b : Ref sig .tc) : Buf (Elt F) ((c : Thread nD τ).loc b) := StableHlo.after prefixes.flatten (fun b => m (c, b)) b

theorem prefixes_sub : (prefixes : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor
theorem fresh5 : (hostOps0_5 : List (HloOp τ sig (Elt F))).Forall fun op => op.fresh = ∅ := by
  simp only [List.Forall]; repeat' constructor
theorem fresh6 : (hostOps0_6 : List (HloOp τ sig (Elt F))).Forall fun op => op.fresh = ∅ := by
  simp only [List.Forall]; repeat' constructor
theorem fresh7 : (hostOps0_7 : List (HloOp τ sig (Elt F))).Forall fun op => op.fresh = ∅ := by
  simp only [List.Forall]; repeat' constructor
theorem fresh8 : (hostOps0_8 : List (HloOp τ sig (Elt F))).Forall fun op => op.fresh = ∅ := by
  simp only [List.Forall]; repeat' constructor
theorem fresh9 : (hostOps0_9 : List (HloOp τ sig (Elt F))).Forall fun op => op.fresh = ∅ := by
  simp only [List.Forall]; repeat' constructor
theorem fresh10 : (hostOps0_10 : List (HloOp τ sig (Elt F))).Forall fun op => op.fresh = ∅ := by
  simp only [List.Forall]; repeat' constructor
theorem prefixes_fresh : (prefixes : List (List (HloOp τ sig (Elt F)))).Forall fun ops => ops.Forall fun op => op.fresh = ∅ :=
  ⟨fresh0, fresh1, fresh2, fresh3, fresh4, fresh5, fresh6, fresh7, fresh8, fresh9, fresh10⟩

set_option maxHeartbeats 1600000 in
/-- The program up to the call. -/
theorem enters (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main prefixes prefixes_sub prefixes_fresh main_chain

/-- The host's operations write no argument `0`. -/
theorem V_arg0 (c : Dev nD) : V m c main_arg0 = m ((c : Thread nD τ).loc main_arg0) :=
  StableHlo.after_of_forall_not_mem (b := Proc.devRef .tc main_arg0) _ _ (List.forall_iff_forall_mem.mp (by
    simp only [prefixes, hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.reshape_writes, StableHlo.unaryIndexed_writes, Finset.mem_singleton]
    repeat' apply And.intro
    all_goals exact StableHlo.devRef_ne_of_ne (by decide)))
/-- The host's operations write no argument `1`. -/
theorem V_arg1 (c : Dev nD) : V m c main_arg1 = m ((c : Thread nD τ).loc main_arg1) :=
  StableHlo.after_of_forall_not_mem (b := Proc.devRef .tc main_arg1) _ _ (List.forall_iff_forall_mem.mp (by
    simp only [prefixes, hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.reshape_writes, StableHlo.unaryIndexed_writes, Finset.mem_singleton]
    repeat' apply And.intro
    all_goals exact StableHlo.devRef_ne_of_ne (by decide)))
/-- The host's operations write no argument `2`. -/
theorem V_arg2 (c : Dev nD) : V m c main_arg2 = m ((c : Thread nD τ).loc main_arg2) :=
  StableHlo.after_of_forall_not_mem (b := Proc.devRef .tc main_arg2) _ _ (List.forall_iff_forall_mem.mp (by
    simp only [prefixes, hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.reshape_writes, StableHlo.unaryIndexed_writes, Finset.mem_singleton]
    repeat' apply And.intro
    all_goals exact StableHlo.devRef_ne_of_ne (by decide)))
/-- The host's operations write no argument `3`. -/
theorem V_arg3 (c : Dev nD) : V m c main_arg3 = m ((c : Thread nD τ).loc main_arg3) :=
  StableHlo.after_of_forall_not_mem (b := Proc.devRef .tc main_arg3) _ _ (List.forall_iff_forall_mem.mp (by
    simp only [prefixes, hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.reshape_writes, StableHlo.unaryIndexed_writes, Finset.mem_singleton]
    repeat' apply And.intro
    all_goals exact StableHlo.devRef_ne_of_ne (by decide)))
/-- The host's operations write no argument `4`. -/
theorem V_arg4 (c : Dev nD) : V m c main_arg4 = m ((c : Thread nD τ).loc main_arg4) :=
  StableHlo.after_of_forall_not_mem (b := Proc.devRef .tc main_arg4) _ _ (List.forall_iff_forall_mem.mp (by
    simp only [prefixes, hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.reshape_writes, StableHlo.unaryIndexed_writes, Finset.mem_singleton]
    repeat' apply And.intro
    all_goals exact StableHlo.devRef_ne_of_ne (by decide)))
/-- The host's operations write no argument `5`. -/
theorem V_arg5 (c : Dev nD) : V m c main_arg5 = m ((c : Thread nD τ).loc main_arg5) :=
  StableHlo.after_of_forall_not_mem (b := Proc.devRef .tc main_arg5) _ _ (List.forall_iff_forall_mem.mp (by
    simp only [prefixes, hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.reshape_writes, StableHlo.unaryIndexed_writes, Finset.mem_singleton]
    repeat' apply And.intro
    all_goals exact StableHlo.devRef_ne_of_ne (by decide)))

/-- The tables' contents when the call is entered; there is one device. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- The arguments end unchanged. -/
theorem frame_args (hO : Ok (tbl m)) (r) (h : Pipeline.FramePost (Pipeline.pin pcfgs fun _ => adm hO) (dats (V m) hO) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h c).1 0).trans (((dats (V m) hO 0 c).arrAt_in 0 rfl _).trans ((A_eq (V m) hO c 0).trans (V_arg0 m c))),
    ((h c).2 main_arg1 (by decide : main_arg1 ∈ Pipeline.restRefs sig spec0)).trans (V_arg1 m c),
    ((h c).2 main_arg2 (by decide : main_arg2 ∈ Pipeline.restRefs sig spec0)).trans (V_arg2 m c),
    ((h c).2 main_arg3 (by decide : main_arg3 ∈ Pipeline.restRefs sig spec0)).trans (V_arg3 m c),
    ((h c).2 main_arg4 (by decide : main_arg4 ∈ Pipeline.restRefs sig spec0)).trans (V_arg4 m c),
    ((h c).2 main_arg5 (by decide : main_arg5 ∈ Pipeline.restRefs sig spec0)).trans (V_arg5 m c)⟩

/-- The frame, where the tables name blocks inside the arrays. -/
theorem frame_of (hO : Ok (tbl m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨frame_args m hO r h.1, h.2⟩) (run (V m) m ρ hO (V_pre m) (enters m Variants.none))

end Cert.Kernel2Ideal.Experts

end
-- ==== Proof.Host.lean ====
/- The host's operations before the expert layer's call, stretch by stretch: what each leaves in the buffers that the
next ones read, from any contents before it. -/
module

public import proofs.«01_k».proof.Proof.Gen.Kernel2Ideal.Launch
public import Idealize.ShloMosaic.Lib.Routing.Ops
public import Idealize.ShloMosaic.Lib.Routing.OpsOne
public import Idealize.ShloMosaic.Lib.Routing.OpsSearch
public import Idealize.ShloMosaic.Lib.PlanTiles.Rows
public import Idealize.ShloMosaic.Lib.DynamicIndex

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL.Sem
open Idealize.ShloMosaic.ValueIdx

variable {F : FTy → Type} [FloatOps F]

attribute [local irreducible] Host.reduceWindow

variable (W : Valuation τ sig (Elt F))

/-- Ones where a slot's expert is the column's. -/
def hits (e : S16384x2.Idx → BitVec 32) : S32768x8.Idx → BitVec 32 :=
  extui 32 (cmpi .eq (broadcastInDim S32768x8 ![0, 1] bcast_S32768x1_S32768x8_0_1 (broadcastInDim S32768x1 ![0] bcast_S32768_S32768x1_0 (shapeCast S32768 e shapeCasts_S16384x2_S32768)))
    (broadcastInDim S32768x8 ![0, 1] bcast_S1x8_S32768x8_0_1 (broadcastInDim S1x8 ![1] bcast_S8_S1x8_1 (iotaInDim S8 32 0)))) natLt_1_32
/-- Its running sums, slot by slot. -/
def runs (x : S32768x8.Idx → BitVec 32) : S32768x8.Idx → BitVec 32 :=
  Host.reduceWindow IntOp.addi ![32768, 1] ![1, 1] ![32767, 0] ![0, 0] x (broadcastInDim S_ ![] bcast_S_S_ (constantI S_ 32 0#32)) reduceWindows_S32768x8_S32768x8_w32768s1p32767_0_w1s1p0_0 h_S_
/-- An expert's slots, and what rounds them up to whole tiles. -/
def padded (x : S32768x8.Idx → BitVec 32) : S8.Idx → BitVec 32 :=
  subi (addi (shapeCast S8 (extractStridedSlice S1x8 ![32767, 0] x slices_S32768x8_S1x8_32767_0) shapeCasts_S1x8_S8) (broadcastInDim S8 ![] bcast_S_S8 (constantI S_ 32 512#32)))
    (broadcastInDim S8 ![] bcast_S_S8 (constantI S_ 32 1#32))
/-- Eight numbers' running sums. -/
def runs8 (x : S8.Idx → BitVec 32) : S8.Idx → BitVec 32 :=
  Host.reduceWindow IntOp.addi ![8] ![1] ![7] ![0] x (broadcastInDim S_ ![] bcast_S_S_ (constantI S_ 32 0#32)) reduceWindows_S8_S8_w8s1p7_0 h_S_
/-- The last of eight numbers. -/
def lastOf (x : S8.Idx → BitVec 32) : S_.Idx → BitVec 32 :=
  shapeCast S_ (extractStridedSlice S1 ![7] x slices_S8_S1_7) shapeCasts_S1_S_
/-- Each tile's expert: how many groups end before it, at most seven. -/
def owner (x : S8.Idx → BitVec 32) : S72.Idx → BitVec 32 :=
  minsi (Host.reduce IntOp.addi (extui 32 (cmpi .sge
      (broadcastInDim S72x8 ![0, 1] bcast_S72x1_S72x8_0_1 (muli (broadcastInDim S72x1 ![0] bcast_S72_S72x1_0 (iotaInDim S72 32 0)) (broadcastInDim S72x1 ![] bcast_S_S72x1 (constantI S_ 32 512#32))))
      (broadcastInDim S72x8 ![0, 1] bcast_S1x8_S72x8_0_1 (broadcastInDim S1x8 ![1] bcast_S8_S1x8_1 x))) natLt_1_32) (constantI S_ 32 0#32) reducesTo_S72x8_S72_d1 h_S_)
    (broadcastInDim S72 ![] bcast_S_S72 (constantI S_ 32 7#32))
/-- Which tiles hold rows. -/
def holds (n : S_.Idx → BitVec 32) : S72.Idx → BitVec 1 := cmpi .slt (iotaInDim S72 32 0) (broadcastInDim S72 ![] bcast_S_S72 n)
/-- The last tile that holds rows. -/
def lastTile (n : S_.Idx → BitVec 32) : S_.Idx → BitVec 32 :=
  select (cmpi .slt (maxsi (subi n (constantI S_ 32 1#32)) (constantI S_ 32 0#32)) (constantI S_ 32 0#32)) (addi (maxsi (subi n (constantI S_ 32 1#32)) (constantI S_ 32 0#32)) (constantI S_ 32 72#32))
    (maxsi (subi n (constantI S_ 32 1#32)) (constantI S_ 32 0#32))
/-- The entry of a tile table at a tile. -/
def entry (x : S72.Idx → BitVec 32) (k : S_.Idx → BitVec 32) : S_.Idx → BitVec 32 :=
  shapeCast S_ (Host.dynamicSlice S1 x (fun _ => (k (Shape.Idx.first h_S_)).toInt) sliceFits_S72_S1) shapeCasts_S1_S_
/-- The tile table: past the last tile that holds rows, that tile's entry again. -/
def table (g : S72.Idx → BitVec 1) (x : S72.Idx → BitVec 32) (k : S_.Idx → BitVec 32) : S72.Idx → BitVec 32 := select g x (broadcastInDim S72 ![] bcast_S_S72 k)

theorem s0_v7 : StableHlo.after hostOps0 W (Proc.devRef .tc main_v7) = hits (W (Proc.devRef .tc main_arg1)) := by
  after_results <;> rfl
theorem s1_v8 : StableHlo.after hostOps0_1 W (Proc.devRef .tc main_v8) = runs (W (Proc.devRef .tc main_v7)) := by
  after_results <;> rfl
theorem s2_v18 : StableHlo.after hostOps0_2 W (Proc.devRef .tc main_v18) = padded (W (Proc.devRef .tc main_v8)) := by
  after_results <;> rfl
theorem s2_c_3 : StableHlo.after hostOps0_2 W (Proc.devRef .tc main_c_3) = constantI S_ 32 512#32 := by
  after_results
theorem s3_v19 : StableHlo.after hostOps0_3 W (Proc.devRef .tc main_v19) = Routing.pyDiv bcast_S_S8 (W (Proc.devRef .tc main_v18)) (W (Proc.devRef .tc main_c_3)) := by
  after_results <;> rfl
theorem s4_v21 : StableHlo.after hostOps0_4 W (Proc.devRef .tc main_v21) = muli (W (Proc.devRef .tc main_v19)) (broadcastInDim S8 ![] bcast_S_S8 (constantI S_ 32 512#32)) := by
  after_results <;> rfl
theorem s5_v22 : StableHlo.after hostOps0_5 W (Proc.devRef .tc main_v22) = runs8 (W (Proc.devRef .tc main_v21)) := by
  after_results <;> rfl
theorem s6_v30 : StableHlo.after hostOps0_6 W (Proc.devRef .tc main_v30) = lastOf (W (Proc.devRef .tc main_v22)) := by
  after_results <;> rfl
theorem s6_c_6 : StableHlo.after hostOps0_6 W (Proc.devRef .tc main_c_6) = constantI S_ 32 512#32 := by
  after_results
theorem s6_v22 : StableHlo.after hostOps0_6 W (Proc.devRef .tc main_v22) = (W (Proc.devRef .tc main_v22)) := by
  after_results
theorem s7_v31 : StableHlo.after hostOps0_7 W (Proc.devRef .tc main_v31) = Routing.pyDiv0 (W (Proc.devRef .tc main_v30)) (W (Proc.devRef .tc main_c_6)) := by
  after_results <;> rfl
theorem s7_v22 : StableHlo.after hostOps0_7 W (Proc.devRef .tc main_v22) = (W (Proc.devRef .tc main_v22)) := by
  after_results
theorem s8_v43 : StableHlo.after hostOps0_8 W (Proc.devRef .tc main_v43) = owner (W (Proc.devRef .tc main_v22)) := by
  after_results <;> rfl
theorem s8_v45 : StableHlo.after hostOps0_8 W (Proc.devRef .tc main_v45) = holds (W (Proc.devRef .tc main_v31)) := by
  after_results <;> rfl
/-- The eighth stretch but its last two operations. -/
abbrev ops8 : List (HloOp τ sig (Elt F)) :=
  [ StableHlo.nullary main_v32 (iotaInDim S72 32 0),
    StableHlo.unary main_v32 main_v33 (broadcastInDim S72x1 ![0] bcast_S72_S72x1_0 : (⟨S72, .i32⟩ : BufTy).Contents (Elt F) → (⟨S72x1, .i32⟩ : BufTy).Contents (Elt F)),
    StableHlo.nullary main_c_7 (constantI S_ 32 512#32),
    StableHlo.unary main_c_7 main_v34 (broadcastInDim S72x1 ![] bcast_S_S72x1 : (⟨S_, .i32⟩ : BufTy).Contents (Elt F) → (⟨S72x1, .i32⟩ : BufTy).Contents (Elt F)),
    StableHlo.binary main_v33 main_v34 main_v35 (muli : (⟨S72x1, .i32⟩ : BufTy).Contents (Elt F) → (⟨S72x1, .i32⟩ : BufTy).Contents (Elt F) → (⟨S72x1, .i32⟩ : BufTy).Contents (Elt F)),
    StableHlo.unary main_v22 main_v36 (broadcastInDim S1x8 ![1] bcast_S8_S1x8_1 : (⟨S8, .i32⟩ : BufTy).Contents (Elt F) → (⟨S1x8, .i32⟩ : BufTy).Contents (Elt F)),
    StableHlo.unary main_v35 main_v37 (broadcastInDim S72x8 ![0, 1] bcast_S72x1_S72x8_0_1 : (⟨S72x1, .i32⟩ : BufTy).Contents (Elt F) → (⟨S72x8, .i32⟩ : BufTy).Contents (Elt F)),
    StableHlo.unary main_v36 main_v38 (broadcastInDim S72x8 ![0, 1] bcast_S1x8_S72x8_0_1 : (⟨S1x8, .i32⟩ : BufTy).Contents (Elt F) → (⟨S72x8, .i32⟩ : BufTy).Contents (Elt F)),
    StableHlo.binary main_v37 main_v38 main_v39 (cmpi .sge : (⟨S72x8, .i32⟩ : BufTy).Contents (Elt F) → (⟨S72x8, .i32⟩ : BufTy).Contents (Elt F) → (⟨S72x8, .i1⟩ : BufTy).Contents (Elt F)),
    StableHlo.unary main_v39 main_v40 ((extui 32 · natLt_1_32) : (⟨S72x8, .i1⟩ : BufTy).Contents (Elt F) → (⟨S72x8, .i32⟩ : BufTy).Contents (Elt F)),
    StableHlo.nullary main_c_8 (constantI S_ 32 0#32),
    StableHlo.binary main_v40 main_c_8 main_v41 ((fun x v => Host.reduce IntOp.addi x v reducesTo_S72x8_S72_d1 h_S_) : (⟨S72x8, .i32⟩ : BufTy).Contents (Elt F) → (⟨S_, .i32⟩ : BufTy).Contents (Elt F) → (⟨S72, .i32⟩ : BufTy).Contents (Elt F)),
    StableHlo.nullary main_c_9 (constantI S_ 32 7#32),
    StableHlo.unary main_c_9 main_v42 (broadcastInDim S72 ![] bcast_S_S72 : (⟨S_, .i32⟩ : BufTy).Contents (Elt F) → (⟨S72, .i32⟩ : BufTy).Contents (Elt F)),
    StableHlo.binary main_v41 main_v42 main_v43 (minsi : (⟨S72, .i32⟩ : BufTy).Contents (Elt F) → (⟨S72, .i32⟩ : BufTy).Contents (Elt F) → (⟨S72, .i32⟩ : BufTy).Contents (Elt F)),
    StableHlo.unary main_v31 main_v44 (broadcastInDim S72 ![] bcast_S_S72 : (⟨S_, .i32⟩ : BufTy).Contents (Elt F) → (⟨S72, .i32⟩ : BufTy).Contents (Elt F)),
    StableHlo.binary main_v32 main_v44 main_v45 (cmpi .slt : (⟨S72, .i32⟩ : BufTy).Contents (Elt F) → (⟨S72, .i32⟩ : BufTy).Contents (Elt F) → (⟨S72, .i1⟩ : BufTy).Contents (Elt F)),
    StableHlo.nullary main_c_10 (constantI S_ 32 1#32),
    StableHlo.binary main_v31 main_c_10 main_v46 (subi : (⟨S_, .i32⟩ : BufTy).Contents (Elt F) → (⟨S_, .i32⟩ : BufTy).Contents (Elt F) → (⟨S_, .i32⟩ : BufTy).Contents (Elt F)),
    StableHlo.nullary main_c_11 (constantI S_ 32 0#32),
    StableHlo.binary main_v46 main_c_11 main_v47 (maxsi : (⟨S_, .i32⟩ : BufTy).Contents (Elt F) → (⟨S_, .i32⟩ : BufTy).Contents (Elt F) → (⟨S_, .i32⟩ : BufTy).Contents (Elt F)),
    StableHlo.nullary main_c_12 (constantI S_ 32 0#32),
    StableHlo.binary main_v47 main_c_12 main_v48 (cmpi .slt : (⟨S_, .i32⟩ : BufTy).Contents (Elt F) → (⟨S_, .i32⟩ : BufTy).Contents (Elt F) → (⟨S_, .i1⟩ : BufTy).Contents (Elt F)),
    StableHlo.nullary main_c_13 (constantI S_ 32 72#32),
    StableHlo.binary main_v47 main_c_13 main_v49 (addi : (⟨S_, .i32⟩ : BufTy).Contents (Elt F) → (⟨S_, .i32⟩ : BufTy).Contents (Elt F) → (⟨S_, .i32⟩ : BufTy).Contents (Elt F)),
    StableHlo.ternary main_v48 main_v49 main_v47 main_v50 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]
/-- Its last two. -/
abbrev ops8' : List (HloOp τ sig (Elt F)) :=
  [ StableHlo.unaryIndexed main_v43 ![main_v50] ⟨S_, .i32⟩ main_v51 ((fun x i => Host.dynamicSlice S1 x (fun k => (i k (Shape.Idx.first h_S_)).toInt) sliceFits_S72_S1) : (⟨S72, .i32⟩ : BufTy).Contents (Elt F) → (Fin 1 → (⟨S_, .i32⟩ : BufTy).Contents (Elt F)) → (⟨S1, .i32⟩ : BufTy).Contents (Elt F)),
    StableHlo.reshape main_v51 main_v52 (rfl : (.i32 : EltTy) = .i32) shapeCasts_S1_S_ ]
theorem split8 : StableHlo.after hostOps0_8 W = StableHlo.after ops8' (StableHlo.after ops8 W) := rfl
theorem e8_v50 : StableHlo.after ops8 W (Proc.devRef .tc main_v50) = lastTile (W (Proc.devRef .tc main_v31)) := by
  after_results <;> rfl
theorem e8_v43 : StableHlo.after ops8 W (Proc.devRef .tc main_v43) = owner (W (Proc.devRef .tc main_v22)) := by
  after_results <;> rfl
theorem e8'_v52 : StableHlo.after ops8' W (Proc.devRef .tc main_v52) = entry (W (Proc.devRef .tc main_v43)) (W (Proc.devRef .tc main_v50)) := by
  after_results
  refine congrArg (fun f => shapeCast S_ (Host.dynamicSlice S1 (W (Proc.devRef .tc main_v43)) f sliceFits_S72_S1) shapeCasts_S1_S_) (funext fun k => ?_)
  obtain rfl : k = 0 := Subsingleton.elim _ _
  rfl
theorem s8_v52 : StableHlo.after hostOps0_8 W (Proc.devRef .tc main_v52) = entry (owner (W (Proc.devRef .tc main_v22))) (lastTile (W (Proc.devRef .tc main_v31))) := by
  rw [split8, e8'_v52, e8_v50, e8_v43]
theorem s8_v31 : StableHlo.after hostOps0_8 W (Proc.devRef .tc main_v31) = (W (Proc.devRef .tc main_v31)) := by
  after_results
theorem s9_v53 : StableHlo.after hostOps0_9 W (Proc.devRef .tc main_v53) = table (W (Proc.devRef .tc main_v45)) (W (Proc.devRef .tc main_v43)) (W (Proc.devRef .tc main_v52)) := by
  after_results <;> rfl
theorem s9_v31 : StableHlo.after hostOps0_9 W (Proc.devRef .tc main_v31) = (W (Proc.devRef .tc main_v31)) := by
  after_results
theorem s10_v53 : StableHlo.after hostOps0_10 W (Proc.devRef .tc main_v53) = (W (Proc.devRef .tc main_v53)) := by
  after_results
theorem s10_v54 : StableHlo.after hostOps0_10 W (Proc.devRef .tc main_v54) = shapeCast S1 (W (Proc.devRef .tc main_v31)) shapeCasts_S_S1 := by
  after_results <;> rfl
theorem s10_v55 : StableHlo.after hostOps0_10 W (Proc.devRef .tc main_v55) = truncf .bf16 (W (Proc.devRef .tc main_arg3)) bitsLt_bf16_f32 := by
  after_results <;> rfl
theorem s10_v56 : StableHlo.after hostOps0_10 W (Proc.devRef .tc main_v56) = truncf .bf16 (W (Proc.devRef .tc main_arg4)) bitsLt_bf16_f32 := by
  after_results <;> rfl
theorem s10_v57 : StableHlo.after hostOps0_10 W (Proc.devRef .tc main_v57) = truncf .bf16 (W (Proc.devRef .tc main_arg5)) bitsLt_bf16_f32 := by
  after_results <;> rfl
theorem s10_v58 : StableHlo.after hostOps0_10 W (Proc.devRef .tc main_v58) = shapeCast S1x2048 (W (Proc.devRef .tc main_arg2)) shapeCasts_S2048_S1x2048 := by
  after_results <;> rfl

end Cert.Kernel2Ideal.Experts

end
-- ==== Proof.Count.lean ====
/- The expert layer's groups in whole numbers: how many slots name an expert, the rows its group takes in whole tiles,
where each group ends, and the expert a tile of rows belongs to. -/
module

public import Idealize.ShloMosaic.Lib.Routing.OpsOne

@[expose] public section

noncomputable section

namespace Cert.Groups

open Idealize.ShloMosaic Idealize.ShloMosaic.ValueIdx

variable (e : (⟨2, ![16384, 2]⟩ : Shape).Idx → BitVec 32)

/-- The expert that slot `k` names. -/
def named (k : Nat) (h : k < 32768) : BitVec 32 := e (ix2 ⟨k / 2, by omega⟩ ⟨k % 2, by omega⟩)
/-- One where slot `k` names expert `c`. -/
def slot (k c : Nat) : Nat := if h : k < 32768 then if named e k h = BitVec.ofNat 32 c then 1 else 0 else 0
/-- How many slots name an expert. -/
def cnt (c : Nat) : Nat := ∑ k ∈ Finset.range 32768, slot e k c
/-- Its group's rows, in whole tiles. -/
def pad (c : Nat) : Nat := (cnt e c + 511) / 512 * 512
/-- Where its group ends. -/
def ends (c : Nat) : Nat := ∑ i ∈ Finset.range (c + 1), pad e i
/-- How many tiles hold rows. -/
def tiles : Nat := ends e 7 / 512
/-- The expert of a tile: how many groups end at its first row or before, at most seven. -/
def own (b : Nat) : Nat := min (Nat.count (fun c => ends e c ≤ b * 512) 8) 7
/-- The tile's expert in the table: past the last tile that holds rows, that tile's. -/
def expert (b : Nat) : Nat := if b < tiles e then own e b else own e (tiles e - 1)

theorem list_sum (f : Nat → Nat) (n : Nat) : ((List.range n).map f).sum = ∑ i ∈ Finset.range n, f i := by
  induction n with
  | zero => rfl
  | succ n ih => rw [List.range_succ, List.map_append, List.sum_append, ih, Finset.sum_range_succ]; simp

theorem slot_le (k c : Nat) : slot e k c ≤ 1 := by unfold slot; split_ifs <;> omega

theorem cnt_le (c : Nat) : cnt e c ≤ 32768 := by
  refine (Finset.sum_le_sum fun k _ => slot_le e k c).trans ?_
  simp

/-- A slot names at most one expert. -/
theorem slots_le (k : Nat) : ∑ c ∈ Finset.range 8, slot e k c ≤ 1 := by
  by_cases h : k < 32768
  · have key : ∀ c c', c < 8 → c' < 8 → named e k h = BitVec.ofNat 32 c → named e k h = BitVec.ofNat 32 c' → c = c' := by
      intro c c' hc hc' h1 h2
      have := congrArg BitVec.toNat (h1.symm.trans h2)
      rw [BitVec.toNat_ofNat, BitVec.toNat_ofNat] at this
      omega
    by_cases hx : ∃ c, c < 8 ∧ named e k h = BitVec.ofNat 32 c
    · obtain ⟨c, hc, hn⟩ := hx
      rw [Finset.sum_eq_single_of_mem c (Finset.mem_range.mpr hc)]
      · exact slot_le e k c
      · intro b hb hne
        unfold slot
        rw [dif_pos h, if_neg fun h' => hne (key b c (Finset.mem_range.mp hb) hc h' hn)]
    · rw [Finset.sum_eq_zero]
      · omega
      · intro b hb
        unfold slot
        rw [dif_pos h, if_neg fun h' => hx ⟨b, Finset.mem_range.mp hb, h'⟩]
  · rw [Finset.sum_eq_zero]
    · omega
    · intro b _
      unfold slot
      rw [dif_neg h]

theorem cnts_le : ∑ c ∈ Finset.range 8, cnt e c ≤ 32768 := by
  unfold cnt
  rw [Finset.sum_comm]
  refine (Finset.sum_le_sum fun k _ => slots_le e k).trans ?_
  simp

theorem ends_succ (c : Nat) : ends e (c + 1) = ends e c + pad e (c + 1) := Finset.sum_range_succ _ _
theorem ends_zero : ends e 0 = pad e 0 := by simp [ends]

theorem ends_mono {a b : Nat} (h : a ≤ b) : ends e a ≤ ends e b :=
  Finset.sum_le_sum_of_subset (Finset.range_subset_range.mpr (by omega))

theorem ends_dvd (c : Nat) : ends e c % 512 = 0 :=
  Nat.mod_eq_zero_of_dvd (Finset.dvd_sum fun _ _ => Dvd.intro_left _ rfl)

theorem ends_last : ends e 7 ≤ 36352 := by
  have h : ends e 7 ≤ ∑ c ∈ Finset.range 8, (cnt e c + 511) := Finset.sum_le_sum fun c _ => Nat.div_mul_le_self _ _
  rw [Finset.sum_add_distrib, Finset.sum_const, Finset.card_range] at h
  have := cnts_le e
  have := ends_dvd e 7
  simp only [smul_eq_mul] at h
  omega

theorem ends_le {c : Nat} (h : c < 8) : ends e c ≤ 36352 := (ends_mono e (by omega)).trans (ends_last e)
theorem tiles_le : tiles e ≤ 71 := by have := ends_last e; unfold tiles; omega
theorem own_le (b : Nat) : own e b ≤ 7 := Nat.min_le_right _ _
theorem expert_le (b : Nat) : expert e b ≤ 7 := by unfold expert; split_ifs <;> exact own_le e _

/-- A row inside a group is a row of a tile of that group's expert. -/
theorem own_of_mem {c R : Nat} (hc : c < 8) (h1 : ends e c - pad e c ≤ R) (h2 : R < ends e c) : own e (R / 512) = c ∧ R / 512 < tiles e := by
  have hd : ∀ c', ends e c' ≤ R / 512 * 512 ↔ ends e c' ≤ R := by
    intro c'
    have := ends_dvd e c'
    omega
  have hcount : Nat.count (fun c' => ends e c' ≤ R / 512 * 512) 8 = c := by
    rw [Nat.count_eq_card_filter_range]
    have : Finset.filter (fun c' => ends e c' ≤ R / 512 * 512) (Finset.range 8) = Finset.range c := by
      ext c'
      rw [Finset.mem_filter, Finset.mem_range, Finset.mem_range, hd]
      constructor
      · rintro ⟨_, h⟩
        by_contra hh
        have := ends_mono e (show c ≤ c' by omega)
        omega
      · intro h
        refine ⟨by omega, ?_⟩
        obtain ⟨d, rfl⟩ : ∃ d, c = d + 1 := ⟨c - 1, by omega⟩
        have := ends_mono e (show c' ≤ d by omega)
        have := ends_succ e d
        omega
    rw [this, Finset.card_range]
  constructor
  · unfold own; rw [hcount]; omega
  · have := ends_mono e (show c ≤ 7 by omega)
    have := ends_dvd e 7
    unfold tiles
    omega

/-- A row of a tile that holds rows lies in the group of the tile's expert. -/
theorem mem_of_tile {R : Nat} (h : R / 512 < tiles e) : ends e (own e (R / 512)) - pad e (own e (R / 512)) ≤ R ∧ R < ends e (own e (R / 512)) := by
  have h7 : R < ends e 7 := by have := ends_dvd e 7; unfold tiles at h; omega
  have hex : ∃ c, R < ends e c := ⟨7, h7⟩
  have hf := Nat.find_spec hex
  have hmin : ∀ d, d < Nat.find hex → ends e d ≤ R := fun d hd => not_lt.mp (Nat.find_min hex hd)
  have hle : Nat.find hex ≤ 7 := Nat.find_le h7
  have h1 : ends e (Nat.find hex) - pad e (Nat.find hex) ≤ R := by
    rcases Nat.eq_zero_or_pos (Nat.find hex) with h0 | h0
    · rw [h0, ends_zero]; omega
    · obtain ⟨d, hd⟩ : ∃ d, Nat.find hex = d + 1 := ⟨Nat.find hex - 1, by omega⟩
      have := hmin d (by omega)
      rw [hd, ends_succ]
      omega
  rw [(own_of_mem e (by omega) h1 hf).1]
  exact ⟨h1, hf⟩

/-- A row lies in an expert's group exactly where it is a row of a tile of that expert. -/
theorem mem_iff {c R : Nat} (hc : c < 8) : (ends e c - pad e c ≤ R ∧ R < ends e c) ↔ (R / 512 < tiles e ∧ own e (R / 512) = c) := by
  constructor
  · rintro ⟨h1, h2⟩
    exact (own_of_mem e hc h1 h2).symm
  · rintro ⟨h1, rfl⟩
    exact mem_of_tile e h1

end Cert.Groups

end
-- ==== Proof.Plan.lean ====
/- The expert layer's tables in whole numbers: what the host's operations compute from the slots' experts. -/
module

public import proofs.«01_k».proof.Proof.Host
public import proofs.«01_k».proof.Proof.Count

@[expose] public section

set_option maxRecDepth 16384

noncomputable section

namespace Cert.Kernel2Ideal.Experts

open Cert.Kernel2Ideal Cert.Kernel2Ideal.Gen Cert.Groups
open Idealize.ShloMosaic Idealize.ShloMosaic.TcCoe Idealize.ShloMosaic.Tactic
open Idealize.ShloMosaic.ValueIdx

attribute [local irreducible] Host.reduceWindow

variable (e : S16384x2.Idx → BitVec 32)

theorem hits_at (k : Fin 32768) (c : Fin 8) : hits e (ix2 k c) = BitVec.ofNat 32 (slot e k.val c.val) := by
  have h1 : (broadcastInDim S32768x8 ![0, 1] bcast_S32768x1_S32768x8_0_1 (broadcastInDim S32768x1 ![0] bcast_S32768_S32768x1_0 (shapeCast S32768 e shapeCasts_S16384x2_S32768))) (ix2 k c)
      = named e k.val k.isLt :=
    (Routing.bcRows _ _ _ k c).trans (Routing.cast21 e _ ⟨k.val / 2, by omega⟩ ⟨k.val % 2, by omega⟩ k (by show k.val = k.val / 2 * 2 + k.val % 2; omega))
  have h2 : (broadcastInDim S32768x8 ![0, 1] bcast_S1x8_S32768x8_0_1 (broadcastInDim S1x8 ![1] bcast_S8_S1x8_1 (iotaInDim S8 32 0))) (ix2 k c) = BitVec.ofNat 32 c.val :=
    Routing.bcCols _ _ _ k c
  show (IntOp.cmpi .eq _ _).setWidth 32 = _
  rw [h1, h2]
  unfold slot
  rw [dif_pos k.isLt]
  by_cases h : named e k.val k.isLt = BitVec.ofNat 32 c.val
  · rw [if_pos h, h]; simp [IntOp.cmpi]
  · rw [if_neg h]; simp [IntOp.cmpi, beq_eq_false_iff_ne.mpr h]

theorem const0 : (broadcastInDim S_ ![] bcast_S_S_ (constantI S_ 32 0#32)) ValueIdx.ix0 = 0#32 := rfl

theorem runs_at (c : Fin 8) : runs (hits e) (ix2 (⟨32767, by omega⟩ : Fin 32768) c) = BitVec.ofNat 32 (cnt e c.val) := by
  unfold runs
  refine (Routing.cumsum_rows (R := 32768) (Rm1 := 32767) (C := 8) (by norm_num) (hits e) (slot e) (hits_at e) _ const0 _ _ _ c).trans ?_
  rw [list_sum]
  unfold cnt
  exact congrArg (fun n => BitVec.ofNat 32 (∑ k ∈ Finset.range n, slot e k c.val)) (by norm_num)

theorem padded_at (c : Fin 8) : padded (runs (hits e)) (ix1 c) = BitVec.ofNat 32 (cnt e c.val + 511) := by
  have h1 : (shapeCast S8 (extractStridedSlice S1x8 ![32767, 0] (runs (hits e)) slices_S32768x8_S1x8_32767_0) shapeCasts_S1x8_S8) (ix1 c) = BitVec.ofNat 32 (cnt e c.val) :=
    (Routing.cast21 _ _ (0 : Fin 1) c c (by show c.val = 0 * 8 + c.val; omega)).trans ((PlanTiles.slice_row 32767 (by omega) (runs (hits e)) _ c).trans (runs_at e c))
  show (_ + 512#32) - 1#32 = _
  rw [h1]
  show (BitVec.ofNat 32 _ + BitVec.ofNat 32 512) - BitVec.ofNat 32 1 = _
  rw [BitVec.ofNat_add_ofNat, Routing.ofNat32_sub (by omega)]
  rfl

theorem size_at (c : Fin 8) : (muli (Routing.pyDiv bcast_S_S8 (padded (runs (hits e))) (constantI S_ 32 512#32)) (broadcastInDim S8 ![] bcast_S_S8 (constantI S_ 32 512#32))) (ix1 c)
    = BitVec.ofNat 32 (pad e c.val) := by
  have h := cnt_le e c.val
  have h1 := Routing.pyDiv_ap bcast_S_S8 (padded (runs (hits e))) (constantI S_ 32 512#32) (ix1 c) (b := 512) (padded_at e c) rfl (by omega) (by omega) (by omega)
  show _ * BitVec.ofNat 32 512 = _
  rw [h1, BitVec.ofNat_mul_ofNat]; rfl

/-- The groups' ends, as the host computes them. -/
def hostEnds : S8.Idx → BitVec 32 :=
  runs8 (muli (Routing.pyDiv bcast_S_S8 (padded (runs (hits e))) (constantI S_ 32 512#32)) (broadcastInDim S8 ![] bcast_S_S8 (constantI S_ 32 512#32)))
/-- The tiles that hold rows. -/
def hostTiles : S_.Idx → BitVec 32 := Routing.pyDiv0 (lastOf (hostEnds e)) (constantI S_ 32 512#32)
/-- The tiles' experts. -/
def hostTable : S72.Idx → BitVec 32 := table (holds (hostTiles e)) (owner (hostEnds e)) (entry (owner (hostEnds e)) (lastTile (hostTiles e)))

theorem ends_at (c : Fin 8) : hostEnds e (ix1 c) = BitVec.ofNat 32 (ends e c.val) := by
  unfold hostEnds runs8
  refine (Routing.cumsum1 (N := 8) (Nm1 := 7) rfl _ (pad e) (size_at e) _ const0 _ _ c).trans ?_
  rw [list_sum]; rfl

theorem lastOf_at (x : S8.Idx → BitVec 32) : lastOf x ValueIdx.ix0 = x (ix1 (7 : Fin 8)) := by
  unfold lastOf
  refine (shapeCast_apply _ _ _ (ix1 (0 : Fin 1)) (by rfl)).trans ?_
  exact Routing.slice1 7 x _ (0 : Fin 1) (by decide)

theorem tiles_at : hostTiles e ValueIdx.ix0 = BitVec.ofNat 32 (tiles e) := by
  have h := ends_last e
  unfold hostTiles
  refine Routing.pyDiv0_ap _ _ (a := ends e 7) (b := 512) ((lastOf_at _).trans (ends_at e 7)) rfl (by omega) (by omega) (by omega)

theorem owner_at (b : Fin 72) : owner (hostEnds e) (ix1 b) = BitVec.ofNat 32 (own e b.val) := by
  have hc : (Host.reduce IntOp.addi (extui 32 (cmpi .sge
      (broadcastInDim S72x8 ![0, 1] bcast_S72x1_S72x8_0_1 (muli (broadcastInDim S72x1 ![0] bcast_S72_S72x1_0 (iotaInDim S72 32 0)) (broadcastInDim S72x1 ![] bcast_S_S72x1 (constantI S_ 32 512#32))))
      (broadcastInDim S72x8 ![0, 1] bcast_S1x8_S72x8_0_1 (broadcastInDim S1x8 ![1] bcast_S8_S1x8_1 (hostEnds e)))) natLt_1_32) (constantI S_ 32 0#32) reducesTo_S72x8_S72_d1 h_S_) (ix1 b)
      = BitVec.ofNat 32 (Nat.count (fun c => ends e c ≤ b.val * 512) 8) := by
    refine Routing.reduce_count (n := 72) (m := 8) (by omega) _ natLt_1_32 _ _ b (fun c => ends e c ≤ b.val * 512) fun c => ?_
    have h1 : (broadcastInDim S72x8 ![0, 1] bcast_S72x1_S72x8_0_1 (muli (broadcastInDim S72x1 ![0] bcast_S72_S72x1_0 (iotaInDim S72 32 0)) (broadcastInDim S72x1 ![] bcast_S_S72x1 (constantI S_ 32 512#32)))) (ix2 b c)
        = BitVec.ofNat 32 (b.val * 512) := by
      refine (broadcastInDim_apply _ _ _ _ (ix2 b (0 : Fin 1)) fun a => ?_).trans ?_
      · match a with
        | ⟨0, _⟩ => rfl
        | ⟨1, _⟩ => rfl
      · show _ * BitVec.ofNat 32 512 = _
        refine (congrArg (· * BitVec.ofNat 32 512) (Routing.bcCol bcast_S72_S72x1_0 (iotaInDim S72 32 0) b)).trans ?_
        show BitVec.ofNat 32 b.val * _ = _
        rw [BitVec.ofNat_mul_ofNat]
    have h2 : (broadcastInDim S72x8 ![0, 1] bcast_S1x8_S72x8_0_1 (broadcastInDim S1x8 ![1] bcast_S8_S1x8_1 (hostEnds e))) (ix2 b c) = BitVec.ofNat 32 (ends e c.val) :=
      (Routing.bcCols _ _ _ b c).trans (ends_at e c)
    show IntOp.cmpi .sge _ _ = 1#1 ↔ _
    rw [h1, h2]
    have := ends_le e c.isLt
    have := b.isLt
    simp only [IntOp.cmpi]
    rw [Routing.sle_ofNat32 (by omega) (by omega)]
    by_cases h : ends e c.val ≤ b.val * 512 <;> simp [h]
  show IntOp.minsi _ (BitVec.ofNat 32 7) = _
  rw [hc]
  have : Nat.count (fun c => ends e c ≤ b.val * 512) 8 ≤ 8 := Nat.count_le _
  rw [PlanTiles.minsi_word (by omega) (by omega)]
  unfold own
  rw [min_comm]

theorem last_at : lastTile (hostTiles e) ValueIdx.ix0 = BitVec.ofNat 32 (tiles e - 1) := by
  have ht := tiles_le e
  have hm : maxsi (subi (hostTiles e) (constantI S_ 32 1#32)) (constantI S_ 32 0#32) ValueIdx.ix0 = BitVec.ofNat 32 (tiles e - 1) := by
    show IntOp.maxsi (hostTiles e ValueIdx.ix0 - 1#32) 0#32 = _
    rw [tiles_at]
    generalize tiles e = n at ht ⊢
    interval_cases n <;> decide
  show (if IntOp.cmpi .slt (maxsi (subi (hostTiles e) (constantI S_ 32 1#32)) (constantI S_ 32 0#32) ValueIdx.ix0) 0#32 = 1 then _ else maxsi (subi (hostTiles e) (constantI S_ 32 1#32)) (constantI S_ 32 0#32) ValueIdx.ix0) = _
  rw [hm, if_neg]
  have h := Routing.slt_ofNat32 (a := tiles e - 1) (b := 0) (by omega) (by omega)
  simp only [IntOp.cmpi]
  rw [h]
  simp

theorem table_at (b : Fin 72) : hostTable e (ix1 b) = BitVec.ofNat 32 (expert e b.val) := by
  have ht := tiles_le e
  have hg : holds (hostTiles e) (ix1 b) = if b.val < tiles e then 1#1 else 0#1 := by
    show IntOp.cmpi .slt (BitVec.ofNat 32 b.val) (broadcastInDim S72 ![] bcast_S_S72 (hostTiles e) (ix1 b)) = _
    rw [Routing.bc0 bcast_S_S72 (hostTiles e) (ix1 b), tiles_at]
    have := b.isLt
    simp only [IntOp.cmpi]
    rw [Routing.slt_ofNat32 (by omega) (by omega)]
    by_cases h : b.val < tiles e <;> simp [h]
  have hk : entry (owner (hostEnds e)) (lastTile (hostTiles e)) ValueIdx.ix0 = BitVec.ofNat 32 (own e (tiles e - 1)) := by
    unfold entry
    refine (shapeCast_apply _ _ _ (ix1 (0 : Fin 1)) (by rfl)).trans ?_
    have hs : S72.Slices (fun _ => tiles e - 1) S1 := ⟨rfl, fun a => by
      match a with
      | ⟨0, _⟩ => show tiles e - 1 + 1 ≤ 72; omega⟩
    rw [Host.dynamicSlice_eq_extractStridedSlice S1 (owner (hostEnds e)) _ (fun _ => tiles e - 1) _ hs fun a => by
      show (lastTile (hostTiles e) (Shape.Idx.first h_S_)).toInt = _
      rw [show (Shape.Idx.first h_S_ : S_.Idx) = ValueIdx.ix0 from Subsingleton.elim _ _, last_at, toInt_ofNat_of_lt (by omega)]]
    unfold extractStridedSlice
    refine Eq.trans (congrArg (owner (hostEnds e)) (funext fun a => Fin.ext ?_)) (owner_at e ⟨tiles e - 1, by omega⟩)
    match a with
    | ⟨0, _⟩ => rfl
  show (if holds (hostTiles e) (ix1 b) = 1 then owner (hostEnds e) (ix1 b) else broadcastInDim S72 ![] bcast_S_S72 (entry (owner (hostEnds e)) (lastTile (hostTiles e))) (ix1 b)) = _
  rw [Routing.bc0 bcast_S_S72 _ (ix1 b), hk, hg, owner_at]
  unfold expert
  by_cases h : b.val < tiles e <;> simp [h]

end Cert.Kernel2Ideal.Experts

end
-- ==== Proof.Places.lean ====
/- The blocks the tables name: where a tile's rows and its expert's weights lie, and that they lie inside the arrays. -/
module

public import proofs.«01_k».proof.Proof.Branch
public import Idealize.ShloMosaic.Lib.Routing.OpsOne
public import Idealize.ShloMosaic.Lib.PlanTiles.Rows

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.ShloMosaic.ValueIdx

variable {F : FTy → Type} [FloatOps F]

/-- The tables as numbers: `n` tiles hold rows, and tile `b` belongs to expert `x b`. -/
structure Says (T : pre0.Contents (Elt F)) (n : ℕ) (x : ℕ → ℕ) : Prop where
  count : (T 1 : S1.Idx → BitVec 32) (ix1 (0 : Fin 1)) = BitVec.ofNat 32 n
  owner : ∀ b : Fin 72, (T 0 : S72.Idx → BitVec 32) (ix1 b) = BitVec.ofNat 32 (x b.val)
  count_le : n ≤ 71
  owner_le : ∀ b, x b ≤ 7

variable {T : pre0.Contents (Elt F)} {n : ℕ} {x : ℕ → ℕ}

theorem lt72 (i : grid0.Coords) : (i 0).val < 72 := (i 0).isLt
theorem lt11 (i : grid0.Coords) : (i 1).val < 11 := (i 1).isLt

theorem at_count (h : Says T n x) : T.at 1 (Rect.unit (s := S1) ![0] S1.size inb_S1_S1_0) numel1_S1 = BitVec.ofNat 32 n := by
  refine Eq.trans ?_ h.count
  refine congrArg (T 1) (funext fun a => ?_)
  match a with
  | ⟨0, _⟩ => exact Subsingleton.elim (α := Fin 1) _ _

theorem used_eq (h : Says T n x) : used T = BitVec.ofNat 32 n := by
  refine (dif_pos in1).trans (Eq.trans ?_ h.count)
  refine congrArg (T 1) (funext fun a => ?_)
  match a with
  | ⟨0, _⟩ => exact Subsingleton.elim (α := Fin 1) _ _

theorem at_owner (h : Says T n x) (i : grid0.Coords) : T.at 0 (Rect.unit (s := S72) (k0_off1 i) S1.size (k0_off1_inb i)) numel1_S1 = BitVec.ofNat 32 (x (i 0).val) := by
  refine Eq.trans ?_ (h.owner (i 0))
  refine congrArg (T 0) (funext fun a => Fin.ext ?_)
  match a with
  | ⟨0, _⟩ =>
    have hi := lt72 i
    show (k0_off1 i 0) + 1 * _ = (i 0).val
    have h1 : k0_off1 i 0 = (i 0).val := by
      show (BitVec.ofNat 32 (i 0).val).toNat = _
      rw [BitVec.toNat_ofNat]; omega
    have h2 : ∀ z : Fin 1, z.val = 0 := fun z => by omega
    rw [h1]
    refine congrArg ((i 0).val + ·) ((Nat.one_mul _).trans (h2 _))

/-- A tile of rows is used where its number is below the number of those used. -/
theorem live_iff (h : Says T n x) {b : ℕ} (hb : b < 72) : live (used T) b ↔ b < n := by
  unfold live
  rw [used_eq h]
  have := h.count_le
  show IntOp.cmpi .slt _ _ = _ ↔ _
  simp only [IntOp.cmpi]
  rw [Routing.slt_ofNat32 (by omega) (by omega)]
  by_cases hh : b < n <;> simp [hh]

theorem pick (h : Says T n x) (i : grid0.Coords) :
    (Scalar.select (Scalar.cmpi .slt (BitVec.ofNat 32 (i 0).val) (BitVec.ofNat 32 n)) (BitVec.ofNat 32 (i 1).val) 10#32).toNat = if (i 0).val < n then (i 1).val else 10 := by
  have h0 := lt72 i
  have h1 := lt11 i
  have := h.count_le
  have hc : Scalar.cmpi .slt (BitVec.ofNat 32 (i 0).val) (BitVec.ofNat 32 n) = if (i 0).val < n then 1#1 else 0#1 := by
    show IntOp.cmpi .slt _ _ = _
    simp only [IntOp.cmpi]
    rw [Routing.slt_ofNat32 (by omega) (by omega)]
    by_cases hh : (i 0).val < n <;> simp [hh]
  rw [hc]
  by_cases hh : (i 0).val < n
  · rw [if_pos hh, if_pos hh]
    show (BitVec.ofNat 32 (i 1).val).toNat = _
    rw [BitVec.toNat_ofNat]; omega
  · rw [if_neg hh, if_neg hh]; rfl

theorem tile_word : ∀ n ≤ 71, ∀ b < 72, (Scalar.minsi (BitVec.ofNat 32 b) (Scalar.maxsi (Scalar.subi (BitVec.ofNat 32 n) 1#32) 0#32)).toNat = min b (n - 1) := by
  intro n hn b hb
  have h1 : Scalar.maxsi (Scalar.subi (BitVec.ofNat 32 n) 1#32) 0#32 = BitVec.ofNat 32 (n - 1) := by
    interval_cases n <;> decide
  rw [h1]
  refine (congrArg BitVec.toNat (PlanTiles.minsi_word (a := b) (b := n - 1) (by omega) (by omega))).trans ?_
  rw [BitVec.toNat_ofNat, min_comm]
  omega

theorem map0 (h : Says T n x) (i : grid0.Coords) : cc0_transform_0 inb_S1_S1_0 numel1_S1 T i = ![min (i 0).val (n - 1), 0] := by
  unfold cc0_transform_0
  dsimp only
  rw [at_count h, tile_word n h.count_le _ (lt72 i)]
  rfl

theorem map2 (h : Says T n x) (i : grid0.Coords) : cc0_transform_2 k0_off1_inb numel1_S1 inb_S1_S1_0 T i = ![x (i 0).val, 0, if (i 0).val < n then (i 1).val else 10] := by
  unfold cc0_transform_2
  dsimp only
  have ho := at_owner h i
  rw [at_count h, pick h i]
  refine congrArg (fun z : ℕ => (![z, (0#32).toNat, if (i 0).val < n then (i 1).val else 10] : Fin 3 → ℕ)) ((congrArg BitVec.toNat ho).trans ?_)
  have := h.owner_le (i 0).val
  rw [BitVec.toNat_ofNat]; omega

theorem map3 (h : Says T n x) (i : grid0.Coords) : cc0_transform_3 k0_off1_inb numel1_S1 inb_S1_S1_0 T i = ![x (i 0).val, 0, if (i 0).val < n then (i 1).val else 10] :=
  map2 h i

theorem map4 (h : Says T n x) (i : grid0.Coords) : cc0_transform_4 k0_off1_inb numel1_S1 inb_S1_S1_0 T i = ![x (i 0).val, if (i 0).val < n then (i 1).val else 10, 0] := by
  unfold cc0_transform_4
  dsimp only
  have ho := at_owner h i
  rw [at_count h, pick h i]
  refine congrArg (fun z : ℕ => (![z, if (i 0).val < n then (i 1).val else 10, (0#32).toNat] : Fin 3 → ℕ)) ((congrArg BitVec.toNat ho).trans ?_)
  have := h.owner_le (i 0).val
  rw [BitVec.toNat_ofNat]; omega

theorem pick_le (n : ℕ) (i : grid0.Coords) : (if (i 0).val < n then (i 1).val else 10) ≤ 10 := by
  have := lt11 i
  split_ifs <;> omega

theorem inb0 (h : Says T n x) (i : grid0.Coords) : ∀ a, (cc0_transform_0 inb_S1_S1_0 numel1_S1 T i a + 1) * S512x2048.size a ≤ S36864x2048.size a := by
  rw [map0 h]
  have := lt72 i
  intro a
  match a with
  | ⟨0, _⟩ => show (min (i 0).val (n - 1) + 1) * 512 ≤ 36864; omega
  | ⟨1, _⟩ => exact le_refl _

theorem inb2 (h : Says T n x) (i : grid0.Coords) : ∀ a, (cc0_transform_2 k0_off1_inb numel1_S1 inb_S1_S1_0 T i a + 1) * S1x2048x256.size a ≤ S8x2048x2816.size a := by
  rw [map2 h]
  have h1 := pick_le n i
  have h2 := h.owner_le (i 0).val
  intro a
  match a with
  | ⟨0, _⟩ => show (x (i 0).val + 1) * 1 ≤ 8; omega
  | ⟨1, _⟩ => exact le_refl _
  | ⟨2, _⟩ => show ((if (i 0).val < n then (i 1).val else 10) + 1) * 256 ≤ 2816; omega

theorem inb4 (h : Says T n x) (i : grid0.Coords) : ∀ a, (cc0_transform_4 k0_off1_inb numel1_S1 inb_S1_S1_0 T i a + 1) * S1x256x2048.size a ≤ S8x2816x2048.size a := by
  rw [map4 h]
  have h1 := pick_le n i
  have h2 := h.owner_le (i 0).val
  intro a
  match a with
  | ⟨0, _⟩ => show (x (i 0).val + 1) * 1 ≤ 8; omega
  | ⟨1, _⟩ => show ((if (i 0).val < n then (i 1).val else 10) + 1) * 256 ≤ 2816; omega
  | ⟨2, _⟩ => exact le_refl _

/-- The tables name blocks inside the arrays. -/
theorem ok_of (h : Says T n x) : ok0 T := by
  refine ⟨fun i => ⟨inb0 h i, .inl rfl⟩, fun i => ⟨inb2 h i, .inr (.inr ⟨by decide, rfl, ?_, rfl⟩)⟩, fun i => ⟨inb2 h i, .inr (.inr ⟨by decide, rfl, ?_, rfl⟩)⟩,
    fun i => ⟨inb4 h i, .inr (.inl (.inr ⟨by decide, rfl, .inl ⟨?_, ?_⟩⟩))⟩⟩
  · show cc0_transform_2 k0_off1_inb numel1_S1 inb_S1_S1_0 T i 1 * 2048 = 0
    rw [map2 h]; rfl
  · show cc0_transform_3 k0_off1_inb numel1_S1 inb_S1_S1_0 T i 1 * 2048 = 0
    rw [map3 h]; rfl
  · show 2 ∣ cc0_transform_4 k0_off1_inb numel1_S1 inb_S1_S1_0 T i 1 * 256
    exact Dvd.dvd.mul_left (by decide) _
  · show 2 ∣ 256
    decide

end Cert.Kernel2Ideal.Experts

end
-- ==== Proof.Routed.lean ====
/- The expert layer's call with its tables: what they hold when it is entered, and the frame. -/
module

public import proofs.«01_k».proof.Proof.Route
public import proofs.«01_k».proof.Proof.Plan
public import proofs.«01_k».proof.Proof.Places

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL.Sem
open Idealize.ShloMosaic.ValueIdx

variable {F : FTy → Type} [FloatOps F]

theorem two (l k : List (HloOp τ sig (Elt F))) (W : Valuation τ sig (Elt F)) : StableHlo.after (l ++ k) W = StableHlo.after k (StableHlo.after l W) := by
  induction l generalizing W with
  | nil => rfl
  | cons op l ih => exact ih _

theorem stretches (W : Valuation τ sig (Elt F)) : StableHlo.after prefixes.flatten W
    = StableHlo.after hostOps0_10 (StableHlo.after hostOps0_9 (StableHlo.after hostOps0_8 (StableHlo.after hostOps0_7 (StableHlo.after hostOps0_6
      (StableHlo.after hostOps0_5 (StableHlo.after hostOps0_4 (StableHlo.after hostOps0_3 (StableHlo.after hostOps0_2 (StableHlo.after hostOps0_1 (StableHlo.after hostOps0 W)))))))))) := by
  show StableHlo.after (hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ []))))))))))) W = _
  rw [two, two, two, two, two, two, two, two, two, two, two]
  rfl

variable (W : Valuation τ sig (Elt F))

theorem routed_tiles : StableHlo.after prefixes.flatten W (Proc.devRef .tc main_v54) = shapeCast S1 (hostTiles (W (Proc.devRef .tc main_arg1))) shapeCasts_S_S1 := by
  rw [stretches, s10_v54, s9_v31, s8_v31, s7_v31, s6_v30, s6_c_6, s5_v22, s4_v21, s3_v19, s2_v18, s2_c_3, s1_v8, s0_v7]
  rfl

theorem routed_table : StableHlo.after prefixes.flatten W (Proc.devRef .tc main_v53) = hostTable (W (Proc.devRef .tc main_arg1)) := by
  rw [stretches, s10_v53, s9_v53, s8_v43, s8_v45, s8_v52, s7_v31, s7_v22, s6_v22, s6_v30, s6_c_6, s5_v22, s4_v21, s3_v19, s2_v18, s2_c_3, s1_v8, s0_v7]
  rfl

variable (m : (ℓ : Loc nD τ sig) → Buf (Elt F) ℓ) (ρ : Dev nD → PrngReg)

/-- The experts the slots name, at launch. -/
def slots : S16384x2.Idx → BitVec 32 := m (((0 : Dev nD) : Thread nD τ).loc main_arg1)

/-- The tables at the call. -/
theorem tables_say : Says (tbl m) (Groups.tiles (slots m)) (Groups.expert (slots m)) where
  count := by
    refine (congrFun (routed_tiles (fun b => m (0, b))) (ix1 (0 : Fin 1))).trans ?_
    exact (shapeCast_apply _ _ _ ValueIdx.ix0 (by rfl)).trans (tiles_at (slots m))
  owner b := (congrFun (routed_table (fun b => m (0, b))) (ix1 b)).trans (table_at (slots m) b)
  count_le := Groups.tiles_le _
  owner_le b := Groups.expert_le _ b

theorem ok : Ok (tbl m) := ok_of (tables_say m)

end Cert.Kernel2Ideal.Experts

end
-- ==== Proof.Filled.lean ====
/- The array the expert layer's call leaves: each row of a used tile with its tile's expert applied, zero elsewhere. -/
module

public import proofs.«01_k».proof.Proof.Expert
public import proofs.«01_k».proof.Proof.Walk
public import proofs.«01_k».proof.Proof.Places
public import Idealize.ShloMosaic.Lib.Pointwise
public import Idealize.ShloMosaic.Lib.Pipeline.Value

@[expose] public section

set_option maxRecDepth 16384

noncomputable section

namespace Cert.Kernel2Ideal.Experts

open Cert.Kernel2Ideal Cert.Kernel2Ideal.Gen Cert.Expert
open Idealize.ShloMosaic Idealize.ShloMosaic.TcCoe Idealize.ShloMosaic.Tactic
open Idealize.SL.Sem

/-- The norm of a block's rows. -/
theorem pay1_apply (x : Vec Ideal S512x2048 .f32) (g : Vec Ideal S1x2048 .f32) (r : Fin 512) (d : Fin 2048) :
    k0_pay1 (F := Ideal) x g (ix2 r d) = rmsRow (fun k => x (ix2 r k)) (fun k => g (ix2 0 k)) d := by
  pointwise [k0_pay1]
  rfl

/-- The accumulator starts at zero. -/
theorem pay2_apply (r : Fin 512) (d : Fin 2048) : k0_pay2 (F := Ideal) (ix2 r d) = (0 : EReal) := by
  pointwise [k0_pay2]

/-- One block of the inner width added to the accumulator. -/
theorem pay3_apply (t : Vec Ideal S512x2048 .bf16) (w u : Vec Ideal S1x2048x256 .bf16) (acc : Vec Ideal S512x2048 .f32) (wd : Vec Ideal S1x256x2048 .bf16) (r : Fin 512) (d : Fin 2048) :
    k0_pay3 (F := Ideal) t w u acc wd (ix2 r d)
      = acc (ix2 r d) + ∑ l : Fin 256, gated (fun k => t (ix2 r k)) (fun k => w (ix3 0 k l)) (fun k => u (ix3 0 k l)) * wd (ix3 0 l d) := by
  pointwise [k0_pay3]
  unfold gated
  rfl

/-- What an unused tile's block is filled with. -/
theorem pay4_apply (i : S512x2048.Idx) : k0_pay4 (F := Ideal) i = (0 : EReal) := by
  pointwise [k0_pay4]

variable (V : (c : Dev nD) → (b : Ref sig .tc) → Buf (Elt Ideal) ((c : Thread nD τ).loc b)) {T : pre0.Contents (Elt Ideal)} {n : ℕ} {x : ℕ → ℕ}

/-- Where a point's blocks lie. -/
def corner0 (hO : Ok T) (t : Fin (cfgM hO).N) : Fin 2 → ℕ := ((cfgM hO).win 0).index t
def corner1 (hO : Ok T) (t : Fin (cfgM hO).N) : Fin 2 → ℕ := ((cfgM hO).win 1).index t
def corner2 (hO : Ok T) (t : Fin (cfgM hO).N) : Fin 3 → ℕ := ((cfgM hO).win 2).index t
def corner3 (hO : Ok T) (t : Fin (cfgM hO).N) : Fin 3 → ℕ := ((cfgM hO).win 3).index t
def corner4 (hO : Ok T) (t : Fin (cfgM hO).N) : Fin 3 → ℕ := ((cfgM hO).win 4).index t
def corner5 (hO : Ok T) (t : Fin (cfgM hO).N) : Fin 2 → ℕ := ((cfgM hO).win 5).index t

theorem index0 (h : Says T n x) (hO : Ok T) (t : Fin (cfgM hO).N) : corner0 hO t = ![min (t.val / 11) (n - 1), 0] := by
  have e := map0 h (grid0.coords t); rw [coords0] at e; exact e
theorem index1 (hO : Ok T) (t : Fin (cfgM hO).N) : corner1 hO t = ![0, 0] := rfl
theorem index2 (h : Says T n x) (hO : Ok T) (t : Fin (cfgM hO).N) : corner2 hO t = ![x (t.val / 11), 0, if t.val / 11 < n then t.val % 11 else 10] := by
  have e := map2 h (grid0.coords t); rw [coords0, coords1] at e; exact e
theorem index3 (h : Says T n x) (hO : Ok T) (t : Fin (cfgM hO).N) : corner3 hO t = ![x (t.val / 11), 0, if t.val / 11 < n then t.val % 11 else 10] := by
  have e := map3 h (grid0.coords t); rw [coords0, coords1] at e; exact e
theorem index4 (h : Says T n x) (hO : Ok T) (t : Fin (cfgM hO).N) : corner4 hO t = ![x (t.val / 11), if t.val / 11 < n then t.val % 11 else 10, 0] := by
  have e := map4 h (grid0.coords t); rw [coords0, coords1] at e; exact e
theorem index5 (hO : Ok T) (t : Fin (cfgM hO).N) : corner5 hO t = ![t.val / 11, 0] := by
  have e : cc0_transform_5 (grid0.coords t) = ![(grid0.coords t 0).val, 0] := by
    have h0 := lt72 (grid0.coords t)
    show ![(BitVec.ofNat 32 (grid0.coords t 0).val).toNat, (0#32).toNat] = _
    rw [BitVec.toNat_ofNat, Nat.mod_eq_of_lt (by omega)]
    rfl
  rw [coords0] at e; exact e

/-- An element of the block of rows. -/
theorem blk0 (h : Says T n x) (hO : Ok T) (c : Dev nD) (t : Fin (cfgM hO).N) (ht : t.val / 11 < n) (r : Fin 512) (k : Fin 2048) (R : Fin 36864) (hR : R.val = 512 * (t.val / 11) + r.val) :
    (iblk V hO c 0 t : S512x2048.Idx → EReal) (ix2 r k) = (V c main_arg0 : S36864x2048.Idx → EReal) (ix2 R k) := by
  unfold iblk
  refine (View.read_apply ..).trans ?_
  show V c main_arg0 _ = _
  refine congrArg (V c main_arg0) (funext fun a => Fin.ext ?_)
  have e := index0 h hO t
  match a with
  | ⟨0, _⟩ => show corner0 hO t 0 * 512 + 1 * r.val = R.val; rw [e]; show min (t.val / 11) (n - 1) * 512 + 1 * r.val = R.val; omega
  | ⟨1, _⟩ => show corner0 hO t 1 * 2048 + 1 * k.val = k.val; rw [e]; show 0 * 2048 + 1 * k.val = k.val; omega

/-- An element of the gain. -/
theorem blk1 (hO : Ok T) (c : Dev nD) (t : Fin (cfgM hO).N) (k : Fin 2048) :
    (iblk V hO c 1 t : S1x2048.Idx → EReal) (ix2 0 k) = (V c main_v58 : S1x2048.Idx → EReal) (ix2 0 k) := by
  unfold iblk
  refine (View.read_apply ..).trans ?_
  show V c main_v58 _ = _
  refine congrArg (V c main_v58) (funext fun a => Fin.ext ?_)
  match a with
  | ⟨0, _⟩ => show 0 * 1 + 1 * 0 = 0; omega
  | ⟨1, _⟩ => show 0 * 2048 + 1 * k.val = k.val; omega

/-- An element of the gate's block. -/
theorem blk2 (h : Says T n x) (hO : Ok T) (c : Dev nD) (t : Fin (cfgM hO).N) (ht : t.val / 11 < n) (k : Fin 2048) (l : Fin 256) (e : Fin 8) (he : e.val = x (t.val / 11)) (f : Fin 2816) (hf : f.val = 256 * (t.val % 11) + l.val) :
    (iblk V hO c 2 t : S1x2048x256.Idx → EReal) (ix3 0 k l) = (V c main_v55 : S8x2048x2816.Idx → EReal) (ix3 e k f) := by
  unfold iblk
  refine (View.read_apply ..).trans ?_
  show V c main_v55 _ = _
  refine congrArg (V c main_v55) (funext fun a => Fin.ext ?_)
  have q := index2 h hO t
  rw [if_pos ht] at q
  match a with
  | ⟨0, _⟩ => show corner2 hO t 0 * 1 + 1 * 0 = e.val; rw [q]; show x (t.val / 11) * 1 + 1 * 0 = e.val; omega
  | ⟨1, _⟩ => show corner2 hO t 1 * 2048 + 1 * k.val = k.val; rw [q]; show 0 * 2048 + 1 * k.val = k.val; omega
  | ⟨2, _⟩ => show corner2 hO t 2 * 256 + 1 * l.val = f.val; rw [q]; show t.val % 11 * 256 + 1 * l.val = f.val; omega

/-- An element of the up weights' block. -/
theorem blk3 (h : Says T n x) (hO : Ok T) (c : Dev nD) (t : Fin (cfgM hO).N) (ht : t.val / 11 < n) (k : Fin 2048) (l : Fin 256) (e : Fin 8) (he : e.val = x (t.val / 11)) (f : Fin 2816) (hf : f.val = 256 * (t.val % 11) + l.val) :
    (iblk V hO c 3 t : S1x2048x256.Idx → EReal) (ix3 0 k l) = (V c main_v56 : S8x2048x2816.Idx → EReal) (ix3 e k f) := by
  unfold iblk
  refine (View.read_apply ..).trans ?_
  show V c main_v56 _ = _
  refine congrArg (V c main_v56) (funext fun a => Fin.ext ?_)
  have q := index3 h hO t
  rw [if_pos ht] at q
  match a with
  | ⟨0, _⟩ => show corner3 hO t 0 * 1 + 1 * 0 = e.val; rw [q]; show x (t.val / 11) * 1 + 1 * 0 = e.val; omega
  | ⟨1, _⟩ => show corner3 hO t 1 * 2048 + 1 * k.val = k.val; rw [q]; show 0 * 2048 + 1 * k.val = k.val; omega
  | ⟨2, _⟩ => show corner3 hO t 2 * 256 + 1 * l.val = f.val; rw [q]; show t.val % 11 * 256 + 1 * l.val = f.val; omega

/-- An element of the down weights' block. -/
theorem blk4 (h : Says T n x) (hO : Ok T) (c : Dev nD) (t : Fin (cfgM hO).N) (ht : t.val / 11 < n) (l : Fin 256) (d : Fin 2048) (e : Fin 8) (he : e.val = x (t.val / 11)) (f : Fin 2816) (hf : f.val = 256 * (t.val % 11) + l.val) :
    (iblk V hO c 4 t : S1x256x2048.Idx → EReal) (ix3 0 l d) = (V c main_v57 : S8x2816x2048.Idx → EReal) (ix3 e f d) := by
  unfold iblk
  refine (View.read_apply ..).trans ?_
  show V c main_v57 _ = _
  refine congrArg (V c main_v57) (funext fun a => Fin.ext ?_)
  have q := index4 h hO t
  rw [if_pos ht] at q
  match a with
  | ⟨0, _⟩ => show corner4 hO t 0 * 1 + 1 * 0 = e.val; rw [q]; show x (t.val / 11) * 1 + 1 * 0 = e.val; omega
  | ⟨1, _⟩ => show corner4 hO t 1 * 256 + 1 * l.val = f.val; rw [q]; show t.val % 11 * 256 + 1 * l.val = f.val; omega
  | ⟨2, _⟩ => show corner4 hO t 2 * 2048 + 1 * d.val = d.val; rw [q]; show 0 * 2048 + 1 * d.val = d.val; omega

variable (c : Dev nD)

/-- The norm of a row. -/
def normed (R : Fin 36864) : Fin 2048 → EReal :=
  rmsRow (fun k => (V c main_arg0 : S36864x2048.Idx → EReal) (ix2 R k)) (fun k => (V c main_v58 : S1x2048.Idx → EReal) (ix2 0 k))

/-- One inner column's part of the product with an expert's weights. -/
def part (e : Fin 8) (R : Fin 36864) (d : Fin 2048) (f : ℕ) : EReal :=
  if h : f < 2816 then
    gated (normed V c R) (fun k => (V c main_v55 : S8x2048x2816.Idx → EReal) (ix3 e k ⟨f, h⟩)) (fun k => (V c main_v56 : S8x2048x2816.Idx → EReal) (ix3 e k ⟨f, h⟩))
      * (V c main_v57 : S8x2816x2048.Idx → EReal) (ix3 e ⟨f, h⟩ d)
  else 0

theorem norm_blk (h : Says T n x) (hO : Ok T) (t : Fin (cfgM hO).N) (ht : t.val / 11 < n) (r : Fin 512) (d : Fin 2048) (R : Fin 36864) (hR : R.val = 512 * (t.val / 11) + r.val) :
    k0_pay1 (F := Ideal) (iblk V hO c 0 t) (iblk V hO c 1 t) (ix2 r d) = normed V c R d := by
  refine (pay1_apply _ _ r d).trans ?_
  exact congrArg₂ (rmsRow · · d) (funext fun k => blk0 V h hO c t ht r k R hR) (funext fun k => blk1 V hO c t k)

/-- A block of inner columns added to an accumulator. -/
theorem step_gen (e : Fin 8) (j : ℕ) (hj : j < 11) (S : Vec Ideal S512x2048 .bf16) (w u : Vec Ideal S1x2048x256 .bf16) (acc : Vec Ideal S512x2048 .f32) (wd : Vec Ideal S1x256x2048 .bf16) (r : Fin 512) (d : Fin 2048) (R : Fin 36864)
    (hT : ∀ k, S (ix2 r k) = normed V c R k)
    (hw : ∀ (k : Fin 2048) (l : Fin 256) (f : Fin 2816), f.val = 256 * j + l.val → w (ix3 0 k l) = (V c main_v55 : S8x2048x2816.Idx → EReal) (ix3 e k f))
    (hu : ∀ (k : Fin 2048) (l : Fin 256) (f : Fin 2816), f.val = 256 * j + l.val → u (ix3 0 k l) = (V c main_v56 : S8x2048x2816.Idx → EReal) (ix3 e k f))
    (hd : ∀ (l : Fin 256) (d : Fin 2048) (f : Fin 2816), f.val = 256 * j + l.val → wd (ix3 0 l d) = (V c main_v57 : S8x2816x2048.Idx → EReal) (ix3 e f d)) :
    k0_pay3 (F := Ideal) S w u acc wd (ix2 r d) = acc (ix2 r d) + ∑ l ∈ Finset.range 256, part V c e R d (256 * j + l) := by
  rw [pay3_apply, Finset.sum_range]
  refine congrArg (acc (ix2 r d) + ·) (Finset.sum_congr rfl fun l _ => ?_)
  have hf : 256 * j + l.val < 2816 := by omega
  unfold part
  rw [dif_pos hf, hd l d ⟨_, hf⟩ rfl, show (fun k => S (ix2 r k)) = normed V c R from funext hT,
    show (fun k => w (ix3 0 k l)) = fun k => (V c main_v55 : S8x2048x2816.Idx → EReal) (ix3 e k ⟨_, hf⟩) from funext fun k => hw k l ⟨_, hf⟩ rfl,
    show (fun k => u (ix3 0 k l)) = fun k => (V c main_v56 : S8x2048x2816.Idx → EReal) (ix3 e k ⟨_, hf⟩) from funext fun k => hu k l ⟨_, hf⟩ rfl]

/-- The same at a point of a used tile. -/
theorem step (h : Says T n x) (hO : Ok T) (t : Fin (cfgM hO).N) (ht : t.val / 11 < n) (e : Fin 8) (he : e.val = x (t.val / 11)) (S : Vec Ideal S512x2048 .bf16) (acc : Vec Ideal S512x2048 .f32) (r : Fin 512) (d : Fin 2048) (R : Fin 36864)
    (hT : ∀ k, S (ix2 r k) = normed V c R k) :
    k0_pay3 (F := Ideal) S (iblk V hO c 2 t) (iblk V hO c 3 t) acc (iblk V hO c 4 t) (ix2 r d)
      = acc (ix2 r d) + ∑ l ∈ Finset.range 256, part V c e R d (256 * (t.val % 11) + l) :=
  step_gen V c e (t.val % 11) (Nat.mod_lt _ (by omega)) S _ _ acc _ r d R hT (fun k l f hf => blk2 V h hO c t ht k l e he f hf) (fun k l f hf => blk3 V h hO c t ht k l e he f hf)
    (fun l d f hf => blk4 V h hO c t ht l d e he f hf)

/-- What the scratch holds after a point of a used tile: the rows' norm, and the product over the inner columns so far. -/
theorem scratch (h : Says T n x) (hO : Ok T) (p : ℕ) (hp : p < (cfgM hO).N) (ht : p / 11 < n) (e : Fin 8) (he : e.val = x (p / 11)) (r : Fin 512) (R : Fin 36864) (hR : R.val = 512 * (p / 11) + r.val) :
    (∀ d : Fin 2048, (st V hO c p hp).1 (ix2 r d) = normed V c R d)
    ∧ ∀ d : Fin 2048, (st V hO c p hp).2 (ix2 r d) = ∑ j ∈ Finset.range (p % 11 + 1), ∑ l ∈ Finset.range 256, part V c e R d (256 * j + l) := by
  have first : ∀ (p : ℕ) (hp : p < (cfgM hO).N), p / 11 < n → e.val = x (p / 11) → R.val = 512 * (p / 11) + r.val → p % 11 = 0 →
      (∀ d : Fin 2048, (st V hO c p hp).1 (ix2 r d) = normed V c R d)
      ∧ ∀ d : Fin 2048, (st V hO c p hp).2 (ix2 r d) = ∑ j ∈ Finset.range (p % 11 + 1), ∑ l ∈ Finset.range 256, part V c e R d (256 * j + l) := by
    intro p hp ht he hR h0
    rw [st_start V hO c p hp h0]
    unfold start
    dsimp only
    refine ⟨fun d => norm_blk V c h hO ⟨p, hp⟩ ht r d R hR, fun d => ?_⟩
    rw [step V c h hO ⟨p, hp⟩ ht e he _ _ r d R fun k => norm_blk V c h hO ⟨p, hp⟩ ht r k R hR, pay2_apply, zero_add, h0, Finset.sum_range_one]
  induction p with
  | zero => exact first 0 hp ht he hR rfl
  | succ p ih =>
    by_cases h0 : (p + 1) % 11 = 0
    · exact first (p + 1) hp ht he hR h0
    · have e1 : (p + 1) / 11 = p / 11 := by omega
      have e2 : (p + 1) % 11 = p % 11 + 1 := by omega
      obtain ⟨i1, i2⟩ := ih (Nat.lt_of_succ_lt hp) (by omega) (by rw [← e1]; exact he) (by omega)
      rw [st_next V hO c p hp h0]
      unfold next
      dsimp only
      refine ⟨i1, fun d => ?_⟩
      refine (step V c h hO ⟨p + 1, hp⟩ ht e he _ _ r d R i1).trans ?_
      rw [i2 d, e2, Finset.sum_range_succ _ (p % 11 + 1)]

/-- The array the call leaves, index by index. -/
def filled (n : ℕ) (x : ℕ → ℕ) (i : S36864x2048.Idx) : EReal :=
  if (i 0).val / 512 < n then ∑ f ∈ Finset.range 2816, part V c (Fin.ofNat 8 (x ((i 0).val / 512))) (i 0) (i 1) f else 0

theorem flushes : ∀ b : Fin 72, Pipeline.Window.flushOf grid0 true cc0_transform_5 ⟨11 * b.val + 10, by have := b.isLt; show _ < 792; omega⟩ = true := by
  decide +kernel

/-- Where an element of a point's output block lies in the array. -/
def cell5 (hO : Ok T) (t : Fin (cfgM hO).N) (y : S512x2048.Idx) : S36864x2048.Idx := (((cfgM hO).win 5).blk t).view.emb y
def inner5 (hO : Ok T) (t : Fin (cfgM hO).N) (y : S512x2048.Idx) : S512x2048.Idx := ((cfgM hO).win 5).xinj (grid0.coords t) y
theorem cell5_0 (hO : Ok T) (t : Fin (cfgM hO).N) (y : S512x2048.Idx) : (cell5 hO t y 0).val = t.val / 11 * 512 + 1 * (y 0).val := by
  show corner5 hO t 0 * 512 + 1 * (y 0).val = _
  rw [index5]; rfl
theorem cell5_1 (hO : Ok T) (t : Fin (cfgM hO).N) (y : S512x2048.Idx) : (cell5 hO t y 1).val = 0 * 2048 + 1 * (y 1).val := by
  show corner5 hO t 1 * 2048 + 1 * (y 1).val = _
  rw [index5]; rfl

/-- Every element lies in the block some tile's last point writes. -/
theorem covered (hO : Ok T) (i : S36864x2048.Idx) : ∃ t : Fin (cfgM hO).N, ((cfgM hO).win 5).flush t = true ∧ i ∈ (((cfgM hO).win 5).blk t).view.set := by
  have hi0 : (i 0).val < 36864 := (i 0).isLt
  have hi1 : (i 1).val < 2048 := (i 1).isLt
  have hb : (i 0).val / 512 < 72 := by omega
  have ht : 11 * ((i 0).val / 512) + 10 < 792 := by omega
  refine ⟨⟨11 * ((i 0).val / 512) + 10, ht⟩, flushes ⟨_, hb⟩, ?_⟩
  have e : cell5 hO ⟨11 * ((i 0).val / 512) + 10, ht⟩ (ix2 (⟨(i 0).val % 512, by omega⟩ : Fin 512) (⟨(i 1).val, hi1⟩ : Fin 2048)) = i := by
    funext a
    match a with
    | ⟨0, _⟩ => exact Fin.ext ((cell5_0 hO _ _).trans (by show (11 * ((i 0).val / 512) + 10) / 11 * 512 + 1 * ((i 0).val % 512) = (i 0).val; omega))
    | ⟨1, _⟩ => exact Fin.ext ((cell5_1 hO _ _).trans (by show 0 * 2048 + 1 * (i 1).val = (i 1).val; omega))
  have hm := (((cfgM hO).win 5).blk ⟨11 * ((i 0).val / 512) + 10, ht⟩).view.emb_mem_set (ix2 (⟨(i 0).val % 512, by omega⟩ : Fin 512) (⟨(i 1).val, hi1⟩ : Fin 2048))
  exact Eq.mp (congrArg (· ∈ (((cfgM hO).win 5).blk ⟨11 * ((i 0).val / 512) + 10, ht⟩).view.set) e) hm

/-- What the call leaves. -/
theorem array_eq (h : Says T n x) (hO : Ok T) : (dats V hO 0 c).arrAt 5 (cfgM hO).N = filled V c n x := by
  refine (dats V hO 0 c).arrAt_eq_of_cover 5 _ (fun t hf => ?_) (fun i => ?_)
  · have hm : t.val % 11 = 10 := by
      by_contra hne
      have := noFlush t hne
      exact absurd (hf.symm.trans this) (by decide)
    have ht : t.val < 792 := t.isLt
    have hb : t.val / 11 < 72 := by omega
    show ((cfgM hO).win 5).cut (grid0.coords t) ((dats V hO 0 c).after 5 t) = _
    rw [after5]
    refine funext (?_ : ∀ y : S512x2048.Idx, _)
    intro y
    have hy0 : (y 0).val < 512 := (y 0).isLt
    have hy1 : (y 1).val < 2048 := (y 1).isLt
    have h0 := cell5_0 hO t y
    have h1 := cell5_1 hO t y
    show (if On T t.val then (st V hO c t.val t.isLt).2 else k0_pay4 (F := Ideal)) (inner5 hO t y) = filled V c n x (cell5 hO t y)
    rw [show inner5 hO t y = ix2 (⟨(y 0).val, hy0⟩ : Fin 512) (⟨(y 1).val, hy1⟩ : Fin 2048) from funext fun a => match a with | ⟨0, _⟩ => rfl | ⟨1, _⟩ => rfl]
    have hq : (cell5 hO t y 0).val / 512 = t.val / 11 := by rw [h0]; omega
    unfold filled
    rw [hq]
    by_cases hl : t.val / 11 < n
    · rw [if_pos ((live_iff h hb).mpr hl), if_pos hl]
      have hx := h.owner_le (t.val / 11)
      rw [(scratch V c h hO t.val t.isLt hl (Fin.ofNat 8 (x (t.val / 11))) (Nat.mod_eq_of_lt (by omega)) ⟨(y 0).val, hy0⟩ (cell5 hO t y 0) (by rw [h0]; dsimp only; omega)).2 ⟨(y 1).val, hy1⟩,
        hm, sum_blocks 11 256]
      refine Finset.sum_congr rfl fun f _ => congrArg (fun d => part V c _ _ d f) (Fin.ext ?_)
      rw [h1]; dsimp only; omega
    · rw [if_neg (fun hh => hl ((live_iff h hb).mp hh)), if_neg hl]
      exact pay4_apply _
  · exact covered hO i

end Cert.Kernel2Ideal.Experts

end
-- ==== Proof.Sections.lean ====
/- The expert layer's reference at an index: which section a row lies in, and the row through its section's expert. -/
module

public import proofs.«01_k».proof.Proof.Expert
public import proofs.«01_k».proof.Proof.Count
public import proofs.«01_k».proof.Proof.Gen.Reference2Ideal.Read
public import Idealize.ShloMosaic.Lib.Routing.Ops
public import Idealize.ShloMosaic.Lib.Routing.OpsOne
public import Idealize.ShloMosaic.Lib.Routing.Model
public import Idealize.ShloMosaic.Lib.Routing.Words
public import Idealize.ShloMosaic.Lib.Routing.BitFacts
public import Idealize.ShloMosaic.Lib.Pointwise

@[expose] public section

set_option maxRecDepth 16384

noncomputable section

namespace Cert.Reference2Ideal.Experts

open Cert.Reference2Ideal Cert.Reference2Ideal.Gen Cert.Reference2Ideal.Read Cert.Expert Cert.Groups
open Idealize.ShloMosaic Idealize.ShloMosaic.TcCoe Idealize.ShloMosaic.Tactic Idealize.SL.Sem

attribute [local irreducible] Host.reduceWindow

variable (e : S16384x2.Idx → BitVec 32)

/-- A sum of words is the word of the sum. -/
theorem fold_words {ι : Type} [DecidableEq ι] (s : Finset ι) (f : ι → ℕ) :
    s.fold IntOp.addi (BitVec.ofNat 32 0) (fun k => BitVec.ofNat 32 (f k)) = BitVec.ofNat 32 (∑ k ∈ s, f k) := by
  induction s using Finset.induction_on with
  | empty => rfl
  | insert a s ha ih =>
    rw [Finset.fold_insert ha, ih, Finset.sum_insert ha]
    show BitVec.ofNat 32 _ + BitVec.ofNat 32 _ = _
    rw [BitVec.ofNat_add_ofNat]

theorem chosen_at (k : Fin 32768) (c : Fin 8) : val_main_v6 (F := Ideal) e (ix2 k c) = BitVec.ofNat 32 (slot e k.val c.val) := by
  have h1 : val_main_v3 (F := Ideal) e (ix2 k c) = Groups.named e k.val k.isLt := by
    rw [val_main_v3_apply, val_main_v0_apply]
    unfold Groups.named
    refine congrArg e (funext fun a => Fin.ext ?_)
    match a with
    | ⟨0, _⟩ => show (k.val * 1 + 0) / 2 = k.val / 2; omega
    | ⟨1, _⟩ => show (k.val * 1 + 0) % 2 = k.val % 2; omega
  have h2 : val_main_v4 (F := Ideal) (ix2 k c) = BitVec.ofNat 32 c.val := by
    rw [val_main_v4_apply, val_main_v2_apply, val_main_v1_apply]; rfl
  rw [val_main_v6_apply, val_main_v5_apply, h1, h2]
  unfold slot
  rw [dif_pos k.isLt]
  by_cases h : Groups.named e k.val k.isLt = BitVec.ofNat 32 c.val
  · rw [if_pos h, h]; simp [IntOp.cmpi]
  · rw [if_neg h]; simp [IntOp.cmpi, beq_eq_false_iff_ne.mpr h]

theorem count_at (c : Fin 8) : val_main_v7 (F := Ideal) e (ix1 c) = BitVec.ofNat 32 (cnt e c.val) := by
  unfold val_main_v7
  rw [Host.reduce_eq_fold]
  refine (Shape.ReducesTo.fold_fiber_r2_a0 reducesTo_S32768x8_S8_d0 (ix1 c) IntOp.addi (val_main_c (F := Ideal) (Shape.Idx.first h_S_)) (val_main_v6 (F := Ideal) e)).trans ?_
  have h : (fun k : Fin 32768 => val_main_v6 (F := Ideal) e (ix2 k c)) = fun k => BitVec.ofNat 32 (slot e k.val c.val) := funext fun k => chosen_at e k c
  refine (congrArg (Finset.fold IntOp.addi (BitVec.ofNat 32 0) · Finset.univ) h).trans ?_
  rw [fold_words]
  unfold cnt
  rw [Finset.sum_range]

theorem div_at : val_main_v10 (F := Ideal) e = Routing.pyDiv bcast_S_S8 (val_main_v9 (F := Ideal) e) (constantI S_ 32 512#32) := rfl

theorem size_at (c : Fin 8) : val_main_v12 (F := Ideal) e (ix1 c) = BitVec.ofNat 32 (Groups.pad e c.val) := by
  have hc := cnt_le e c.val
  have h9 : val_main_v9 (F := Ideal) e (ix1 c) = BitVec.ofNat 32 (cnt e c.val + 511) := by
    rw [val_main_v9_apply, count_at, val_main_v8_apply, val_main_c_0_apply]
    show BitVec.ofNat 32 _ + BitVec.ofNat 32 511 = _
    rw [BitVec.ofNat_add_ofNat]
  have h1 := Routing.pyDiv_ap bcast_S_S8 (val_main_v9 (F := Ideal) e) (constantI S_ 32 512#32) (ix1 c) (b := 512) h9 rfl (by omega) (by omega) (by omega)
  rw [val_main_v12_apply, div_at, h1, val_main_v11_apply, val_main_c_2_apply]
  show BitVec.ofNat 32 _ * BitVec.ofNat 32 512 = _
  rw [BitVec.ofNat_mul_ofNat]; rfl

theorem end_at (c : Fin 8) : val_main_v13 (F := Ideal) e (ix1 c) = BitVec.ofNat 32 (ends e c.val) := by
  unfold val_main_v13
  refine (Routing.cumsum1 (N := 8) (Nm1 := 7) rfl _ (Groups.pad e) (size_at e) _ rfl _ _ c).trans ?_
  rw [list_sum]; rfl

/-- A row lies in an expert's section. -/
theorem mine_at (R : Fin 36864) (c : Fin 8) : val_main_v25 (F := Ideal) e (ix2 R c) = 1#1 ↔ (R.val / 512 < tiles e ∧ own e (R.val / 512) = c.val) := by
  rw [← mem_iff e c.isLt]
  have hl := ends_le e c.isLt
  have hp : Groups.pad e c.val ≤ ends e c.val := Finset.single_le_sum (f := Groups.pad e) (fun _ _ => Nat.zero_le _) (Finset.mem_range.mpr (Nat.lt_succ_self _))
  have hR := R.isLt
  have h18 : val_main_v18 (F := Ideal) e (ix2 R c) = BitVec.ofNat 32 (ends e c.val - Groups.pad e c.val) := by
    rw [val_main_v18_apply, val_main_v17_apply, show idx_main_v17 (idx_main_v18 (ix2 R c)) = ix1 c from funext fun a => match a with | ⟨0, _⟩ => rfl, val_main_v16_apply, end_at, size_at]
    show BitVec.ofNat 32 _ - BitVec.ofNat 32 _ = _
    rw [Routing.ofNat32_sub hp]
  have h23 : val_main_v23 (F := Ideal) e (ix2 R c) = BitVec.ofNat 32 (ends e c.val) := by
    rw [val_main_v23_apply, val_main_v21_apply, show idx_main_v21 (idx_main_v23 (ix2 R c)) = ix1 c from funext fun a => match a with | ⟨0, _⟩ => rfl, end_at]
  have h19 : val_main_v19 (F := Ideal) (ix2 R c) = BitVec.ofNat 32 R.val := by
    rw [val_main_v19_apply, val_main_v15_apply, val_main_v14_apply]; rfl
  have h22 : val_main_v22 (F := Ideal) (ix2 R c) = BitVec.ofNat 32 R.val := by
    rw [val_main_v22_apply, val_main_v15_apply, val_main_v14_apply]; rfl
  rw [val_main_v25_apply, val_main_v20_apply, val_main_v24_apply, h18, h19, h22, h23]
  simp only [IntOp.cmpi]
  rw [Routing.sle_ofNat32 (by omega) (by omega), Routing.slt_ofNat32 (by omega) (by omega)]
  by_cases ha : ends e c.val - Groups.pad e c.val ≤ R.val <;> by_cases hb : R.val < ends e c.val <;> simp [ha, hb, IntOp.andi]

variable (x : S36864x2048.Idx → EReal) (g : S2048.Idx → EReal) (wg wu : S8x2048x2816.Idx → EReal) (wd : S8x2816x2048.Idx → EReal)

theorem idx27 (R : Fin 36864) (k : Fin 2048) : idx_main_v27 (ix1 R) k = ix2 R k := funext fun a => match a with | ⟨0, _⟩ => rfl | ⟨1, _⟩ => rfl
theorem idx34 (R : Fin 36864) (k : Fin 2048) : idx_main_v28 (idx_main_v34 (ix2 R k)) = ix1 R := funext fun a => match a with | ⟨0, _⟩ => rfl
theorem idx37 (R : Fin 36864) (k : Fin 2048) : idx_main_v36 (idx_main_v37 (ix2 R k)) = ix1 k := funext fun a => match a with | ⟨0, _⟩ => rfl
theorem lidx39 (c : Fin 8) (R : Fin 36864) (f : Fin 2816) (k : Fin 2048) : lidx_main_v39 (idx_main_v40 (ix3 c R f)) k = ix3 c k f := funext fun a => match a with | ⟨0, _⟩ => rfl | ⟨1, _⟩ => rfl | ⟨2, _⟩ => rfl
theorem ridx39 (c : Fin 8) (R : Fin 36864) (f : Fin 2816) (k : Fin 2048) : ridx_main_v39 (idx_main_v40 (ix3 c R f)) k = ix2 R k := funext fun a => match a with | ⟨0, _⟩ => rfl | ⟨1, _⟩ => rfl
theorem lidx41 (c : Fin 8) (R : Fin 36864) (f : Fin 2816) (k : Fin 2048) : lidx_main_v41 (idx_main_v42 (ix3 c R f)) k = ix3 c k f := funext fun a => match a with | ⟨0, _⟩ => rfl | ⟨1, _⟩ => rfl | ⟨2, _⟩ => rfl
theorem ridx41 (c : Fin 8) (R : Fin 36864) (f : Fin 2816) (k : Fin 2048) : ridx_main_v41 (idx_main_v42 (ix3 c R f)) k = ix2 R k := funext fun a => match a with | ⟨0, _⟩ => rfl | ⟨1, _⟩ => rfl
theorem lidx45 (c : Fin 8) (R : Fin 36864) (d : Fin 2048) (f : Fin 2816) : lidx_main_v45 (ix3 c R d) f = ix3 c R f := funext fun a => match a with | ⟨0, _⟩ => rfl | ⟨1, _⟩ => rfl | ⟨2, _⟩ => rfl
theorem ridx45 (c : Fin 8) (R : Fin 36864) (d : Fin 2048) (f : Fin 2816) : ridx_main_v45 (ix3 c R d) f = ix3 c f d := funext fun a => match a with | ⟨0, _⟩ => rfl | ⟨1, _⟩ => rfl | ⟨2, _⟩ => rfl
theorem idx49 (R : Fin 36864) (d : Fin 2048) (c : Fin 8) : idx_main_v49 (ix2 R d) c = ix3 c R d := funext fun a => match a with | ⟨0, _⟩ => rfl | ⟨1, _⟩ => rfl | ⟨2, _⟩ => rfl
theorem idx46 (R : Fin 36864) (d : Fin 2048) (c : Fin 8) : idx_main_v46 (idx_main_v47 (idx_main_call3_v1 (ix3 c R d))) = ix2 R c := funext fun a => match a with | ⟨0, _⟩ => rfl | ⟨1, _⟩ => rfl

/-- The literals zero and one. -/
theorem litZero : (FloatOps.ofBits .f32 0x00000000#32 : Ideal .f32) = (0 : EReal) := by
  show Ideal.ofBits .f32 0x00000000#32 = _
  simp [Ideal.ofBits, Ideal.ieee]
theorem litOne : Ideal.ofBits .f32 0x3F800000#32 = (1 : EReal) := by
  simp [Ideal.ofBits, Ideal.ieee, -EReal.coe_mul]; norm_num

/-- The rows' norm. -/
theorem v38_apply (R : Fin 36864) (d : Fin 2048) : val_main_v38 (F := Ideal) x g (ix2 R d) = rmsRow (fun k => x (ix2 R k)) (fun k => g (ix1 k)) d := by
  rw [val_main_v38_apply, val_main_v35_apply, val_main_v37_apply, val_main_v36_apply, idx37, val_main_v34_apply, val_main_v33_apply, val_main_v32_apply, val_main_v30_apply, val_main_v28_apply, idx34, val_main_v27_apply,
    val_main_v29_apply, val_main_cst_3_apply, val_main_v31_apply, val_main_cst_4_apply, val_main_cst_apply, litZero, zero_add]
  simp only [idx27, val_main_v26_apply]
  rfl

/-- The gated product of a row with an expert's weights. -/
theorem v44_apply (c : Fin 8) (R : Fin 36864) (f : Fin 2816) : val_main_v44 (F := Ideal) x g wg wu (ix3 c R f)
    = gated (rmsRow (fun k => x (ix2 R k)) fun k => g (ix1 k)) (fun k => wg (ix3 c k f)) (fun k => wu (ix3 c k f)) := by
  have h40 : val_main_v40 (F := Ideal) x g wg (ix3 c R f) = ∑ k, rmsRow (fun k => x (ix2 R k)) (fun k => g (ix1 k)) k * wg (ix3 c k f) := by
    rw [val_main_v40_apply, val_main_v39_apply]
    simp only [lidx39, ridx39, v38_apply]
    exact Finset.sum_congr rfl fun k _ => mul_comm _ _
  have h42 : val_main_v42 (F := Ideal) x g wu (ix3 c R f) = ∑ k, rmsRow (fun k => x (ix2 R k)) (fun k => g (ix1 k)) k * wu (ix3 c k f) := by
    rw [val_main_v42_apply, val_main_v41_apply]
    simp only [lidx41, ridx41, v38_apply]
    exact Finset.sum_congr rfl fun k _ => mul_comm _ _
  rw [val_main_v44_apply, val_main_v43_apply, h42, val_main_call2_v5_apply, val_main_call2_v4_apply, val_main_call2_cst_0_apply, val_main_call2_v3_apply, val_main_call2_v2_apply, val_main_call2_cst_apply,
    val_main_call2_v1_apply, val_main_call2_v0_apply, h40]
  unfold gated
  show _ * Ideal.div (Ideal.ofBits .f32 0x3F800000#32) (Ideal.ofBits .f32 0x3F800000#32 + Ideal.exp (-_)) * _ = _
  rw [litOne]
  rfl

/-- A row through an expert. -/
def through (c : Fin 8) (R : Fin 36864) (d : Fin 2048) : EReal :=
  ∑ f : Fin 2816, gated (rmsRow (fun k => x (ix2 R k)) fun k => g (ix1 k)) (fun k => wg (ix3 c k f)) (fun k => wu (ix3 c k f)) * wd (ix3 c f d)

/-- The reference's result at an index. -/
theorem ref_apply (R : Fin 36864) (d : Fin 2048) : val_main_v49 (F := Ideal) x e g wg wu wd (ix2 R d)
    = if R.val / 512 < tiles e then through x g wg wu wd (Fin.ofNat 8 (own e (R.val / 512))) R d else 0 := by
  rw [val_main_v49_apply, val_main_cst_6_apply, litZero, zero_add]
  have hY : ∀ c : Fin 8, val_main_v48 (F := Ideal) x e g wg wu wd (idx_main_v49 (ix2 R d) c)
      = if R.val / 512 < tiles e ∧ own e (R.val / 512) = c.val then through x g wg wu wd c R d else 0 := by
    intro c
    have h45 : val_main_v45 (F := Ideal) x g wg wu wd (ix3 c R d) = through x g wg wu wd c R d := by
      rw [val_main_v45_apply]
      simp only [lidx45, ridx45, v44_apply]
      rfl
    rw [idx49, val_main_v48_apply, val_main_call3_v1_apply, val_main_v47_apply, val_main_v46_apply, idx46, h45, val_main_call3_v2_apply, val_main_call3_v0_apply, val_main_cst_5_apply, litZero]
    unfold Scalar.select
    by_cases h : val_main_v25 (F := Ideal) e (ix2 R c) = 1#1
    · rw [if_pos ((mine_at e R c).mp h), h]; rfl
    · rw [if_neg (fun hh => h ((mine_at e R c).mpr hh))]
      exact if_neg h
  refine (Finset.sum_congr rfl fun c _ => hY c).trans ?_
  have ho := own_le e (R.val / 512)
  by_cases hb : R.val / 512 < tiles e
  · rw [if_pos hb, Finset.sum_eq_single (Fin.ofNat 8 (own e (R.val / 512)))]
    · exact if_pos ⟨hb, (Nat.mod_eq_of_lt (by omega)).symm⟩
    · intro c _ hc
      refine if_neg fun hh => hc (Fin.ext ?_)
      exact hh.2.symm.trans (Nat.mod_eq_of_lt (by omega)).symm
    · intro h; exact absurd (Finset.mem_univ _) h
  · rw [if_neg hb]
    exact Finset.sum_eq_zero fun c _ => if_neg fun hh => hb hh.1

end Cert.Reference2Ideal.Experts

end
-- ==== Proof.Settled.lean ====
/- The expert layer's array is its reference's result. -/
module

public import proofs.«01_k».proof.Proof.Routed
public import proofs.«01_k».proof.Proof.Filled
public import proofs.«01_k».proof.Proof.Sections

@[expose] public section

set_option maxRecDepth 16384

noncomputable section

namespace Cert.Kernel2Ideal.Experts

open Cert.Kernel2Ideal Cert.Kernel2Ideal.Gen Cert.Expert
open Idealize.ShloMosaic Idealize.ShloMosaic.TcCoe Idealize.ShloMosaic.Tactic Idealize.SL.Sem

section Host

variable {F : FTy → Type} [FloatOps F] (W : Valuation τ sig (Elt F))

theorem k10_arg2 : StableHlo.after hostOps0_10 W (Proc.devRef .tc main_arg2) = W (Proc.devRef .tc main_arg2) := by
  after_results
theorem k10_arg3 : StableHlo.after hostOps0_10 W (Proc.devRef .tc main_arg3) = W (Proc.devRef .tc main_arg3) := by
  after_results
theorem k10_arg4 : StableHlo.after hostOps0_10 W (Proc.devRef .tc main_arg4) = W (Proc.devRef .tc main_arg4) := by
  after_results
theorem k10_arg5 : StableHlo.after hostOps0_10 W (Proc.devRef .tc main_arg5) = W (Proc.devRef .tc main_arg5) := by
  after_results

theorem host_v55 : StableHlo.after prefixes.flatten W (Proc.devRef .tc main_v55) = truncf .bf16 (StableHlo.after prefixes.flatten W (Proc.devRef .tc main_arg3)) bitsLt_bf16_f32 := by
  rw [stretches, s10_v55, k10_arg3]
theorem host_v56 : StableHlo.after prefixes.flatten W (Proc.devRef .tc main_v56) = truncf .bf16 (StableHlo.after prefixes.flatten W (Proc.devRef .tc main_arg4)) bitsLt_bf16_f32 := by
  rw [stretches, s10_v56, k10_arg4]
theorem host_v57 : StableHlo.after prefixes.flatten W (Proc.devRef .tc main_v57) = truncf .bf16 (StableHlo.after prefixes.flatten W (Proc.devRef .tc main_arg5)) bitsLt_bf16_f32 := by
  rw [stretches, s10_v57, k10_arg5]
theorem host_v58 : StableHlo.after prefixes.flatten W (Proc.devRef .tc main_v58) = shapeCast S1x2048 (StableHlo.after prefixes.flatten W (Proc.devRef .tc main_arg2)) shapeCasts_S2048_S1x2048 := by
  rw [stretches, s10_v58, k10_arg2]

end Host

variable (m : (ℓ : Loc nD τ sig) → Buf (Elt Ideal) ℓ) (c : Dev nD)

/-- The arguments. -/
def argX : S36864x2048.Idx → EReal := m ((c : Thread nD τ).loc main_arg0)
def argG : S2048.Idx → EReal := m ((c : Thread nD τ).loc main_arg2)
def argWg : S8x2048x2816.Idx → EReal := m ((c : Thread nD τ).loc main_arg3)
def argWu : S8x2048x2816.Idx → EReal := m ((c : Thread nD τ).loc main_arg4)
def argWd : S8x2816x2048.Idx → EReal := m ((c : Thread nD τ).loc main_arg5)

theorem enters_x : (V m c main_arg0 : S36864x2048.Idx → EReal) = argX m c := V_arg0 m c
theorem enters_wg : (V m c main_v55 : S8x2048x2816.Idx → EReal) = argWg m c :=
  (host_v55 (fun b => m (c, b))).trans (congrArg (fun z : S8x2048x2816.Idx → EReal => (truncf (F := Ideal) .bf16 z bitsLt_bf16_f32 : S8x2048x2816.Idx → EReal)) (V_arg3 m c))
theorem enters_wu : (V m c main_v56 : S8x2048x2816.Idx → EReal) = argWu m c :=
  (host_v56 (fun b => m (c, b))).trans (congrArg (fun z : S8x2048x2816.Idx → EReal => (truncf (F := Ideal) .bf16 z bitsLt_bf16_f32 : S8x2048x2816.Idx → EReal)) (V_arg4 m c))
theorem enters_wd : (V m c main_v57 : S8x2816x2048.Idx → EReal) = argWd m c :=
  (host_v57 (fun b => m (c, b))).trans (congrArg (fun z : S8x2816x2048.Idx → EReal => (truncf (F := Ideal) .bf16 z bitsLt_bf16_f32 : S8x2816x2048.Idx → EReal)) (V_arg5 m c))

theorem oneRow (x : S2048.Idx → EReal) (k : Fin 2048) : shapeCast S1x2048 x shapeCasts_S2048_S1x2048 (ix2 0 k) = x (ix1 k) := by
  refine shapeCast_apply _ _ _ _ ?_
  rw [rowMajor_val1, rowMajor_val2 _ 2048 rfl]
  show k.val = 0 * 2048 + k.val
  omega

theorem enters_g (k : Fin 2048) : (V m c main_v58 : S1x2048.Idx → EReal) (ix2 0 k) = argG m c (ix1 k) :=
  (congrFun ((host_v58 (fun b => m (c, b))).trans (congrArg (fun z : S2048.Idx → EReal => shapeCast S1x2048 z shapeCasts_S2048_S1x2048) (V_arg2 m c))) (ix2 0 k)).trans (oneRow _ k)

section Abstract

variable (U : (c : Dev nD) → (b : Ref sig .tc) → Buf (Elt Ideal) ((c : Thread nD τ).loc b))
  (x : S36864x2048.Idx → EReal) (g : S2048.Idx → EReal) (wg wu : S8x2048x2816.Idx → EReal) (wd : S8x2816x2048.Idx → EReal)

/-- A row through the expert its block is given. -/
theorem filled_of (h0 : (U c main_arg0 : S36864x2048.Idx → EReal) = x) (h1 : ∀ k, (U c main_v58 : S1x2048.Idx → EReal) (ix2 0 k) = g (ix1 k)) (h2 : (U c main_v55 : S8x2048x2816.Idx → EReal) = wg)
    (h3 : (U c main_v56 : S8x2048x2816.Idx → EReal) = wu) (h4 : (U c main_v57 : S8x2816x2048.Idx → EReal) = wd) (n : ℕ) (o : ℕ → ℕ) (R : Fin 36864) (d : Fin 2048) :
    filled U c n o (ix2 R d) = if R.val / 512 < n then Cert.Reference2Ideal.Experts.through x g wg wu wd (Fin.ofNat 8 (o (R.val / 512))) R d else 0 := by
  show (if R.val / 512 < n then ∑ f ∈ Finset.range 2816, part U c (Fin.ofNat 8 (o (R.val / 512))) R d f else 0) = _
  have hn : normed U c R = rmsRow (fun k => x (ix2 R k)) fun k => g (ix1 k) := by
    unfold normed; rw [h0, funext h1]
  congr 1
  rw [Finset.sum_range]
  refine Finset.sum_congr rfl fun f _ => ?_
  unfold part
  rw [dif_pos f.isLt, hn, h2, h3, h4]

end Abstract

/-- The kernel's array is the reference's result. -/
theorem result_eq : (dats (V m) (ok m) 0 c).arrAt 5 (cfgM (ok m)).N
    = Cert.Reference2Ideal.Read.val_main_v49 (F := Ideal) (argX m c) (slots m) (argG m c) (argWg m c) (argWu m c) (argWd m c) := by
  refine (array_eq (V m) c (tables_say m) (ok m)).trans ?_
  funext j
  obtain ⟨R, d, rfl⟩ : ∃ (R : Fin 36864) (d : Fin 2048), j = ix2 R d := ⟨j 0, j 1, funext fun a => match a with | ⟨0, _⟩ => rfl | ⟨1, _⟩ => rfl⟩
  refine (filled_of c (V m) _ _ _ _ _ (enters_x m c) (enters_g m c) (enters_wg m c) (enters_wu m c) (enters_wd m c) _ _ R d).trans
    (Eq.trans ?_ (Cert.Reference2Ideal.Experts.ref_apply (slots m) (argX m c) (argG m c) (argWg m c) (argWu m c) (argWd m c) R d).symm)
  by_cases hb : R.val / 512 < Groups.tiles (slots m)
  · rw [if_pos hb, if_pos hb]
    unfold Groups.expert
    rw [if_pos hb]
  · rw [if_neg hb, if_neg hb]

/-- The run: every core's result array holds the reference's result, and its arguments are unchanged. -/
theorem run_value (ρ : Dev nD → PrngReg) : θ_run defs (onTc (τ := τ) (main (F := Ideal))) ⟨m, fun _ => 0, ρ⟩ (fun r => ∀ c : Dev nD,
    r.2.mem ((c.tc : Thread nD τ).loc main_v59) = Cert.Reference2Ideal.Read.val_main_v49 (F := Ideal) (argX m c) (slots m) (argG m c) (argWg m c) (argWu m c) (argWd m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun r h c => ⟨((h.1 c).1 5).trans (result_eq m c), frame_args m (ok m) r h.1 c⟩) (run (V m) m ρ (ok m) (V_pre m) (enters m Variants.none))

end Cert.Kernel2Ideal.Experts

end
-- ==== Proof.Exact.lean ====
/- The expert layer's program and its idealized program are one text: the frame of the one is the frame of the other. -/
module

public import proofs.«01_k».proof.Defs
public import proofs.«01_k».proof.Proof.Routed
public import proofs.«01_k».proof.Proof.Gen.Kernel2.Launch

@[expose] public section

set_option maxRecDepth 200000

noncomputable section

namespace Cert.Proof

open Idealize.ShloMosaic Idealize.SL.Sem

variable {F : FTy → Type} [FloatOps F]

/-- The two body tables are one. -/
theorem defs0_eq : @Cert.Kernel2.defs₀ F _ Cert.Kernel2.Gen.facts = @Cert.Kernel2Ideal.defs₀ F _ Cert.Kernel2Ideal.Gen.facts := by
  unfold Cert.Kernel2.defs₀ Cert.Kernel2Ideal.defs₀
  refine congrArg Defs.onTc (funext fun l => funext fun a => ?_)
  match l, a with
  | ⟨0, _⟩, (t, s) => rfl

set_option maxHeartbeats 6000000 in
/-- The two definition tables are one. -/
theorem defs_eq : @Cert.Kernel2.defs F _ Cert.Kernel2.Gen.facts = @Cert.Kernel2Ideal.defs F _ Cert.Kernel2Ideal.Gen.facts :=
  congrArg (Pipeline.defs (Cert.Kernel2Ideal.pcfgs (F := F))) defs0_eq

theorem host0 : Cert.Kernel2.Gen.hostOps0 (F := F) = Cert.Kernel2Ideal.Gen.hostOps0 (F := F) := rfl
theorem host1 : Cert.Kernel2.Gen.hostOps0_1 (F := F) = Cert.Kernel2Ideal.Gen.hostOps0_1 (F := F) := rfl
theorem host2 : Cert.Kernel2.Gen.hostOps0_2 (F := F) = Cert.Kernel2Ideal.Gen.hostOps0_2 (F := F) := rfl
theorem host3 : Cert.Kernel2.Gen.hostOps0_3 (F := F) = Cert.Kernel2Ideal.Gen.hostOps0_3 (F := F) := rfl
theorem host4 : Cert.Kernel2.Gen.hostOps0_4 (F := F) = Cert.Kernel2Ideal.Gen.hostOps0_4 (F := F) := rfl
theorem host5 : Cert.Kernel2.Gen.hostOps0_5 (F := F) = Cert.Kernel2Ideal.Gen.hostOps0_5 (F := F) := rfl
theorem host6 : Cert.Kernel2.Gen.hostOps0_6 (F := F) = Cert.Kernel2Ideal.Gen.hostOps0_6 (F := F) := rfl
theorem host7 : Cert.Kernel2.Gen.hostOps0_7 (F := F) = Cert.Kernel2Ideal.Gen.hostOps0_7 (F := F) := rfl
theorem host8 : Cert.Kernel2.Gen.hostOps0_8 (F := F) = Cert.Kernel2Ideal.Gen.hostOps0_8 (F := F) := rfl
theorem host9 : Cert.Kernel2.Gen.hostOps0_9 (F := F) = Cert.Kernel2Ideal.Gen.hostOps0_9 (F := F) := rfl
theorem host10 : Cert.Kernel2.Gen.hostOps0_10 (F := F) = Cert.Kernel2Ideal.Gen.hostOps0_10 (F := F) := rfl

set_option maxHeartbeats 6000000 in
/-- The two programs are one. -/
theorem main_eq : @Cert.Kernel2.main F _ Cert.Kernel2.Gen.facts = @Cert.Kernel2Ideal.main F _ Cert.Kernel2Ideal.Gen.facts := by
  funext c
  refine (Cert.Kernel2.Gen.main_chain c).trans (Eq.trans ?_ (Cert.Kernel2Ideal.Gen.main_chain c).symm)
  rfl

set_option maxHeartbeats 6000000 in
/-- What a run of the one ends with, a run of the other ends with. -/
theorem same_run (s : MemSt Cert.Kernel2.nD Cert.Kernel2.τ Cert.Kernel2.sig (Elt F)) (Q : PUnit × MemSt Cert.Kernel2.nD Cert.Kernel2.τ Cert.Kernel2.sig (Elt F) → Prop)
    (h : θ_run (@Cert.Kernel2Ideal.defs F _ Cert.Kernel2Ideal.Gen.facts) (onTc (τ := Cert.Kernel2Ideal.τ) (@Cert.Kernel2Ideal.main F _ Cert.Kernel2Ideal.Gen.facts)) s Q) :
    θ_run (@Cert.Kernel2.defs F _ Cert.Kernel2.Gen.facts) (onTc (τ := Cert.Kernel2.τ) (@Cert.Kernel2.main F _ Cert.Kernel2.Gen.facts)) s Q :=
  (congrArg₂ (fun D M => θ_run D (onTc (τ := Cert.Kernel2Ideal.τ) M) s Q) defs_eq main_eq).mpr h

set_option maxHeartbeats 6000000 in
/-- The expert layer's program keeps its arguments and ends quiescent. -/
theorem frame2 : Cert.quiescent_Kernel2 (hKernel2 := Cert.Kernel2.Gen.facts) := fun m g _ =>
  same_run _ _ (Cert.Kernel2Ideal.Experts.frame_of (F := Bits) m g (Cert.Kernel2Ideal.Experts.ok m))

end Cert.Proof

end
-- ==== Proof.lean ====
module

public import proofs.«01_k».proof.Proof.Gen.Kernel2
public import proofs.«01_k».proof.Proof.Gen.Kernel2.Launch
public import proofs.«01_k».proof.Proof.Gen.Kernel2.Skeleton
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3.Launch
public import proofs.«01_k».proof.Proof.Gen.Kernel3.Points
public import proofs.«01_k».proof.Proof.Gen.Kernel3.Skeleton
public import proofs.«01_k».proof.Proof.Gen.Kernel3Ideal.Frame
public import proofs.«01_k».proof.Proof.Gen.Kernel3Ideal.Launch
public import proofs.«01_k».proof.Proof.Gen.Kernel3Ideal.Points
public import proofs.«01_k».proof.Proof.Gen.Kernel3Ideal.Skeleton
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal.Run
public import proofs.«01_k».proof.Proof.Gen.Reference3Ideal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_real_logits
public import proofs.«01_k».proof.Proof.Equation
public import proofs.«01_k».proof.Proof.Gen.Reference3Ideal
public import proofs.«01_k».proof.Proof.DenseEquation
public import proofs.«01_k».proof.Proof.Settled
public import proofs.«01_k».proof.Proof.Exact
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments as they were, and every counter at zero. -/
theorem frame_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun _ h => ⟨fun c => (h c).2, sem_eq_zero_of_no_sems (by decide) _⟩) (Cert.ReferenceIdeal.Value.run m g)

/-- The kernel, idealized, and the reference end with the same array. -/
theorem equal : Cert.algebraic_KernelIdeal_ReferenceIdeal_pre_real_logits := fun m g m' g' hp hm =>
  ⟨fun c => (Cert.KernelIdeal.Gen.dats m 0 c).arrAt 5 Cert.KernelIdeal.cfg0.N, Cert.KernelIdeal.Value.run_blocks m g,
    (θ_run _ _ _).mono (fun _ h c => ⟨(h c).1.trans (result_eq m m' hp c (hm c).1 (hm c).2.1 (hm c).2.2), (h c).2⟩) (Cert.ReferenceIdeal.Value.run m' g')⟩

/-- The naming of the mask's constant is the rule's. -/
theorem named : Cert.preserves_Kernel_KernelIdeal := IdealRules.named_const.statement Cert.KernelIdeal.κ "mask" .f32 0xF149F2CA#32 ⊥ rfl

/-- The expert layer's idealized program keeps its arguments and ends quiescent. -/
theorem frame2i : Cert.quiescent_Kernel2Ideal (hKernel2Ideal := Cert.Kernel2Ideal.Gen.facts) := fun m g _ =>
  Cert.Kernel2Ideal.Experts.frame_of m g (Cert.Kernel2Ideal.Experts.ok m)

/-- The expert layer's reference keeps its arguments and ends quiescent. -/
theorem frame_ref2 : Cert.quiescent_Reference2Ideal (hReference2Ideal := Cert.Reference2Ideal.Gen.facts) := fun m g _ =>
  (θ_run _ _ _).mono (fun _ h => ⟨fun c => (h c).2, sem_eq_zero_of_no_sems (by decide) _⟩) (Cert.Reference2Ideal.Value.run m g)

/-- The expert layer's kernel, idealized, and its reference end with the same array. -/
theorem equal2 : Cert.algebraic_Kernel2Ideal_Reference2Ideal (hKernel2Ideal := Cert.Kernel2Ideal.Gen.facts) (hReference2Ideal := Cert.Reference2Ideal.Gen.facts) := fun m g m' g' _ hm =>
  ⟨_, Cert.Kernel2Ideal.Experts.run_value m g,
    (θ_run _ _ _).mono (fun _ h c => ⟨(h c).1.trans ((Cert.Reference2Ideal.Read.val_main_v49_eq (F := Ideal) m' c).trans (by
      obtain ⟨h0, h1, h2, h3, h4, h5⟩ := hm c
      rw [h0, h1, h2, h3, h4, h5]
      obtain rfl : c = 0 := Subsingleton.elim _ _
      rfl)), (h c).2⟩) (Cert.Reference2Ideal.Value.run m' g')⟩

/-- The dense layer's reference keeps its arguments and ends quiescent. -/
theorem frame_ref3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0) :=
  (θ_run _ _ _).mono (fun _ h => ⟨fun c => (h c).2, sem_eq_zero_of_no_sems (by decide) _⟩) (Cert.Reference3Ideal.Value.run m g)

/-- The dense layer's kernel, idealized, and its reference end with the same array. -/
theorem equal3 : Cert.algebraic_Kernel3Ideal_Reference3Ideal := fun m g m' g' _ hm =>
  ⟨fun c => Cert.Kernel3Ideal.Value.G5 m c, Cert.Kernel3Ideal.Value.run m g,
    (θ_run _ _ _).mono (fun _ h c => ⟨(h c).1.trans ((Cert.Reference3Ideal.Read.val_main_v18_eq (F := Ideal) _ _ _ _ _).trans (result_eq3 m m' c (hm c).1 (hm c).2.1 (hm c).2.2.1 (hm c).2.2.2.1 (hm c).2.2.2.2)), (h c).2⟩) (Cert.Reference3Ideal.Value.run m' g')⟩

/-- Everything claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_real_logits.Gen.facts,
  fun m g _ => Cert.Kernel.Gen.frame m g, fun m g _ => Cert.KernelIdeal.Gen.frame m g, fun m g _ => Cert.KernelIdeal.Gen.frame m g,
  fun m g _ => frame_ref m g, fun m g _ => frame_ref m g,
  frame2, frame2i, frame_ref2,
  fun m g _ => Cert.Kernel3.Gen.frame m g, fun m g _ => Cert.Kernel3Ideal.Gen.frame m g, fun m g _ => frame_ref3 m g,
  named, equal, trivial, equal2, trivial, equal3⟩

end Cert.Proof

end
